-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_regular [hPre_regular : Cert.Pre_regular.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_regular.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_regular [hPre_regular : Cert.Pre_regular.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_regular.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseIdeal_pre_regular [hQuantiseIdeal : Cert.QuantiseIdeal.Facts] [hPre_regular : Cert.Pre_regular.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_regular m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def quiescent_QuantiseReferenceIdeal_pre_regular [hQuantiseReferenceIdeal : Cert.QuantiseReferenceIdeal.Facts] [hPre_regular : Cert.Pre_regular.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_regular m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "logit_scale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal_pre_regular [hQuantiseIdeal : Cert.QuantiseIdeal.Facts] [hQuantiseReferenceIdeal : Cert.QuantiseReferenceIdeal.Facts] [hPre_regular : Cert.Pre_regular.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_regular m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)) (v3 : (c : Dev Cert.QuantiseIdeal.nD) → Buf (Elt Ideal) ((c.tc : Thread Cert.QuantiseIdeal.nD Cert.QuantiseIdeal.τ).loc Cert.QuantiseIdeal.main_v0_3)) (v4 : (c : Dev Cert.QuantiseIdeal.nD) → Buf (Elt Ideal) ((c.tc : Thread Cert.QuantiseIdeal.nD Cert.QuantiseIdeal.τ).loc Cert.QuantiseIdeal.main_v0_4)) (v5 : (c : Dev Cert.QuantiseIdeal.nD) → Buf (Elt Ideal) ((c.tc : Thread Cert.QuantiseIdeal.nD Cert.QuantiseIdeal.τ).loc Cert.QuantiseIdeal.main_v0_5)) (v6 : (c : Dev Cert.QuantiseIdeal.nD) → Buf (Elt Ideal) ((c.tc : Thread Cert.QuantiseIdeal.nD Cert.QuantiseIdeal.τ).loc Cert.QuantiseIdeal.main_v0_6)) (v7 : (c : Dev Cert.QuantiseIdeal.nD) → Buf (Elt Ideal) ((c.tc : Thread Cert.QuantiseIdeal.nD Cert.QuantiseIdeal.τ).loc Cert.QuantiseIdeal.main_v0_7)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_v0_3) = v3 c
          ∧ r.2.mem ((c.tc : Thread Cert.QuantiseIdeal.nD Cert.QuantiseIdeal.τ).loc Cert.QuantiseIdeal.main_v0_4) = v4 c
          ∧ r.2.mem ((c.tc : Thread Cert.QuantiseIdeal.nD Cert.QuantiseIdeal.τ).loc Cert.QuantiseIdeal.main_v0_5) = v5 c
          ∧ r.2.mem ((c.tc : Thread Cert.QuantiseIdeal.nD Cert.QuantiseIdeal.τ).loc Cert.QuantiseIdeal.main_v0_6) = v6 c
          ∧ r.2.mem ((c.tc : Thread Cert.QuantiseIdeal.nD Cert.QuantiseIdeal.τ).loc Cert.QuantiseIdeal.main_v0_7) = v7 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_v0_2) = v2 c
          ∧ r.2.mem ((c.tc : Thread Cert.QuantiseReferenceIdeal.nD Cert.QuantiseReferenceIdeal.τ).loc Cert.QuantiseReferenceIdeal.main_v0_3) = v3 c
          ∧ r.2.mem ((c.tc : Thread Cert.QuantiseReferenceIdeal.nD Cert.QuantiseReferenceIdeal.τ).loc Cert.QuantiseReferenceIdeal.main_v0_4) = v4 c
          ∧ r.2.mem ((c.tc : Thread Cert.QuantiseReferenceIdeal.nD Cert.QuantiseReferenceIdeal.τ).loc Cert.QuantiseReferenceIdeal.main_v0_5) = v5 c
          ∧ r.2.mem ((c.tc : Thread Cert.QuantiseReferenceIdeal.nD Cert.QuantiseReferenceIdeal.τ).loc Cert.QuantiseReferenceIdeal.main_v0_6) = v6 c
          ∧ r.2.mem ((c.tc : Thread Cert.QuantiseReferenceIdeal.nD Cert.QuantiseReferenceIdeal.τ).loc Cert.QuantiseReferenceIdeal.main_v0_7) = v7 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_tame : Cert.Pre_tame.Facts) (hPre_regular : Cert.Pre_regular.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Quantise (hQuantise := hQuantise)
    ∧ quiescent_QuantiseIdeal (hQuantiseIdeal := hQuantiseIdeal)
    ∧ quiescent_QuantiseIdeal_pre_regular (hQuantiseIdeal := hQuantiseIdeal) (hPre_regular := hPre_regular)
    ∧ quiescent_QuantiseReferenceIdeal (hQuantiseReferenceIdeal := hQuantiseReferenceIdeal)
    ∧ quiescent_QuantiseReferenceIdeal_pre_regular (hQuantiseReferenceIdeal := hQuantiseReferenceIdeal) (hPre_regular := hPre_regular)
    ∧ preserves_Kernel_KernelIdeal
    ∧ algebraic_KernelIdeal_ReferenceIdeal_pre_tame (hKernelIdeal := hKernelIdeal) (hReferenceIdeal := hReferenceIdeal) (hPre_tame := hPre_tame)
    ∧ preserves_Quantise_QuantiseIdeal
    ∧ algebraic_QuantiseIdeal_QuantiseReferenceIdeal_pre_regular (hQuantiseIdeal := hQuantiseIdeal) (hQuantiseReferenceIdeal := hQuantiseReferenceIdeal) (hPre_regular := hPre_regular)
-- ==== Pre_regular.lean ====
abbrev S8x8192x2048 : Shape := ⟨3, ![8, 8192, 2048]⟩
abbrev S8x8192x512 : Shape := ⟨3, ![8, 8192, 512]⟩
abbrev S8x8192x16x128 : Shape := ⟨4, ![8, 8192, 16, 128]⟩
abbrev S_ : Shape := ⟨0, ![]⟩
abbrev S8x8192x16 : Shape := ⟨3, ![8, 8192, 16]⟩
abbrev S8x8192x4x128 : Shape := ⟨4, ![8, 8192, 4, 128]⟩
abbrev S8x8192x4 : Shape := ⟨3, ![8, 8192, 4]⟩

class Facts : Prop where
  bitsLt_bf16_f32 : FTy.bits .bf16 < FTy.bits .f32
  shapeCasts_S8x8192x2048_S8x8192x16x128 : S8x8192x2048.ShapeCasts S8x8192x16x128
  reducesTo_S8x8192x16x128_S8x8192x16_d3 : S8x8192x16x128.ReducesTo [3] S8x8192x16
  h_S_ : 0 < S_.numel
  bcast_S_S8x8192x16 : S_.BroadcastsInDim S8x8192x16 (![] : Fin 0 → Fin S8x8192x16.rank)
  reducesTo_S8x8192x16_S_d0_1_2 : S8x8192x16.ReducesTo [0, 1, 2] S_
  shapeCasts_S8x8192x512_S8x8192x4x128 : S8x8192x512.ShapeCasts S8x8192x4x128
  reducesTo_S8x8192x4x128_S8x8192x4_d3 : S8x8192x4x128.ReducesTo [3] S8x8192x4
  bcast_S_S8x8192x4 : S_.BroadcastsInDim S8x8192x4 (![] : Fin 0 → Fin S8x8192x4.rank)
  reducesTo_S8x8192x4_S_d0_1_2 : S8x8192x4.ReducesTo [0, 1, 2] S_

variable [Facts]

def fn_part2 {F : FTy → Type} [FloatOps F] (main_v30 : IVec S_ 1) (main_v34 : FVec F S8x8192x4 .f32) : IVec S_ 1 :=
  let main_cst_11 : FVec F S_ .f32 := constant S_ .f32 0x3B124925#32
  let main_v35 : FVec F S8x8192x4 .f32 := broadcastInDim S8x8192x4 ![] bcast_S_S8x8192x4 main_cst_11
  let main_v36 : FVec F S8x8192x4 .f32 := mulf main_v34 main_v35
  let main_cst_12 : FVec F S_ .f32 := constant S_ .f32 0x00800000#32
  let main_v37 : FVec F S8x8192x4 .f32 := broadcastInDim S8x8192x4 ![] bcast_S_S8x8192x4 main_cst_12
  let main_v38 : IVec S8x8192x4 1 := cmpf .oge main_v36 main_v37
  let main_cst_13 : FVec F S_ .f32 := constant S_ .f32 0x7F7FFFFF#32
  let main_v39 : FVec F S8x8192x4 .f32 := broadcastInDim S8x8192x4 ![] bcast_S_S8x8192x4 main_cst_13
  let main_v40 : IVec S8x8192x4 1 := cmpf .ole main_v34 main_v39
  let main_v41 : IVec S8x8192x4 1 := andi main_v38 main_v40
  let main_cst_14 : FVec F S_ .f32 := constant S_ .f32 0x00000000#32
  let main_v42 : FVec F S8x8192x4 .f32 := broadcastInDim S8x8192x4 ![] bcast_S_S8x8192x4 main_cst_14
  let main_v43 : IVec S8x8192x4 1 := cmpf .oeq main_v34 main_v42
  let main_v44 : IVec S8x8192x4 1 := ori main_v43 main_v41
  let main_c_15 : IVec S_ 1 := constantI S_ 1 1#1
  let main_v45 : IVec S_ 1 := (fun x v => Host.reduce IntOp.andi x v reducesTo_S8x8192x4_S_d0_1_2 h_S_) main_v44 main_c_15
  let main_v46 : IVec S_ 1 := andi main_v30 main_v45
  main_v46

def fn_part1 {F : FTy → Type} [FloatOps F] (main_arg2 : FVec F S8x8192x512 .bf16) (main_v14 : IVec S_ 1) (main_v17 : FVec F S8x8192x4x128 .f32) : IVec S_ 1 :=
  let main_cst_4 : FVec F S_ .f32 := constant S_ .f32 0xFF800000#32
  let main_v18 : FVec F S8x8192x4 .f32 := (fun x v => Host.reduce FloatOps.maximumf x v reducesTo_S8x8192x4x128_S8x8192x4_d3 h_S_) main_v17 main_cst_4
  let main_cst_5 : FVec F S_ .f32 := constant S_ .f32 0x3B124925#32
  let main_v19 : FVec F S8x8192x4 .f32 := broadcastInDim S8x8192x4 ![] bcast_S_S8x8192x4 main_cst_5
  let main_v20 : FVec F S8x8192x4 .f32 := mulf main_v18 main_v19
  let main_cst_6 : FVec F S_ .f32 := constant S_ .f32 0x00800000#32
  let main_v21 : FVec F S8x8192x4 .f32 := broadcastInDim S8x8192x4 ![] bcast_S_S8x8192x4 main_cst_6
  let main_v22 : IVec S8x8192x4 1 := cmpf .oge main_v20 main_v21
  let main_cst_7 : FVec F S_ .f32 := constant S_ .f32 0x7F7FFFFF#32
  let main_v23 : FVec F S8x8192x4 .f32 := broadcastInDim S8x8192x4 ![] bcast_S_S8x8192x4 main_cst_7
  let main_v24 : IVec S8x8192x4 1 := cmpf .ole main_v18 main_v23
  let main_v25 : IVec S8x8192x4 1 := andi main_v22 main_v24
  let main_cst_8 : FVec F S_ .f32 := constant S_ .f32 0x00000000#32
  let main_v26 : FVec F S8x8192x4 .f32 := broadcastInDim S8x8192x4 ![] bcast_S_S8x8192x4 main_cst_8
  let main_v27 : IVec S8x8192x4 1 := cmpf .oeq main_v18 main_v26
  let main_v28 : IVec S8x8192x4 1 := ori main_v27 main_v25
  let main_c_9 : IVec S_ 1 := constantI S_ 1 1#1
  let main_v29 : IVec S_ 1 := (fun x v => Host.reduce IntOp.andi x v reducesTo_S8x8192x4_S_d0_1_2 h_S_) main_v28 main_c_9
  let main_v30 : IVec S_ 1 := andi main_v14 main_v29
  let main_v31 : FVec F S8x8192x512 .f32 := (extf .f32 · bitsLt_bf16_f32) main_arg2
  let main_v32 : FVec F S8x8192x4x128 .f32 := shapeCast S8x8192x4x128 main_v31 shapeCasts_S8x8192x512_S8x8192x4x128
  let main_v33 : FVec F S8x8192x4x128 .f32 := Host.absf main_v32
  let main_cst_10 : FVec F S_ .f32 := constant S_ .f32 0xFF800000#32
  let main_v34 : FVec F S8x8192x4 .f32 := (fun x v => Host.reduce FloatOps.maximumf x v reducesTo_S8x8192x4x128_S8x8192x4_d3 h_S_) main_v33 main_cst_10
  fn_part2 (F := F) main_v30 main_v34

def fn {F : FTy → Type} [FloatOps F] (main_arg0 : FVec F S8x8192x2048 .bf16) (main_arg1 : FVec F S8x8192x512 .bf16) (main_arg2 : FVec F S8x8192x512 .bf16) : IVec S_ 1 :=
  let main_v0 : FVec F S8x8192x2048 .f32 := (extf .f32 · bitsLt_bf16_f32) main_arg0
  let main_v1 : FVec F S8x8192x16x128 .f32 := shapeCast S8x8192x16x128 main_v0 shapeCasts_S8x8192x2048_S8x8192x16x128
  let main_v2 : FVec F S8x8192x16x128 .f32 := Host.absf main_v1
  let main_cst : FVec F S_ .f32 := constant S_ .f32 0xFF800000#32
  let main_v3 : FVec F S8x8192x16 .f32 := (fun x v => Host.reduce FloatOps.maximumf x v reducesTo_S8x8192x16x128_S8x8192x16_d3 h_S_) main_v2 main_cst
  let main_cst_0 : FVec F S_ .f32 := constant S_ .f32 0x3B124925#32
  let main_v4 : FVec F S8x8192x16 .f32 := broadcastInDim S8x8192x16 ![] bcast_S_S8x8192x16 main_cst_0
  let main_v5 : FVec F S8x8192x16 .f32 := mulf main_v3 main_v4
  let main_cst_1 : FVec F S_ .f32 := constant S_ .f32 0x00800000#32
  let main_v6 : FVec F S8x8192x16 .f32 := broadcastInDim S8x8192x16 ![] bcast_S_S8x8192x16 main_cst_1
  let main_v7 : IVec S8x8192x16 1 := cmpf .oge main_v5 main_v6
  let main_cst_2 : FVec F S_ .f32 := constant S_ .f32 0x7F7FFFFF#32
  let main_v8 : FVec F S8x8192x16 .f32 := broadcastInDim S8x8192x16 ![] bcast_S_S8x8192x16 main_cst_2
  let main_v9 : IVec S8x8192x16 1 := cmpf .ole main_v3 main_v8
  let main_v10 : IVec S8x8192x16 1 := andi main_v7 main_v9
  let main_cst_3 : FVec F S_ .f32 := constant S_ .f32 0x00000000#32
  let main_v11 : FVec F S8x8192x16 .f32 := broadcastInDim S8x8192x16 ![] bcast_S_S8x8192x16 main_cst_3
  let main_v12 : IVec S8x8192x16 1 := cmpf .oeq main_v3 main_v11
  let main_v13 : IVec S8x8192x16 1 := ori main_v12 main_v10
  let main_c : IVec S_ 1 := constantI S_ 1 1#1
  let main_v14 : IVec S_ 1 := (fun x v => Host.reduce IntOp.andi x v reducesTo_S8x8192x16_S_d0_1_2 h_S_) main_v13 main_c
  let main_v15 : FVec F S8x8192x512 .f32 := (extf .f32 · bitsLt_bf16_f32) main_arg1
  let main_v16 : FVec F S8x8192x4x128 .f32 := shapeCast S8x8192x4x128 main_v15 shapeCasts_S8x8192x512_S8x8192x4x128
  let main_v17 : FVec F S8x8192x4x128 .f32 := Host.absf main_v16
  fn_part1 (F := F) main_arg2 main_v14 main_v17
-- ==== Pre_tame.lean ====
abbrev S8x8192x2048 : Shape := ⟨3, ![8, 8192, 2048]⟩
abbrev S8x16x1x8192 : Shape := ⟨4, ![8, 16, 1, 8192]⟩
abbrev S8x8192x512 : Shape := ⟨3, ![8, 8192, 512]⟩
abbrev S8x512x8192 : Shape := ⟨3, ![8, 512, 8192]⟩
abbrev S8x8192x4 : Shape := ⟨3, ![8, 8192, 4]⟩
abbrev S_ : Shape := ⟨0, ![]⟩

class Facts : Prop where
  bcast_S_S8x8192x4 : S_.BroadcastsInDim S8x8192x4 (![] : Fin 0 → Fin S8x8192x4.rank)
  reducesTo_S8x8192x4_S_d0_1_2 : S8x8192x4.ReducesTo [0, 1, 2] S_
  h_S_ : 0 < S_.numel

variable [Facts]

def fn {F : FTy → Type} [FloatOps F] (main_arg0 : FVec F S8x8192x2048 .fp8e4m3) (main_arg1 : FVec F S8x16x1x8192 .f32) (main_arg2 : FVec F S8x8192x512 .fp8e4m3) (main_arg3 : FVec F S8x512x8192 .fp8e4m3) (main_arg4 : FVec F S8x8192x4 .f32) (main_arg5 : FVec F S8x8192x4 .f32) : IVec S_ 1 :=
  let main_cst : FVec F S_ .f32 := constant S_ .f32 0x00000000#32
  let main_v0 : FVec F S8x8192x4 .f32 := broadcastInDim S8x8192x4 ![] bcast_S_S8x8192x4 main_cst
  let main_v1 : IVec S8x8192x4 1 := cmpf .oge main_arg5 main_v0
  let main_cst_0 : FVec F S_ .f32 := constant S_ .f32 0x7F7FFFFF#32
  let main_v2 : FVec F S8x8192x4 .f32 := broadcastInDim S8x8192x4 ![] bcast_S_S8x8192x4 main_cst_0
  let main_v3 : IVec S8x8192x4 1 := cmpf .ole main_arg5 main_v2
  let main_v4 : IVec S8x8192x4 1 := andi main_v1 main_v3
  let main_c : IVec S_ 1 := constantI S_ 1 1#1
  let main_v5 : IVec S_ 1 := (fun x v => Host.reduce IntOp.andi x v reducesTo_S8x8192x4_S_d0_1_2 h_S_) main_v4 main_c
  main_v5
-- ==== Kernel.lean ====
abbrev S8x8192x2048 : Shape := ⟨3, ![8, 8192, 2048]⟩
abbrev S8x16x1x8192 : Shape := ⟨4, ![8, 16, 1, 8192]⟩
abbrev S8x8192x512 : Shape := ⟨3, ![8, 8192, 512]⟩
abbrev S8x512x8192 : Shape := ⟨3, ![8, 512, 8192]⟩
abbrev S8x8192x4 : Shape := ⟨3, ![8, 8192, 4]⟩
abbrev S1x256x512 : Shape := ⟨3, ![1, 256, 512]⟩
abbrev S1x4x1x256 : Shape := ⟨4, ![1, 4, 1, 256]⟩
abbrev S1x8192x128 : Shape := ⟨3, ![1, 8192, 128]⟩
abbrev S1x128x8192 : Shape := ⟨3, ![1, 128, 8192]⟩
abbrev S1x8192x4 : Shape := ⟨3, ![1, 8192, 4]⟩
abbrev S8192x128 : Shape := ⟨2, ![8192, 128]⟩
abbrev S8192x256 : Shape := ⟨2, ![8192, 256]⟩
abbrev S32x256 : Shape := ⟨2, ![32, 256]⟩
abbrev S256x4 : Shape := ⟨2, ![256, 4]⟩
abbrev S1x256x4 : Shape := ⟨3, ![1, 256, 4]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S1x1 : Shape := ⟨2, ![1, 1]⟩
abbrev S1x1x1x256 : Shape := ⟨4, ![1, 1, 1, 256]⟩
abbrev S1x256 : Shape := ⟨2, ![1, 256]⟩
abbrev S1x256x128 : Shape := ⟨3, ![1, 256, 128]⟩
abbrev S128x256 : Shape := ⟨2, ![128, 256]⟩
abbrev S1x128x256 : Shape := ⟨3, ![1, 128, 256]⟩

abbrev nBuf : Space → Nat
  | .hbm => 7
  | .vmem => 18
  | .smem => 0
  | _ => 0

abbrev bufTy : (tb : Table) → Fin (tcTables nBuf tb) → BufTy
  | .hbm, ⟨0, _⟩ => ⟨S8x8192x2048, .fp8e4m3⟩
  | .hbm, ⟨1, _⟩ => ⟨S8x16x1x8192, .f32⟩
  | .hbm, ⟨2, _⟩ => ⟨S8x8192x512, .fp8e4m3⟩
  | .hbm, ⟨3, _⟩ => ⟨S8x512x8192, .fp8e4m3⟩
  | .hbm, ⟨4, _⟩ => ⟨S8x8192x4, .f32⟩
  | .hbm, ⟨5, _⟩ => ⟨S8x8192x4, .f32⟩
  | .hbm, ⟨6, _⟩ => ⟨S8x8192x2048, .bf16⟩
  | .local _ .vmem, ⟨0, _⟩ => ⟨S1x256x512, .fp8e4m3⟩
  | .local _ .vmem, ⟨1, _⟩ => ⟨S1x256x512, .fp8e4m3⟩
  | .local _ .vmem, ⟨2, _⟩ => ⟨S1x4x1x256, .f32⟩
  | .local _ .vmem, ⟨3, _⟩ => ⟨S1x4x1x256, .f32⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x128x8192, .fp8e4m3⟩
  | .local _ .vmem, ⟨7, _⟩ => ⟨S1x128x8192, .fp8e4m3⟩
  | .local _ .vmem, ⟨8, _⟩ => ⟨S1x8192x4, .f32⟩
  | .local _ .vmem, ⟨9, _⟩ => ⟨S1x8192x4, .f32⟩
  | .local _ .vmem, ⟨10, _⟩ => ⟨S1x8192x4, .f32⟩
  | .local _ .vmem, ⟨11, _⟩ => ⟨S1x8192x4, .f32⟩
  | .local _ .vmem, ⟨12, _⟩ => ⟨S1x256x512, .bf16⟩
  | .local _ .vmem, ⟨13, _⟩ => ⟨S1x256x512, .bf16⟩
  | .local _ .vmem, ⟨14, _⟩ => ⟨S8192x128, .f32⟩
  | .local _ .vmem, ⟨15, _⟩ => ⟨S8192x128, .f32⟩
  | .local _ .vmem, ⟨16, _⟩ => ⟨S8192x256, .f32⟩
  | .local _ .vmem, ⟨17, _⟩ => ⟨S32x256, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 32], ![false, false, false]⟩

def k0_mult1 (i : grid0.Coords) : BitVec 32 :=
  let arg2 : BitVec 32 := BitVec.ofNat 32 (i 2).val
  let c256_i32 : BitVec 32 := 256#32
  let v24 : BitVec 32 := Scalar.muli arg2 c256_i32
  v24
def k0_off1 (i : grid0.Coords) : Fin 3 → Nat :=
  let c0_11 : Index := 0#32
  let arg2 : BitVec 32 := BitVec.ofNat 32 (i 2).val
  let c256_i32 : BitVec 32 := 256#32
  let v24 : BitVec 32 := Scalar.muli arg2 c256_i32
  let v25 : BitVec 32 := v24
  let v26 : Index := Scalar.indexCast v25
  let c0_12 : Index := 0#32
  ![0, v26.toNat, 0]
def k0_off2 (i : grid0.Coords) : Fin 2 → Nat :=
  let arg2 : BitVec 32 := BitVec.ofNat 32 (i 2).val
  let c256_i32 : BitVec 32 := 256#32
  let v24 : BitVec 32 := Scalar.muli arg2 c256_i32
  let v25 : BitVec 32 := v24
  let v37 : Index := Scalar.indexCast v25
  let c0_18 : Index := 0#32
  ![v37.toNat, 0]
def k0_off3 (i : grid0.Coords) : Fin 2 → Nat :=
  let arg2 : BitVec 32 := BitVec.ofNat 32 (i 2).val
  let c256_i32 : BitVec 32 := 256#32
  let v24 : BitVec 32 := Scalar.muli arg2 c256_i32
  let v25 : BitVec 32 := v24
  let v69 : Index := Scalar.indexCast v25
  let c0_24 : Index := 0#32
  ![v69.toNat, 0]
def k0_off4 (i : grid0.Coords) : Fin 2 → Nat :=
  let arg2 : BitVec 32 := BitVec.ofNat 32 (i 2).val
  let v73 : Index := Scalar.indexCast arg2
  let c0_25 : Index := 0#32
  ![v73.toNat, 0]
@[reducible] def k0_t1_loop (i : grid0.Coords) : Scf.Loop 32 :=
  let c0_i32_26 : BitVec 32 := 0#32
  let arg2 : BitVec 32 := BitVec.ofNat 32 (i 2).val
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_28 : BitVec 32 := 1#32
  ⟨c0_i32_26, v81, c1_i32_28⟩
def k0_mult2 (i : grid0.Coords) (k0_t1 : Fin (k0_t1_loop i).trips) : BitVec 32 :=
  let arg2 : BitVec 32 := BitVec.ofNat 32 (i 2).val
  let c1_i32_256 : BitVec 32 := 1#32
  let v711 : BitVec 32 := Scalar.subi arg2 c1_i32_256
  let c0_i32_26 : BitVec 32 := 0#32
  let c1_i32_28 : BitVec 32 := 1#32
  let arg14 : BitVec 32 := Scf.iv c0_i32_26 c1_i32_28 k0_t1
  let v712 : BitVec 32 := Scalar.subi v711 arg14
  let c256_i32_257 : BitVec 32 := 256#32
  let v713 : BitVec 32 := Scalar.muli v712 c256_i32_257
  v713
def k0_off5 (i : grid0.Coords) (k0_t1 : Fin (k0_t1_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_26 : BitVec 32 := 0#32
  let c1_i32_28 : BitVec 32 := 1#32
  let arg14 : BitVec 32 := Scf.iv c0_i32_26 c1_i32_28 k0_t1
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off6 (i : grid0.Coords) (k0_t1 : Fin (k0_t1_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let c1_i32_28 : BitVec 32 := 1#32
  let arg14 : BitVec 32 := Scf.iv c0_i32_26 c1_i32_28 k0_t1
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off7 (i : grid0.Coords) (k0_t1 : Fin (k0_t1_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let c1_i32_28 : BitVec 32 := 1#32
  let arg14 : BitVec 32 := Scf.iv c0_i32_26 c1_i32_28 k0_t1
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off8 (i : grid0.Coords) (k0_t1 : Fin (k0_t1_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let c1_i32_28 : BitVec 32 := 1#32
  let arg14 : BitVec 32 := Scf.iv c0_i32_26 c1_i32_28 k0_t1
  let v712 : BitVec 32 := Scalar.subi v711 arg14
  let v759 : Index := Scalar.indexCast v712
  let c0_271 : Index := 0#32
  ![v759.toNat, 0]
@[reducible] def k0_t2_loop (i : grid0.Coords) : Scf.Loop 32 :=
  let c0_i32_26 : BitVec 32 := 0#32
  let arg2 : BitVec 32 := BitVec.ofNat 32 (i 2).val
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let v78 : BitVec 32 := Scalar.addi c0_i32_26 v77
  let c1_i32_29 : BitVec 32 := 1#32
  ⟨v81, v78, c1_i32_29⟩
def k0_mult3 (i : grid0.Coords) (k0_t2 : Fin (k0_t2_loop i).trips) : BitVec 32 :=
  let arg2 : BitVec 32 := BitVec.ofNat 32 (i 2).val
  let c1_i32_256 : BitVec 32 := 1#32
  let v711 : BitVec 32 := Scalar.subi arg2 c1_i32_256
  let c0_i32_26 : BitVec 32 := 0#32
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_29 : BitVec 32 := 1#32
  let arg14 : BitVec 32 := Scf.iv v81 c1_i32_29 k0_t2
  let v712 : BitVec 32 := Scalar.subi v711 arg14
  let c256_i32_257 : BitVec 32 := 256#32
  let v713 : BitVec 32 := Scalar.muli v712 c256_i32_257
  v713
def k0_off9 (i : grid0.Coords) (k0_t2 : Fin (k0_t2_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_26 : BitVec 32 := 0#32
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_29 : BitVec 32 := 1#32
  let arg14 : BitVec 32 := Scf.iv v81 c1_i32_29 k0_t2
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off10 (i : grid0.Coords) (k0_t2 : Fin (k0_t2_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_29 : BitVec 32 := 1#32
  let arg14 : BitVec 32 := Scf.iv v81 c1_i32_29 k0_t2
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off11 (i : grid0.Coords) (k0_t2 : Fin (k0_t2_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_29 : BitVec 32 := 1#32
  let arg14 : BitVec 32 := Scf.iv v81 c1_i32_29 k0_t2
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off12 (i : grid0.Coords) (k0_t2 : Fin (k0_t2_loop i).trips) : Fin 2 → Nat :=
  let arg2 : BitVec 32 := BitVec.ofNat 32 (i 2).val
  let c1_i32_256 : BitVec 32 := 1#32
  let v711 : BitVec 32 := Scalar.subi arg2 c1_i32_256
  let c0_i32_26 : BitVec 32 := 0#32
  let v77 : BitVec 32 := Scalar.subi arg2 c0_i32_26
  let c1_i32_27 : BitVec 32 := 1#32
  let v79 : BitVec 32 := Scalar.divsi v77 c1_i32_27
  let v80 : BitVec 32 := Scalar.muli v79 c1_i32_27
  let v81 : BitVec 32 := Scalar.addi c0_i32_26 v80
  let c1_i32_29 : BitVec 32 := 1#32
  let arg14 : BitVec 32 := Scf.iv v81 c1_i32_29 k0_t2
  let v712 : BitVec 32 := Scalar.subi v711 arg14
  let v759 : Index := Scalar.indexCast v712
  let c0_271 : Index := 0#32
  ![v759.toNat, 0]
@[reducible] def k0_t3_loop (i : grid0.Coords) : Scf.Loop 32 :=
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let c1_i32_49 : BitVec 32 := 1#32
  ⟨c0_i32_47, v168, c1_i32_49⟩
def k0_mult4 (i : grid0.Coords) (k0_t3 : Fin (k0_t3_loop i).trips) : BitVec 32 :=
  let c0_i32_47 : BitVec 32 := 0#32
  let c1_i32_49 : BitVec 32 := 1#32
  let arg14 : BitVec 32 := Scf.iv c0_i32_47 c1_i32_49 k0_t3
  let c256_i32_256 : BitVec 32 := 256#32
  let v711 : BitVec 32 := Scalar.muli arg14 c256_i32_256
  v711
def k0_off13 (i : grid0.Coords) (k0_t3 : Fin (k0_t3_loop i).trips) : Fin 2 → Nat :=
  let c0_i32_47 : BitVec 32 := 0#32
  let c1_i32_49 : BitVec 32 := 1#32
  let arg14 : BitVec 32 := Scf.iv c0_i32_47 c1_i32_49 k0_t3
  let v713 : Index := Scalar.indexCast arg14
  let c0_257 : Index := 0#32
  ![v713.toNat, 0]
def k0_off14 (i : grid0.Coords) (k0_t3 : Fin (k0_t3_loop i).trips) : Fin 2 → Nat :=
  let c0_i32_47 : BitVec 32 := 0#32
  let c1_i32_49 : BitVec 32 := 1#32
  let arg14 : BitVec 32 := Scf.iv c0_i32_47 c1_i32_49 k0_t3
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off15 (i : grid0.Coords) (k0_t3 : Fin (k0_t3_loop i).trips) : Fin 3 → Nat :=
  let c0_261 : Index := 0#32
  let c0_262 : Index := 0#32
  let c0_i32_47 : BitVec 32 := 0#32
  let c1_i32_49 : BitVec 32 := 1#32
  let arg14 : BitVec 32 := Scf.iv c0_i32_47 c1_i32_49 k0_t3
  let c256_i32_256 : BitVec 32 := 256#32
  let v711 : BitVec 32 := Scalar.muli arg14 c256_i32_256
  let v712 : BitVec 32 := v711
  let v727 : Index := Scalar.indexCast v712
  ![0, 0, v727.toNat]
@[reducible] def k0_t4_loop (i : grid0.Coords) : Scf.Loop 32 :=
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let v165 : BitVec 32 := Scalar.addi c0_i32_47 v164
  let c1_i32_50 : BitVec 32 := 1#32
  ⟨v168, v165, c1_i32_50⟩
def k0_mult5 (i : grid0.Coords) (k0_t4 : Fin (k0_t4_loop i).trips) : BitVec 32 :=
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let c1_i32_50 : BitVec 32 := 1#32
  let arg14 : BitVec 32 := Scf.iv v168 c1_i32_50 k0_t4
  let c256_i32_256 : BitVec 32 := 256#32
  let v711 : BitVec 32 := Scalar.muli arg14 c256_i32_256
  v711
def k0_off16 (i : grid0.Coords) (k0_t4 : Fin (k0_t4_loop i).trips) : Fin 2 → Nat :=
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let c1_i32_50 : BitVec 32 := 1#32
  let arg14 : BitVec 32 := Scf.iv v168 c1_i32_50 k0_t4
  let v713 : Index := Scalar.indexCast arg14
  let c0_257 : Index := 0#32
  ![v713.toNat, 0]
def k0_off17 (i : grid0.Coords) (k0_t4 : Fin (k0_t4_loop i).trips) : Fin 2 → Nat :=
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let c1_i32_50 : BitVec 32 := 1#32
  let arg14 : BitVec 32 := Scf.iv v168 c1_i32_50 k0_t4
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off18 (i : grid0.Coords) (k0_t4 : Fin (k0_t4_loop i).trips) : Fin 3 → Nat :=
  let c0_261 : Index := 0#32
  let c0_262 : Index := 0#32
  let c0_i32_47 : BitVec 32 := 0#32
  let arg2 : BitVec 32 := BitVec.ofNat 32 (i 2).val
  let c1_i32 : BitVec 32 := 1#32
  let v0 : BitVec 32 := Scalar.addi arg2 c1_i32
  let v164 : BitVec 32 := Scalar.subi v0 c0_i32_47
  let c1_i32_48 : BitVec 32 := 1#32
  let v166 : BitVec 32 := Scalar.divsi v164 c1_i32_48
  let v167 : BitVec 32 := Scalar.muli v166 c1_i32_48
  let v168 : BitVec 32 := Scalar.addi c0_i32_47 v167
  let c1_i32_50 : BitVec 32 := 1#32
  let arg14 : BitVec 32 := Scf.iv v168 c1_i32_50 k0_t4
  let c256_i32_256 : BitVec 32 := 256#32
  let v711 : BitVec 32 := Scalar.muli arg14 c256_i32_256
  let v712 : BitVec 32 := v711
  let v727 : Index := Scalar.indexCast v712
  ![0, 0, v727.toNat]
def k0_mult6 (i : grid0.Coords) : BitVec 32 :=
  let arg2 : BitVec 32 := BitVec.ofNat 32 (i 2).val
  let c256_i32_68 : BitVec 32 := 256#32
  let v200 : BitVec 32 := Scalar.muli arg2 c256_i32_68
  v200
@[reducible] def k0_t5_loop (i : grid0.Coords) : Scf.Loop 32 :=
  let c0_i32_83 : BitVec 32 := 0#32
  let arg2 : BitVec 32 := BitVec.ofNat 32 (i 2).val
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_85 : BitVec 32 := 1#32
  ⟨c0_i32_83, v257, c1_i32_85⟩
def k0_mult7 (i : grid0.Coords) (k0_t5 : Fin (k0_t5_loop i).trips) : BitVec 32 :=
  let arg2 : BitVec 32 := BitVec.ofNat 32 (i 2).val
  let c1_i32_256 : BitVec 32 := 1#32
  let v711 : BitVec 32 := Scalar.subi arg2 c1_i32_256
  let c0_i32_83 : BitVec 32 := 0#32
  let c1_i32_85 : BitVec 32 := 1#32
  let arg14 : BitVec 32 := Scf.iv c0_i32_83 c1_i32_85 k0_t5
  let v712 : BitVec 32 := Scalar.subi v711 arg14
  let c256_i32_257 : BitVec 32 := 256#32
  let v713 : BitVec 32 := Scalar.muli v712 c256_i32_257
  v713
def k0_off19 (i : grid0.Coords) (k0_t5 : Fin (k0_t5_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_83 : BitVec 32 := 0#32
  let c1_i32_85 : BitVec 32 := 1#32
  let arg14 : BitVec 32 := Scf.iv c0_i32_83 c1_i32_85 k0_t5
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off20 (i : grid0.Coords) (k0_t5 : Fin (k0_t5_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let c1_i32_85 : BitVec 32 := 1#32
  let arg14 : BitVec 32 := Scf.iv c0_i32_83 c1_i32_85 k0_t5
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off21 (i : grid0.Coords) (k0_t5 : Fin (k0_t5_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let c1_i32_85 : BitVec 32 := 1#32
  let arg14 : BitVec 32 := Scf.iv c0_i32_83 c1_i32_85 k0_t5
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off22 (i : grid0.Coords) (k0_t5 : Fin (k0_t5_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let c1_i32_85 : BitVec 32 := 1#32
  let arg14 : BitVec 32 := Scf.iv c0_i32_83 c1_i32_85 k0_t5
  let v712 : BitVec 32 := Scalar.subi v711 arg14
  let v759 : Index := Scalar.indexCast v712
  let c0_271 : Index := 0#32
  ![v759.toNat, 0]
@[reducible] def k0_t6_loop (i : grid0.Coords) : Scf.Loop 32 :=
  let c0_i32_83 : BitVec 32 := 0#32
  let arg2 : BitVec 32 := BitVec.ofNat 32 (i 2).val
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let v254 : BitVec 32 := Scalar.addi c0_i32_83 v253
  let c1_i32_86 : BitVec 32 := 1#32
  ⟨v257, v254, c1_i32_86⟩
def k0_mult8 (i : grid0.Coords) (k0_t6 : Fin (k0_t6_loop i).trips) : BitVec 32 :=
  let arg2 : BitVec 32 := BitVec.ofNat 32 (i 2).val
  let c1_i32_256 : BitVec 32 := 1#32
  let v711 : BitVec 32 := Scalar.subi arg2 c1_i32_256
  let c0_i32_83 : BitVec 32 := 0#32
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_86 : BitVec 32 := 1#32
  let arg14 : BitVec 32 := Scf.iv v257 c1_i32_86 k0_t6
  let v712 : BitVec 32 := Scalar.subi v711 arg14
  let c256_i32_257 : BitVec 32 := 256#32
  let v713 : BitVec 32 := Scalar.muli v712 c256_i32_257
  v713
def k0_off23 (i : grid0.Coords) (k0_t6 : Fin (k0_t6_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_83 : BitVec 32 := 0#32
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_86 : BitVec 32 := 1#32
  let arg14 : BitVec 32 := Scf.iv v257 c1_i32_86 k0_t6
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off24 (i : grid0.Coords) (k0_t6 : Fin (k0_t6_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_86 : BitVec 32 := 1#32
  let arg14 : BitVec 32 := Scf.iv v257 c1_i32_86 k0_t6
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off25 (i : grid0.Coords) (k0_t6 : Fin (k0_t6_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_86 : BitVec 32 := 1#32
  let arg14 : BitVec 32 := Scf.iv v257 c1_i32_86 k0_t6
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off26 (i : grid0.Coords) (k0_t6 : Fin (k0_t6_loop i).trips) : Fin 2 → Nat :=
  let arg2 : BitVec 32 := BitVec.ofNat 32 (i 2).val
  let c1_i32_256 : BitVec 32 := 1#32
  let v711 : BitVec 32 := Scalar.subi arg2 c1_i32_256
  let c0_i32_83 : BitVec 32 := 0#32
  let v253 : BitVec 32 := Scalar.subi arg2 c0_i32_83
  let c1_i32_84 : BitVec 32 := 1#32
  let v255 : BitVec 32 := Scalar.divsi v253 c1_i32_84
  let v256 : BitVec 32 := Scalar.muli v255 c1_i32_84
  let v257 : BitVec 32 := Scalar.addi c0_i32_83 v256
  let c1_i32_86 : BitVec 32 := 1#32
  let arg14 : BitVec 32 := Scf.iv v257 c1_i32_86 k0_t6
  let v712 : BitVec 32 := Scalar.subi v711 arg14
  let v759 : Index := Scalar.indexCast v712
  let c0_271 : Index := 0#32
  ![v759.toNat, 0]
@[reducible] def k0_t7_loop (i : grid0.Coords) : Scf.Loop 32 :=
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let c1_i32_116 : BitVec 32 := 1#32
  ⟨c0_i32_114, v344, c1_i32_116⟩
def k0_mult9 (i : grid0.Coords) (k0_t7 : Fin (k0_t7_loop i).trips) : BitVec 32 :=
  let c0_i32_114 : BitVec 32 := 0#32
  let c1_i32_116 : BitVec 32 := 1#32
  let arg14 : BitVec 32 := Scf.iv c0_i32_114 c1_i32_116 k0_t7
  let c256_i32_256 : BitVec 32 := 256#32
  let v711 : BitVec 32 := Scalar.muli arg14 c256_i32_256
  v711
def k0_off27 (i : grid0.Coords) (k0_t7 : Fin (k0_t7_loop i).trips) : Fin 2 → Nat :=
  let c0_i32_114 : BitVec 32 := 0#32
  let c1_i32_116 : BitVec 32 := 1#32
  let arg14 : BitVec 32 := Scf.iv c0_i32_114 c1_i32_116 k0_t7
  let v713 : Index := Scalar.indexCast arg14
  let c0_257 : Index := 0#32
  ![v713.toNat, 0]
def k0_off28 (i : grid0.Coords) (k0_t7 : Fin (k0_t7_loop i).trips) : Fin 2 → Nat :=
  let c0_i32_114 : BitVec 32 := 0#32
  let c1_i32_116 : BitVec 32 := 1#32
  let arg14 : BitVec 32 := Scf.iv c0_i32_114 c1_i32_116 k0_t7
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off29 (i : grid0.Coords) (k0_t7 : Fin (k0_t7_loop i).trips) : Fin 3 → Nat :=
  let c0_261 : Index := 0#32
  let c0_262 : Index := 0#32
  let c0_i32_114 : BitVec 32 := 0#32
  let c1_i32_116 : BitVec 32 := 1#32
  let arg14 : BitVec 32 := Scf.iv c0_i32_114 c1_i32_116 k0_t7
  let c256_i32_256 : BitVec 32 := 256#32
  let v711 : BitVec 32 := Scalar.muli arg14 c256_i32_256
  let v712 : BitVec 32 := v711
  let v727 : Index := Scalar.indexCast v712
  ![0, 0, v727.toNat]
@[reducible] def k0_t8_loop (i : grid0.Coords) : Scf.Loop 32 :=
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let v341 : BitVec 32 := Scalar.addi c0_i32_114 v340
  let c1_i32_117 : BitVec 32 := 1#32
  ⟨v344, v341, c1_i32_117⟩
def k0_mult10 (i : grid0.Coords) (k0_t8 : Fin (k0_t8_loop i).trips) : BitVec 32 :=
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let c1_i32_117 : BitVec 32 := 1#32
  let arg14 : BitVec 32 := Scf.iv v344 c1_i32_117 k0_t8
  let c256_i32_256 : BitVec 32 := 256#32
  let v711 : BitVec 32 := Scalar.muli arg14 c256_i32_256
  v711
def k0_off30 (i : grid0.Coords) (k0_t8 : Fin (k0_t8_loop i).trips) : Fin 2 → Nat :=
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let c1_i32_117 : BitVec 32 := 1#32
  let arg14 : BitVec 32 := Scf.iv v344 c1_i32_117 k0_t8
  let v713 : Index := Scalar.indexCast arg14
  let c0_257 : Index := 0#32
  ![v713.toNat, 0]
def k0_off31 (i : grid0.Coords) (k0_t8 : Fin (k0_t8_loop i).trips) : Fin 2 → Nat :=
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let c1_i32_117 : BitVec 32 := 1#32
  let arg14 : BitVec 32 := Scf.iv v344 c1_i32_117 k0_t8
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off32 (i : grid0.Coords) (k0_t8 : Fin (k0_t8_loop i).trips) : Fin 3 → Nat :=
  let c0_261 : Index := 0#32
  let c0_262 : Index := 0#32
  let c0_i32_114 : BitVec 32 := 0#32
  let arg2 : BitVec 32 := BitVec.ofNat 32 (i 2).val
  let c1_i32 : BitVec 32 := 1#32
  let v0 : BitVec 32 := Scalar.addi arg2 c1_i32
  let v340 : BitVec 32 := Scalar.subi v0 c0_i32_114
  let c1_i32_115 : BitVec 32 := 1#32
  let v342 : BitVec 32 := Scalar.divsi v340 c1_i32_115
  let v343 : BitVec 32 := Scalar.muli v342 c1_i32_115
  let v344 : BitVec 32 := Scalar.addi c0_i32_114 v343
  let c1_i32_117 : BitVec 32 := 1#32
  let arg14 : BitVec 32 := Scf.iv v344 c1_i32_117 k0_t8
  let c256_i32_256 : BitVec 32 := 256#32
  let v711 : BitVec 32 := Scalar.muli arg14 c256_i32_256
  let v712 : BitVec 32 := v711
  let v727 : Index := Scalar.indexCast v712
  ![0, 0, v727.toNat]
def k0_mult11 (i : grid0.Coords) : BitVec 32 :=
  let arg2 : BitVec 32 := BitVec.ofNat 32 (i 2).val
  let c256_i32_135 : BitVec 32 := 256#32
  let v376 : BitVec 32 := Scalar.muli arg2 c256_i32_135
  v376
@[reducible] def k0_t9_loop (i : grid0.Coords) : Scf.Loop 32 :=
  let c0_i32_150 : BitVec 32 := 0#32
  let arg2 : BitVec 32 := BitVec.ofNat 32 (i 2).val
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_152 : BitVec 32 := 1#32
  ⟨c0_i32_150, v433, c1_i32_152⟩
def k0_mult12 (i : grid0.Coords) (k0_t9 : Fin (k0_t9_loop i).trips) : BitVec 32 :=
  let arg2 : BitVec 32 := BitVec.ofNat 32 (i 2).val
  let c1_i32_256 : BitVec 32 := 1#32
  let v711 : BitVec 32 := Scalar.subi arg2 c1_i32_256
  let c0_i32_150 : BitVec 32 := 0#32
  let c1_i32_152 : BitVec 32 := 1#32
  let arg14 : BitVec 32 := Scf.iv c0_i32_150 c1_i32_152 k0_t9
  let v712 : BitVec 32 := Scalar.subi v711 arg14
  let c256_i32_257 : BitVec 32 := 256#32
  let v713 : BitVec 32 := Scalar.muli v712 c256_i32_257
  v713
def k0_off33 (i : grid0.Coords) (k0_t9 : Fin (k0_t9_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_150 : BitVec 32 := 0#32
  let c1_i32_152 : BitVec 32 := 1#32
  let arg14 : BitVec 32 := Scf.iv c0_i32_150 c1_i32_152 k0_t9
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off34 (i : grid0.Coords) (k0_t9 : Fin (k0_t9_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let c1_i32_152 : BitVec 32 := 1#32
  let arg14 : BitVec 32 := Scf.iv c0_i32_150 c1_i32_152 k0_t9
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off35 (i : grid0.Coords) (k0_t9 : Fin (k0_t9_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let c1_i32_152 : BitVec 32 := 1#32
  let arg14 : BitVec 32 := Scf.iv c0_i32_150 c1_i32_152 k0_t9
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off36 (i : grid0.Coords) (k0_t9 : Fin (k0_t9_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let c1_i32_152 : BitVec 32 := 1#32
  let arg14 : BitVec 32 := Scf.iv c0_i32_150 c1_i32_152 k0_t9
  let v712 : BitVec 32 := Scalar.subi v711 arg14
  let v759 : Index := Scalar.indexCast v712
  let c0_271 : Index := 0#32
  ![v759.toNat, 0]
@[reducible] def k0_t10_loop (i : grid0.Coords) : Scf.Loop 32 :=
  let c0_i32_150 : BitVec 32 := 0#32
  let arg2 : BitVec 32 := BitVec.ofNat 32 (i 2).val
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let v430 : BitVec 32 := Scalar.addi c0_i32_150 v429
  let c1_i32_153 : BitVec 32 := 1#32
  ⟨v433, v430, c1_i32_153⟩
def k0_mult13 (i : grid0.Coords) (k0_t10 : Fin (k0_t10_loop i).trips) : BitVec 32 :=
  let arg2 : BitVec 32 := BitVec.ofNat 32 (i 2).val
  let c1_i32_256 : BitVec 32 := 1#32
  let v711 : BitVec 32 := Scalar.subi arg2 c1_i32_256
  let c0_i32_150 : BitVec 32 := 0#32
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_153 : BitVec 32 := 1#32
  let arg14 : BitVec 32 := Scf.iv v433 c1_i32_153 k0_t10
  let v712 : BitVec 32 := Scalar.subi v711 arg14
  let c256_i32_257 : BitVec 32 := 256#32
  let v713 : BitVec 32 := Scalar.muli v712 c256_i32_257
  v713
def k0_off37 (i : grid0.Coords) (k0_t10 : Fin (k0_t10_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_150 : BitVec 32 := 0#32
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_153 : BitVec 32 := 1#32
  let arg14 : BitVec 32 := Scf.iv v433 c1_i32_153 k0_t10
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off38 (i : grid0.Coords) (k0_t10 : Fin (k0_t10_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_153 : BitVec 32 := 1#32
  let arg14 : BitVec 32 := Scf.iv v433 c1_i32_153 k0_t10
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off39 (i : grid0.Coords) (k0_t10 : Fin (k0_t10_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_153 : BitVec 32 := 1#32
  let arg14 : BitVec 32 := Scf.iv v433 c1_i32_153 k0_t10
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off40 (i : grid0.Coords) (k0_t10 : Fin (k0_t10_loop i).trips) : Fin 2 → Nat :=
  let arg2 : BitVec 32 := BitVec.ofNat 32 (i 2).val
  let c1_i32_256 : BitVec 32 := 1#32
  let v711 : BitVec 32 := Scalar.subi arg2 c1_i32_256
  let c0_i32_150 : BitVec 32 := 0#32
  let v429 : BitVec 32 := Scalar.subi arg2 c0_i32_150
  let c1_i32_151 : BitVec 32 := 1#32
  let v431 : BitVec 32 := Scalar.divsi v429 c1_i32_151
  let v432 : BitVec 32 := Scalar.muli v431 c1_i32_151
  let v433 : BitVec 32 := Scalar.addi c0_i32_150 v432
  let c1_i32_153 : BitVec 32 := 1#32
  let arg14 : BitVec 32 := Scf.iv v433 c1_i32_153 k0_t10
  let v712 : BitVec 32 := Scalar.subi v711 arg14
  let v759 : Index := Scalar.indexCast v712
  let c0_271 : Index := 0#32
  ![v759.toNat, 0]
@[reducible] def k0_t11_loop (i : grid0.Coords) : Scf.Loop 32 :=
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let c1_i32_183 : BitVec 32 := 1#32
  ⟨c0_i32_181, v520, c1_i32_183⟩
def k0_mult14 (i : grid0.Coords) (k0_t11 : Fin (k0_t11_loop i).trips) : BitVec 32 :=
  let c0_i32_181 : BitVec 32 := 0#32
  let c1_i32_183 : BitVec 32 := 1#32
  let arg14 : BitVec 32 := Scf.iv c0_i32_181 c1_i32_183 k0_t11
  let c256_i32_256 : BitVec 32 := 256#32
  let v711 : BitVec 32 := Scalar.muli arg14 c256_i32_256
  v711
def k0_off41 (i : grid0.Coords) (k0_t11 : Fin (k0_t11_loop i).trips) : Fin 2 → Nat :=
  let c0_i32_181 : BitVec 32 := 0#32
  let c1_i32_183 : BitVec 32 := 1#32
  let arg14 : BitVec 32 := Scf.iv c0_i32_181 c1_i32_183 k0_t11
  let v713 : Index := Scalar.indexCast arg14
  let c0_257 : Index := 0#32
  ![v713.toNat, 0]
def k0_off42 (i : grid0.Coords) (k0_t11 : Fin (k0_t11_loop i).trips) : Fin 2 → Nat :=
  let c0_i32_181 : BitVec 32 := 0#32
  let c1_i32_183 : BitVec 32 := 1#32
  let arg14 : BitVec 32 := Scf.iv c0_i32_181 c1_i32_183 k0_t11
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off43 (i : grid0.Coords) (k0_t11 : Fin (k0_t11_loop i).trips) : Fin 3 → Nat :=
  let c0_261 : Index := 0#32
  let c0_262 : Index := 0#32
  let c0_i32_181 : BitVec 32 := 0#32
  let c1_i32_183 : BitVec 32 := 1#32
  let arg14 : BitVec 32 := Scf.iv c0_i32_181 c1_i32_183 k0_t11
  let c256_i32_256 : BitVec 32 := 256#32
  let v711 : BitVec 32 := Scalar.muli arg14 c256_i32_256
  let v712 : BitVec 32 := v711
  let v727 : Index := Scalar.indexCast v712
  ![0, 0, v727.toNat]
@[reducible] def k0_t12_loop (i : grid0.Coords) : Scf.Loop 32 :=
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let v517 : BitVec 32 := Scalar.addi c0_i32_181 v516
  let c1_i32_184 : BitVec 32 := 1#32
  ⟨v520, v517, c1_i32_184⟩
def k0_mult15 (i : grid0.Coords) (k0_t12 : Fin (k0_t12_loop i).trips) : BitVec 32 :=
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let c1_i32_184 : BitVec 32 := 1#32
  let arg14 : BitVec 32 := Scf.iv v520 c1_i32_184 k0_t12
  let c256_i32_256 : BitVec 32 := 256#32
  let v711 : BitVec 32 := Scalar.muli arg14 c256_i32_256
  v711
def k0_off44 (i : grid0.Coords) (k0_t12 : Fin (k0_t12_loop i).trips) : Fin 2 → Nat :=
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let c1_i32_184 : BitVec 32 := 1#32
  let arg14 : BitVec 32 := Scf.iv v520 c1_i32_184 k0_t12
  let v713 : Index := Scalar.indexCast arg14
  let c0_257 : Index := 0#32
  ![v713.toNat, 0]
def k0_off45 (i : grid0.Coords) (k0_t12 : Fin (k0_t12_loop i).trips) : Fin 2 → Nat :=
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let c1_i32_184 : BitVec 32 := 1#32
  let arg14 : BitVec 32 := Scf.iv v520 c1_i32_184 k0_t12
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off46 (i : grid0.Coords) (k0_t12 : Fin (k0_t12_loop i).trips) : Fin 3 → Nat :=
  let c0_261 : Index := 0#32
  let c0_262 : Index := 0#32
  let c0_i32_181 : BitVec 32 := 0#32
  let arg2 : BitVec 32 := BitVec.ofNat 32 (i 2).val
  let c1_i32 : BitVec 32 := 1#32
  let v0 : BitVec 32 := Scalar.addi arg2 c1_i32
  let v516 : BitVec 32 := Scalar.subi v0 c0_i32_181
  let c1_i32_182 : BitVec 32 := 1#32
  let v518 : BitVec 32 := Scalar.divsi v516 c1_i32_182
  let v519 : BitVec 32 := Scalar.muli v518 c1_i32_182
  let v520 : BitVec 32 := Scalar.addi c0_i32_181 v519
  let c1_i32_184 : BitVec 32 := 1#32
  let arg14 : BitVec 32 := Scf.iv v520 c1_i32_184 k0_t12
  let c256_i32_256 : BitVec 32 := 256#32
  let v711 : BitVec 32 := Scalar.muli arg14 c256_i32_256
  let v712 : BitVec 32 := v711
  let v727 : Index := Scalar.indexCast v712
  ![0, 0, v727.toNat]
def k0_mult16 (i : grid0.Coords) : BitVec 32 :=
  let arg2 : BitVec 32 := BitVec.ofNat 32 (i 2).val
  let c256_i32_201 : BitVec 32 := 256#32
  let v552 : BitVec 32 := Scalar.muli arg2 c256_i32_201
  v552
@[reducible] def k0_t13_loop (i : grid0.Coords) : Scf.Loop 32 :=
  let c0_i32_216 : BitVec 32 := 0#32
  let arg2 : BitVec 32 := BitVec.ofNat 32 (i 2).val
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_218 : BitVec 32 := 1#32
  ⟨c0_i32_216, v609, c1_i32_218⟩
def k0_mult17 (i : grid0.Coords) (k0_t13 : Fin (k0_t13_loop i).trips) : BitVec 32 :=
  let arg2 : BitVec 32 := BitVec.ofNat 32 (i 2).val
  let c1_i32_256 : BitVec 32 := 1#32
  let v711 : BitVec 32 := Scalar.subi arg2 c1_i32_256
  let c0_i32_216 : BitVec 32 := 0#32
  let c1_i32_218 : BitVec 32 := 1#32
  let arg14 : BitVec 32 := Scf.iv c0_i32_216 c1_i32_218 k0_t13
  let v712 : BitVec 32 := Scalar.subi v711 arg14
  let c256_i32_257 : BitVec 32 := 256#32
  let v713 : BitVec 32 := Scalar.muli v712 c256_i32_257
  v713
def k0_off47 (i : grid0.Coords) (k0_t13 : Fin (k0_t13_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_216 : BitVec 32 := 0#32
  let c1_i32_218 : BitVec 32 := 1#32
  let arg14 : BitVec 32 := Scf.iv c0_i32_216 c1_i32_218 k0_t13
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off48 (i : grid0.Coords) (k0_t13 : Fin (k0_t13_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let c1_i32_218 : BitVec 32 := 1#32
  let arg14 : BitVec 32 := Scf.iv c0_i32_216 c1_i32_218 k0_t13
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off49 (i : grid0.Coords) (k0_t13 : Fin (k0_t13_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let c1_i32_218 : BitVec 32 := 1#32
  let arg14 : BitVec 32 := Scf.iv c0_i32_216 c1_i32_218 k0_t13
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off50 (i : grid0.Coords) (k0_t13 : Fin (k0_t13_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let c1_i32_218 : BitVec 32 := 1#32
  let arg14 : BitVec 32 := Scf.iv c0_i32_216 c1_i32_218 k0_t13
  let v712 : BitVec 32 := Scalar.subi v711 arg14
  let v759 : Index := Scalar.indexCast v712
  let c0_271 : Index := 0#32
  ![v759.toNat, 0]
@[reducible] def k0_t14_loop (i : grid0.Coords) : Scf.Loop 32 :=
  let c0_i32_216 : BitVec 32 := 0#32
  let arg2 : BitVec 32 := BitVec.ofNat 32 (i 2).val
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let v606 : BitVec 32 := Scalar.addi c0_i32_216 v605
  let c1_i32_219 : BitVec 32 := 1#32
  ⟨v609, v606, c1_i32_219⟩
def k0_mult18 (i : grid0.Coords) (k0_t14 : Fin (k0_t14_loop i).trips) : BitVec 32 :=
  let arg2 : BitVec 32 := BitVec.ofNat 32 (i 2).val
  let c1_i32_256 : BitVec 32 := 1#32
  let v711 : BitVec 32 := Scalar.subi arg2 c1_i32_256
  let c0_i32_216 : BitVec 32 := 0#32
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_219 : BitVec 32 := 1#32
  let arg14 : BitVec 32 := Scf.iv v609 c1_i32_219 k0_t14
  let v712 : BitVec 32 := Scalar.subi v711 arg14
  let c256_i32_257 : BitVec 32 := 256#32
  let v713 : BitVec 32 := Scalar.muli v712 c256_i32_257
  v713
def k0_off51 (i : grid0.Coords) (k0_t14 : Fin (k0_t14_loop i).trips) : Fin 3 → Nat :=
  let c0_258 : Index := 0#32
  let arg2 : BitVec 32 := BitVec.ofNat 32 (i 2).val
  let c1_i32_256 : BitVec 32 := 1#32
  let v711 : BitVec 32 := Scalar.subi arg2 c1_i32_256
  let c0_i32_216 : BitVec 32 := 0#32
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_219 : BitVec 32 := 1#32
  let arg14 : BitVec 32 := Scf.iv v609 c1_i32_219 k0_t14
  let v712 : BitVec 32 := Scalar.subi v711 arg14
  let c256_i32_257 : BitVec 32 := 256#32
  let v713 : BitVec 32 := Scalar.muli v712 c256_i32_257
  let v714 : BitVec 32 := v713
  let v715 : Index := Scalar.indexCast v714
  let c0_259 : Index := 0#32
  ![0, v715.toNat, 0]
def k0_off52 (i : grid0.Coords) (k0_t14 : Fin (k0_t14_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_219 : BitVec 32 := 1#32
  let arg14 : BitVec 32 := Scf.iv v609 c1_i32_219 k0_t14
  let v712 : BitVec 32 := Scalar.subi v711 arg14
  let c256_i32_257 : BitVec 32 := 256#32
  let v713 : BitVec 32 := Scalar.muli v712 c256_i32_257
  let v714 : BitVec 32 := v713
  let v726 : Index := Scalar.indexCast v714
  let c0_265 : Index := 0#32
  ![v726.toNat, 0]
def k0_off53 (i : grid0.Coords) (k0_t14 : Fin (k0_t14_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_219 : BitVec 32 := 1#32
  let arg14 : BitVec 32 := Scf.iv v609 c1_i32_219 k0_t14
  let v712 : BitVec 32 := Scalar.subi v711 arg14
  let c256_i32_257 : BitVec 32 := 256#32
  let v713 : BitVec 32 := Scalar.muli v712 c256_i32_257
  let v714 : BitVec 32 := v713
  let v755 : Index := Scalar.indexCast v714
  let c0_270 : Index := 0#32
  ![v755.toNat, 0]
def k0_off54 (i : grid0.Coords) (k0_t14 : Fin (k0_t14_loop i).trips) : Fin 2 → Nat :=
  let arg2 : BitVec 32 := BitVec.ofNat 32 (i 2).val
  let c1_i32_256 : BitVec 32 := 1#32
  let v711 : BitVec 32 := Scalar.subi arg2 c1_i32_256
  let c0_i32_216 : BitVec 32 := 0#32
  let v605 : BitVec 32 := Scalar.subi arg2 c0_i32_216
  let c1_i32_217 : BitVec 32 := 1#32
  let v607 : BitVec 32 := Scalar.divsi v605 c1_i32_217
  let v608 : BitVec 32 := Scalar.muli v607 c1_i32_217
  let v609 : BitVec 32 := Scalar.addi c0_i32_216 v608
  let c1_i32_219 : BitVec 32 := 1#32
  let arg14 : BitVec 32 := Scf.iv v609 c1_i32_219 k0_t14
  let v712 : BitVec 32 := Scalar.subi v711 arg14
  let v759 : Index := Scalar.indexCast v712
  let c0_271 : Index := 0#32
  ![v759.toNat, 0]
@[reducible] def k0_t15_loop (i : grid0.Coords) : Scf.Loop 32 :=
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let c1_i32_249 : BitVec 32 := 1#32
  ⟨c0_i32_247, v696, c1_i32_249⟩
def k0_mult19 (i : grid0.Coords) (k0_t15 : Fin (k0_t15_loop i).trips) : BitVec 32 :=
  let c0_i32_247 : BitVec 32 := 0#32
  let c1_i32_249 : BitVec 32 := 1#32
  let arg14 : BitVec 32 := Scf.iv c0_i32_247 c1_i32_249 k0_t15
  let c256_i32_256 : BitVec 32 := 256#32
  let v711 : BitVec 32 := Scalar.muli arg14 c256_i32_256
  v711
def k0_off55 (i : grid0.Coords) (k0_t15 : Fin (k0_t15_loop i).trips) : Fin 2 → Nat :=
  let c0_i32_247 : BitVec 32 := 0#32
  let c1_i32_249 : BitVec 32 := 1#32
  let arg14 : BitVec 32 := Scf.iv c0_i32_247 c1_i32_249 k0_t15
  let v713 : Index := Scalar.indexCast arg14
  let c0_257 : Index := 0#32
  ![v713.toNat, 0]
def k0_off56 (i : grid0.Coords) (k0_t15 : Fin (k0_t15_loop i).trips) : Fin 2 → Nat :=
  let c0_i32_247 : BitVec 32 := 0#32
  let c1_i32_249 : BitVec 32 := 1#32
  let arg14 : BitVec 32 := Scf.iv c0_i32_247 c1_i32_249 k0_t15
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off57 (i : grid0.Coords) (k0_t15 : Fin (k0_t15_loop i).trips) : Fin 3 → Nat :=
  let c0_261 : Index := 0#32
  let c0_262 : Index := 0#32
  let c0_i32_247 : BitVec 32 := 0#32
  let c1_i32_249 : BitVec 32 := 1#32
  let arg14 : BitVec 32 := Scf.iv c0_i32_247 c1_i32_249 k0_t15
  let c256_i32_256 : BitVec 32 := 256#32
  let v711 : BitVec 32 := Scalar.muli arg14 c256_i32_256
  let v712 : BitVec 32 := v711
  let v727 : Index := Scalar.indexCast v712
  ![0, 0, v727.toNat]
@[reducible] def k0_t16_loop (i : grid0.Coords) : Scf.Loop 32 :=
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let v693 : BitVec 32 := Scalar.addi c0_i32_247 v692
  let c1_i32_250 : BitVec 32 := 1#32
  ⟨v696, v693, c1_i32_250⟩
def k0_mult20 (i : grid0.Coords) (k0_t16 : Fin (k0_t16_loop i).trips) : BitVec 32 :=
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let c1_i32_250 : BitVec 32 := 1#32
  let arg14 : BitVec 32 := Scf.iv v696 c1_i32_250 k0_t16
  let c256_i32_256 : BitVec 32 := 256#32
  let v711 : BitVec 32 := Scalar.muli arg14 c256_i32_256
  v711
def k0_off58 (i : grid0.Coords) (k0_t16 : Fin (k0_t16_loop i).trips) : Fin 2 → Nat :=
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let c1_i32_250 : BitVec 32 := 1#32
  let arg14 : BitVec 32 := Scf.iv v696 c1_i32_250 k0_t16
  let v713 : Index := Scalar.indexCast arg14
  let c0_257 : Index := 0#32
  ![v713.toNat, 0]
def k0_off59 (i : grid0.Coords) (k0_t16 : Fin (k0_t16_loop i).trips) : Fin 2 → Nat :=
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let c1_i32_250 : BitVec 32 := 1#32
  let arg14 : BitVec 32 := Scf.iv v696 c1_i32_250 k0_t16
  let c256_i32_256 : BitVec 32 := 256#32
  let v711 : BitVec 32 := Scalar.muli arg14 c256_i32_256
  let v712 : BitVec 32 := v711
  let v718 : Index := Scalar.indexCast v712
  let c0_258 : Index := 0#32
  ![v718.toNat, 0]
def k0_off60 (i : grid0.Coords) (k0_t16 : Fin (k0_t16_loop i).trips) : Fin 3 → Nat :=
  let c0_261 : Index := 0#32
  let c0_262 : Index := 0#32
  let c0_i32_247 : BitVec 32 := 0#32
  let arg2 : BitVec 32 := BitVec.ofNat 32 (i 2).val
  let c1_i32 : BitVec 32 := 1#32
  let v0 : BitVec 32 := Scalar.addi arg2 c1_i32
  let v692 : BitVec 32 := Scalar.subi v0 c0_i32_247
  let c1_i32_248 : BitVec 32 := 1#32
  let v694 : BitVec 32 := Scalar.divsi v692 c1_i32_248
  let v695 : BitVec 32 := Scalar.muli v694 c1_i32_248
  let v696 : BitVec 32 := Scalar.addi c0_i32_247 v695
  let c1_i32_250 : BitVec 32 := 1#32
  let arg14 : BitVec 32 := Scf.iv v696 c1_i32_250 k0_t16
  let c256_i32_256 : BitVec 32 := 256#32
  let v711 : BitVec 32 := Scalar.muli arg14 c256_i32_256
  let v712 : BitVec 32 := v711
  let v727 : Index := Scalar.indexCast v712
  ![0, 0, v727.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8192x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "logit_scale" => some (((Real.sqrt 128)⁻¹ * (Real.log 2)⁻¹ : ℝ) : EReal)
  | "mask" => some ⊥
  | _ => none
-- ==== ReferenceIdeal.lean ====
abbrev S8x8192x2048 : Shape := ⟨3, ![8, 8192, 2048]⟩
abbrev S8x16x1x8192 : Shape := ⟨4, ![8, 16, 1, 8192]⟩
abbrev S8x8192x512 : Shape := ⟨3, ![8, 8192, 512]⟩
abbrev S8x512x8192 : Shape := ⟨3, ![8, 512, 8192]⟩
abbrev S8x8192x4 : Shape := ⟨3, ![8, 8192, 4]⟩
abbrev S8x8192x4x4x128 : Shape := ⟨5, ![8, 8192, 4, 4, 128]⟩
abbrev S8x4x4x8192x128 : Shape := ⟨5, ![8, 4, 4, 8192, 128]⟩
abbrev S8x4x4x8192 : Shape := ⟨4, ![8, 4, 4, 8192]⟩
abbrev S8x8192x4x128 : Shape := ⟨4, ![8, 8192, 4, 128]⟩
abbrev S8x4x8192x128 : Shape := ⟨4, ![8, 4, 8192, 128]⟩
abbrev S8x4x128x8192 : Shape := ⟨4, ![8, 4, 128, 8192]⟩
abbrev S8x4x8192 : Shape := ⟨3, ![8, 4, 8192]⟩
abbrev S8x4x1x1x8192 : Shape := ⟨5, ![8, 4, 1, 1, 8192]⟩
abbrev S16 : Shape := ⟨1, ![16]⟩
abbrev S_ : Shape := ⟨0, ![]⟩
abbrev S4x4 : Shape := ⟨2, ![4, 4]⟩
abbrev S4x4x1x1 : Shape := ⟨4, ![4, 4, 1, 1]⟩
abbrev S8x4x4x8192x8192 : Shape := ⟨5, ![8, 4, 4, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x4x4x8192x1 : Shape := ⟨5, ![8, 4, 4, 8192, 1]⟩
abbrev S1x1x8192x8192 : Shape := ⟨4, ![1, 1, 8192, 8192]⟩
abbrev S4x4x8192x8192 : Shape := ⟨4, ![4, 4, 8192, 8192]⟩
abbrev S1x4x4x8192x8192 : Shape := ⟨5, ![1, 4, 4, 8192, 8192]⟩

abbrev nBuf : Space → Nat
  | .hbm => 137
  | .vmem => 6
  | .smem => 0
  | _ => 0

abbrev hbmTy0_0 (i : Nat) : BufTy := match i % 128 with
  | 0 => ⟨S8x8192x2048, .fp8e4m3⟩
  | 1 => ⟨S8x16x1x8192, .f32⟩
  | 2 => ⟨S8x8192x512, .fp8e4m3⟩
  | 3 => ⟨S8x512x8192, .fp8e4m3⟩
  | 4 => ⟨S8x8192x4, .f32⟩
  | 5 => ⟨S8x8192x4, .f32⟩
  | 6 => ⟨S8x8192x2048, .f32⟩
  | 7 => ⟨S8x8192x512, .f32⟩
  | 8 => ⟨S8x512x8192, .f32⟩
  | 9 => ⟨S8x8192x4x4x128, .f32⟩
  | 10 => ⟨S8x4x4x8192x128, .f32⟩
  | 11 => ⟨S8x4x4x8192, .f32⟩
  | 12 => ⟨S8x8192x4x128, .f32⟩
  | 13 => ⟨S8x4x8192x128, .f32⟩
  | 14 => ⟨S8x4x128x8192, .f32⟩
  | 15 => ⟨S8x4x8192x128, .f32⟩
  | 16 => ⟨S8x4x8192, .f32⟩
  | 17 => ⟨S8x4x1x1x8192, .f32⟩
  | 18 => ⟨S8x4x8192, .f32⟩
  | 19 => ⟨S8x4x1x1x8192, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S_, .f32⟩
  | 32 => ⟨S16, .f32⟩
  | 33 => ⟨S16, .f32⟩
  | 34 => ⟨S16, .f32⟩
  | 35 => ⟨S4x4, .f32⟩
  | 36 => ⟨S4x4x1x1, .f32⟩
  | 37 => ⟨S8x4x4x8192x8192, .f32⟩
  | 38 => ⟨S8192, .i32⟩
  | 39 => ⟨S8192x1, .i32⟩
  | 40 => ⟨S8192, .i32⟩
  | 41 => ⟨S1x8192, .i32⟩
  | 42 => ⟨S8192x8192, .i32⟩
  | 43 => ⟨S8192x8192, .i32⟩
  | 44 => ⟨S8192x8192, .i32⟩
  | 45 => ⟨S8192x8192, .f32⟩
  | 46 => ⟨S8x4x4x8192x1, .f32⟩
  | 47 => ⟨S_, .f32⟩
  | 48 => ⟨S_, .f32⟩
  | 49 => ⟨S8x4x4x8192x1, .f32⟩
  | 50 => ⟨S8x4x4x8192x1, .f32⟩
  | 51 => ⟨S8x4x4x8192x8192, .f32⟩
  | 52 => ⟨S8x4x4x8192x8192, .f32⟩
  | 53 => ⟨S8x4x4x8192x8192, .f32⟩
  | 54 => ⟨S8x4x4x8192x8192, .f32⟩
  | 55 => ⟨S1x1x8192x8192, .f32⟩
  | 56 => ⟨S4x4x8192x8192, .f32⟩
  | 57 => ⟨S4x4x8192x8192, .f32⟩
  | 58 => ⟨S4x4x8192x8192, .f32⟩
  | 59 => ⟨S1x4x4x8192x8192, .f32⟩
  | 60 => ⟨S8x4x4x8192x8192, .f32⟩
  | 61 => ⟨S8x4x4x8192x8192, .f32⟩
  | 62 => ⟨S_, .f32⟩
  | 63 => ⟨S8192x8192, .f32⟩
  | 64 => ⟨S8192x8192, .i1⟩
  | 65 => ⟨S_, .f32⟩
  | 66 => ⟨S_, .f32⟩
  | 67 => ⟨S8x4x4x8192x8192, .i1⟩
  | 68 => ⟨S8x4x4x8192x8192, .f32⟩
  | 69 => ⟨S8x4x4x8192x8192, .f32⟩
  | 70 => ⟨S_, .f32⟩
  | 71 => ⟨S8x4x4x8192, .f32⟩
  | 72 => ⟨S_, .f32⟩
  | 73 => ⟨S8x4x4x8192, .f32⟩
  | 74 => ⟨S8x4x4x8192, .f32⟩
  | 75 => ⟨S8x4x4x8192x1, .f32⟩
  | 76 => ⟨S8x4x4x8192x8192, .f32⟩
  | 77 => ⟨S8x4x4x8192x8192, .f32⟩
  | 78 => ⟨S8x4x4x8192x8192, .f32⟩
  | 79 => ⟨S_, .f32⟩
  | 80 => ⟨S8x4x4x8192, .f32⟩
  | 81 => ⟨S8x4x4x8192x1, .f32⟩
  | 82 => ⟨S8x4x4x8192x8192, .f32⟩
  | 83 => ⟨S8x4x4x8192x8192, .f32⟩
  | 84 => ⟨S8x4x4x8192x8192, .f32⟩
  | 85 => ⟨S8x4x4x8192x8192, .f32⟩
  | 86 => ⟨S8x4x4x8192x8192, .f32⟩
  | 87 => ⟨S_, .f32⟩
  | 88 => ⟨S8x4x4x8192, .f32⟩
  | 89 => ⟨S_, .f32⟩
  | 90 => ⟨S8x4x4x8192, .f32⟩
  | 91 => ⟨S8x4x4x8192, .f32⟩
  | 92 => ⟨S8x4x4x8192, .f32⟩
  | 93 => ⟨S_, .f32⟩
  | 94 => ⟨S_, .f32⟩
  | 95 => ⟨S8x4x4x8192, .f32⟩
  | 96 => ⟨S8x4x4x8192, .f32⟩
  | 97 => ⟨S8x4x4x8192, .f32⟩
  | 98 => ⟨S_, .f32⟩
  | 99 => ⟨S8x4x4x8192, .f32⟩
  | 100 => ⟨S8x4x4x8192, .f32⟩
  | 101 => ⟨S_, .f32⟩
  | 102 => ⟨S8x4x4x8192, .f32⟩
  | 103 => ⟨S8x4x4x8192, .i1⟩
  | 104 => ⟨S_, .f32⟩
  | 105 => ⟨S_, .f32⟩
  | 106 => ⟨S8x4x4x8192, .f32⟩
  | 107 => ⟨S8x4x4x8192, .f32⟩
  | 108 => ⟨S8x4x4x8192, .f32⟩
  | 109 => ⟨S_, .f32⟩
  | 110 => ⟨S_, .f32⟩
  | 111 => ⟨S8x4x4x8192, .f32⟩
  | 112 => ⟨S8x4x4x8192, .f32⟩
  | 113 => ⟨S8x4x4x8192, .f32⟩
  | 114 => ⟨S8x4x4x8192x1, .f32⟩
  | 115 => ⟨S8x4x4x8192x8192, .f32⟩
  | 116 => ⟨S8x4x4x8192x8192, .f32⟩
  | 117 => ⟨S_, .f32⟩
  | 118 => ⟨S_, .f32⟩
  | 119 => ⟨S_, .f32⟩
  | 120 => ⟨S8x4x4x8192x8192, .f32⟩
  | 121 => ⟨S8x4x4x8192x8192, .f32⟩
  | 122 => ⟨S_, .f32⟩
  | 123 => ⟨S8x4x4x8192x8192, .f32⟩
  | 124 => ⟨S8x4x4x8192x8192, .f32⟩
  | 125 => ⟨S_, .f32⟩
  | 126 => ⟨S_, .f32⟩
  | 127 => ⟨S8x4x4x8192, .f32⟩
  | _ => ⟨S8x8192x2048, .fp8e4m3⟩

abbrev hbmTy0_1 (i : Nat) : BufTy := match i % 128 with
  | 0 => ⟨S8x4x4x8192, .f32⟩
  | 1 => ⟨S8x4x4x8192, .f32⟩
  | 2 => ⟨S8x4x4x8192x128, .f32⟩
  | 3 => ⟨S8x4x4x8192x1, .f32⟩
  | 4 => ⟨S8x4x4x8192x128, .f32⟩
  | 5 => ⟨S8x4x4x8192x128, .f32⟩
  | 6 => ⟨S8x8192x4x4x128, .f32⟩
  | 7 => ⟨S8x8192x2048, .f32⟩
  | 8 => ⟨S8x8192x2048, .bf16⟩
  | _ => ⟨S8x8192x2048, .fp8e4m3⟩

abbrev hbmTy (i : Nat) : BufTy := match i / 128 with
  | 0 => hbmTy0_0 i
  | 1 => hbmTy0_1 i
  | _ => ⟨S8x8192x2048, .fp8e4m3⟩

abbrev bufTy : (tb : Table) → Fin (tcTables nBuf tb) → BufTy
  | .hbm, ⟨i, _⟩ => hbmTy i
  | .local _ .vmem, ⟨0, _⟩ => ⟨S8x8192x2048, .fp8e4m3⟩
  | .local _ .vmem, ⟨1, _⟩ => ⟨S8x8192x512, .fp8e4m3⟩
  | .local _ .vmem, ⟨2, _⟩ => ⟨S8x512x8192, .fp8e4m3⟩
  | .local _ .vmem, ⟨3, _⟩ => ⟨S8x8192x2048, .f32⟩
  | .local _ .vmem, ⟨4, _⟩ => ⟨S8x8192x512, .f32⟩
  | .local _ .vmem, ⟨5, _⟩ => ⟨S8x512x8192, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_call1_v0 : Ref sig .tc := ⟨.hbm, 105, rfl⟩
abbrev main_call1_v1 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x512x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quantise.lean ====
abbrev S8x8192x2048 : Shape := ⟨3, ![8, 8192, 2048]⟩
abbrev S8x8192x512 : Shape := ⟨3, ![8, 8192, 512]⟩
abbrev S8x8192x16 : Shape := ⟨3, ![8, 8192, 16]⟩
abbrev S8x16x8192 : Shape := ⟨3, ![8, 16, 8192]⟩
abbrev S8x8192x4 : Shape := ⟨3, ![8, 8192, 4]⟩
abbrev S8x512x8192 : Shape := ⟨3, ![8, 512, 8192]⟩
abbrev S1x256x2048 : Shape := ⟨3, ![1, 256, 2048]⟩
abbrev S1x256x512 : Shape := ⟨3, ![1, 256, 512]⟩
abbrev S1x256x16 : Shape := ⟨3, ![1, 256, 16]⟩
abbrev S1x16x256 : Shape := ⟨3, ![1, 16, 256]⟩
abbrev S1x256x4 : Shape := ⟨3, ![1, 256, 4]⟩
abbrev S1x512x256 : Shape := ⟨3, ![1, 512, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x16 : Shape := ⟨2, ![256, 16]⟩
abbrev S128x256 : Shape := ⟨2, ![128, 256]⟩
abbrev S16x256 : Shape := ⟨2, ![16, 256]⟩
abbrev S256x4 : Shape := ⟨2, ![256, 4]⟩
abbrev S1x128x256 : Shape := ⟨3, ![1, 128, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x512, .bf16⟩
  | .hbm, ⟨2, _⟩ => ⟨S8x8192x512, .bf16⟩
  | .hbm, ⟨3, _⟩ => ⟨S8x8192x2048, .fp8e4m3⟩
  | .hbm, ⟨4, _⟩ => ⟨S8x8192x16, .f32⟩
  | .hbm, ⟨5, _⟩ => ⟨S8x16x8192, .f32⟩
  | .hbm, ⟨6, _⟩ => ⟨S8x8192x512, .fp8e4m3⟩
  | .hbm, ⟨7, _⟩ => ⟨S8x8192x4, .f32⟩
  | .hbm, ⟨8, _⟩ => ⟨S8x8192x512, .fp8e4m3⟩
  | .hbm, ⟨9, _⟩ => ⟨S8x8192x4, .f32⟩
  | .hbm, ⟨10, _⟩ => ⟨S8x512x8192, .fp8e4m3⟩
  | .local _ .vmem, ⟨0, _⟩ => ⟨S1x256x2048, .bf16⟩
  | .local _ .vmem, ⟨1, _⟩ => ⟨S1x256x2048, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x2048, .fp8e4m3⟩
  | .local _ .vmem, ⟨7, _⟩ => ⟨S1x256x2048, .fp8e4m3⟩
  | .local _ .vmem, ⟨8, _⟩ => ⟨S1x256x16, .f32⟩
  | .local _ .vmem, ⟨9, _⟩ => ⟨S1x256x16, .f32⟩
  | .local _ .vmem, ⟨10, _⟩ => ⟨S1x16x256, .f32⟩
  | .local _ .vmem, ⟨11, _⟩ => ⟨S1x16x256, .f32⟩
  | .local _ .vmem, ⟨12, _⟩ => ⟨S1x256x512, .fp8e4m3⟩
  | .local _ .vmem, ⟨13, _⟩ => ⟨S1x256x512, .fp8e4m3⟩
  | .local _ .vmem, ⟨14, _⟩ => ⟨S1x256x4, .f32⟩
  | .local _ .vmem, ⟨15, _⟩ => ⟨S1x256x4, .f32⟩
  | .local _ .vmem, ⟨16, _⟩ => ⟨S1x256x512, .fp8e4m3⟩
  | .local _ .vmem, ⟨17, _⟩ => ⟨S1x256x512, .fp8e4m3⟩
  | .local _ .vmem, ⟨18, _⟩ => ⟨S1x256x4, .f32⟩
  | .local _ .vmem, ⟨19, _⟩ => ⟨S1x256x4, .f32⟩
  | .local _ .vmem, ⟨20, _⟩ => ⟨S1x512x256, .fp8e4m3⟩
  | .local _ .vmem, ⟨21, _⟩ => ⟨S1x512x256, .fp8e4m3⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QuantiseReferenceIdeal.lean ====
abbrev S8x8192x2048 : Shape := ⟨3, ![8, 8192, 2048]⟩
abbrev S8x8192x512 : Shape := ⟨3, ![8, 8192, 512]⟩
abbrev S8x8192x16 : Shape := ⟨3, ![8, 8192, 16]⟩
abbrev S8x16x8192 : Shape := ⟨3, ![8, 16, 8192]⟩
abbrev S8x8192x4 : Shape := ⟨3, ![8, 8192, 4]⟩
abbrev S8x512x8192 : Shape := ⟨3, ![8, 512, 8192]⟩
abbrev S8x8192x16x128 : Shape := ⟨4, ![8, 8192, 16, 128]⟩
abbrev S8x8192x16x1 : Shape := ⟨4, ![8, 8192, 16, 1]⟩
abbrev S8x8192x4x128 : Shape := ⟨4, ![8, 8192, 4, 128]⟩
abbrev S8x8192x4x1 : Shape := ⟨4, ![8, 8192, 4, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x512, .bf16⟩
  | .hbm, ⟨2, _⟩ => ⟨S8x8192x512, .bf16⟩
  | .hbm, ⟨3, _⟩ => ⟨S8x8192x2048, .fp8e4m3⟩
  | .hbm, ⟨4, _⟩ => ⟨S8x8192x16, .f32⟩
  | .hbm, ⟨5, _⟩ => ⟨S8x16x8192, .f32⟩
  | .hbm, ⟨6, _⟩ => ⟨S8x8192x512, .fp8e4m3⟩
  | .hbm, ⟨7, _⟩ => ⟨S8x8192x4, .f32⟩
  | .hbm, ⟨8, _⟩ => ⟨S8x8192x512, .fp8e4m3⟩
  | .hbm, ⟨9, _⟩ => ⟨S8x8192x4, .f32⟩
  | .hbm, ⟨10, _⟩ => ⟨S8x512x8192, .fp8e4m3⟩
  | .local _ .vmem, ⟨0, _⟩ => ⟨S8x8192x2048, .bf16⟩
  | .local _ .vmem, ⟨1, _⟩ => ⟨S8x8192x512, .bf16⟩
  | .local _ .vmem, ⟨2, _⟩ => ⟨S8x8192x512, .bf16⟩
  | .local _ .vmem, ⟨3, _⟩ => ⟨S8x8192x2048, .fp8e4m3⟩
  | .local _ .vmem, ⟨4, _⟩ => ⟨S8x8192x16, .f32⟩
  | .local _ .vmem, ⟨5, _⟩ => ⟨S8x16x8192, .f32⟩
  | .local _ .vmem, ⟨6, _⟩ => ⟨S8x8192x512, .fp8e4m3⟩
  | .local _ .vmem, ⟨7, _⟩ => ⟨S8x8192x4, .f32⟩
  | .local _ .vmem, ⟨8, _⟩ => ⟨S8x8192x512, .fp8e4m3⟩
  | .local _ .vmem, ⟨9, _⟩ => ⟨S8x8192x4, .f32⟩
  | .local _ .vmem, ⟨10, _⟩ => ⟨S8x512x8192, .fp8e4m3⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x8192x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8192x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x512x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- One run of the kernel's body at a grid point, from the eleven buffers at any contents: the inputs are given back as they were, and what the
    output and the four scratch buffers hold afterwards is found by the run. -/
def kernelRun (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f10 : BufTy.Contents (Elt F) arg10.view.ty) (f11 : BufTy.Contents (Elt F) arg11.view.ty) (f12 : BufTy.Contents (Elt F) arg12.view.ty), { f13 : BufTy.Contents (Elt F) arg13.view.ty // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13)) : sProp 𝕄)
      ⊢ wp frame (wpE (defs₀ (F := F)) 𝒱 (c : Thread nD τ) none) E (cc0_attention (F := F) i arg3 harg3 arg4 harg4 arg5 harg5 arg6 harg6 arg7 harg7 arg8 harg8 arg9 harg9 arg10 harg10 arg11 harg11 arg12 harg12 arg13 harg13)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))) } := by
  refine ⟨?_, ?_, ?_, ?_, ?_, fun E => ?run⟩
  case run =>
    simp only [cc0_attention_eq_skeleton]; unfold cc0_attention_skel
    simp only [k0_part47_eq_skeleton]; unfold k0_part47_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold k0_part31_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    simp only [bind_assoc]
    iintro ⟨H3, H4, H5, H6, H7, H8, H9, H10, H11, H12, H13⟩
    sl_exec
    sl_step
    sl_close

end Cert.Kernel.Hand

end
-- ==== Proof.KernelFrame.lean ====
/-
  Hand-written. The frame of the kernel: at any element values, from any memory, every run of the call ends, leaves its six arguments as
  they were and every semaphore counter at zero. The body is run once (`kernelRun`); nothing is said of the result here.
-/
module

public import proofs.«01_k».proof.Proof.KernelRun

@[expose] public section

set_option maxRecDepth 16384
set_option maxHeartbeats 1600000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result's window is forgotten; the six inputs' windows are not. -/
def forgets0 : Fin 7 → Bool := fun w => decide (w = 6)

/-- The proof data: each input's buffer holds its block at every point, the invariant is that the scratch holds anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d

/-- The four scratch buffers as the body is handed them. -/
abbrev sc0 : Memref sig .tc .vmem S8192x128 .f32 := Memref.whole cc0_scratch0
abbrev sc1 : Memref sig .tc .vmem S8192x128 .f32 := Memref.whole cc0_scratch1
abbrev sc2 : Memref sig .tc .vmem S8192x256 .f32 := Memref.whole cc0_scratch2
abbrev sc3 : Memref sig .tc .vmem S32x256 .f32 := Memref.whole cc0_scratch3

/-- The invariant conjunct by conjunct: each scratch buffer owned at some contents, the generator register at some state. -/
theorem PhiA0_eq (c : Dev nD) :
    (Pipeline.ΦA (Val := Elt F) (U := UR sig nD τ) spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body is called with at point `t`, and what it returns. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare d))
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ (∃ d, owns (c : Thread nD τ) (st0_6 t) fullShare d))

/-- The body from the eleven buffers owned: the inputs come back as they were, the others hold something. -/
theorem body_owned (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (B3 : S1x256x512.Idx → Elt F .fp8e4m3) (B4 : S1x4x1x256.Idx → Elt F .f32) (B5 : S1x8192x128.Idx → Elt F .fp8e4m3) (B6 : S1x128x8192.Idx → Elt F .fp8e4m3) (B7 : S1x8192x4.Idx → Elt F .f32) (B8 : S1x8192x4.Idx → Elt F .f32) (Q : PUnit → sProp 𝕄) :
    (iprop(owns (c : Thread nD τ) arg3 fullShare B3 ∗ owns (c : Thread nD τ) arg4 fullShare B4 ∗ owns (c : Thread nD τ) arg5 fullShare B5
      ∗ owns (c : Thread nD τ) arg6 fullShare B6 ∗ owns (c : Thread nD τ) arg7 fullShare B7 ∗ owns (c : Thread nD τ) arg8 fullShare B8
      ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d)
      ∗ (iprop(owns (c : Thread nD τ) arg3 fullShare B3 ∗ owns (c : Thread nD τ) arg4 fullShare B4 ∗ owns (c : Thread nD τ) arg5 fullShare B5
      ∗ owns (c : Thread nD τ) arg6 fullShare B6 ∗ owns (c : Thread nD τ) arg7 fullShare B7 ∗ owns (c : Thread nD τ) arg8 fullShare B8
      ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d)) -∗ Q ⟨⟩)) : sProp 𝕄)
    ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, %h9, H9⟩, ⟨%d10, %f10, %h10, H10⟩, ⟨%d11, %f11, %h11, H11⟩, ⟨%d12, %f12, %h12, H12⟩, ⟨%d13, %f13, %h13, H13⟩, Hk⟩
  generalize kernelRun (F := F) Variants.none c i arg3 harg3 arg4 harg4 arg5 harg5 arg6 harg6 arg7 harg7 arg8 harg8 arg9 harg9 arg10 harg10 arg11 harg11 arg12 harg12 arg13 harg13 f3 f4 f5 f6 f7 f8 f9 f10 f11 f12 f13 = run
  obtain ⟨g9, g10, g11, g12, g13, hrun⟩ := run
  have hw : (iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ∗ (∀ a : PUnit, ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13)) -∗ Q a)) : sProp 𝕄)
      ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13) Q :=
    (sep_mono_l (hrun Set.univ)).trans (wp_wand_r _ _ _)
  iapply hw
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨H3, H4, H5, H6, H7, H8, H9, H10, H11, H12, H13⟩
  iapply Hk
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

theorem sound_fbody (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2, fbefore_3, fbefore_4, fbefore_5]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq,
    fafter_0, fafter_1, fafter_2, fafter_3, fafter_4, fafter_5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6⟩
  iapply (body_owned c (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body as the point spells it. -/
theorem fdefs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, fdefs₀_row]
  exact triple_restated (sound_fbody m c t) rfl .rfl fun _ => .rfl

set_option backward.isDefEq.respectTransparency.types false in
/-- Every run of the call ends with every window's array accounted for and every counter at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: the six arguments end as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hz⟩ => ⟨fun c =>
    ⟨(Pipeline.RDat.FramePost.arr_in h c 0 rfl).trans ((fA_eq m c 0).trans (V_main_arg0 m c)),
     (Pipeline.RDat.FramePost.arr_in h c 1 rfl).trans ((fA_eq m c 1).trans (V_main_arg1 m c)),
     (Pipeline.RDat.FramePost.arr_in h c 2 rfl).trans ((fA_eq m c 2).trans (V_main_arg2 m c)),
     (Pipeline.RDat.FramePost.arr_in h c 3 rfl).trans ((fA_eq m c 3).trans (V_main_arg3 m c)),
     (Pipeline.RDat.FramePost.arr_in h c 4 rfl).trans ((fA_eq m c 4).trans (V_main_arg4 m c)),
     (Pipeline.RDat.FramePost.arr_in h c 5 rfl).trans ((fA_eq m c 5).trans (V_main_arg5 m c))⟩, hz⟩) (frun_main m ρ)

end Cert.Kernel.Hand

end
-- ==== Proof.KernelIdealRun.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- One run of the kernel's body at a grid point, from the eleven buffers at any contents: the inputs are given back as they were, and what the
    output and the four scratch buffers hold afterwards is found by the run. -/
def kernelRun (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f10 : BufTy.Contents (Elt F) arg10.view.ty) (f11 : BufTy.Contents (Elt F) arg11.view.ty) (f12 : BufTy.Contents (Elt F) arg12.view.ty), { f13 : BufTy.Contents (Elt F) arg13.view.ty // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13)) : sProp 𝕄)
      ⊢ wp frame (wpE (defs₀ (F := F)) 𝒱 (c : Thread nD τ) none) E (cc0_attention (F := F) i arg3 harg3 arg4 harg4 arg5 harg5 arg6 harg6 arg7 harg7 arg8 harg8 arg9 harg9 arg10 harg10 arg11 harg11 arg12 harg12 arg13 harg13)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))) } := by
  refine ⟨?_, ?_, ?_, ?_, ?_, fun E => ?run⟩
  case run =>
    simp only [cc0_attention_eq_skeleton]; unfold cc0_attention_skel
    simp only [k0_part47_eq_skeleton]; unfold k0_part47_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold k0_part31_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    simp only [bind_assoc]
    iintro ⟨H3, H4, H5, H6, H7, H8, H9, H10, H11, H12, H13⟩
    sl_exec
    sl_step
    sl_close

end Cert.KernelIdeal.Hand

end
-- ==== Proof.KernelIdealFrame.lean ====
/-
  Hand-written. The frame of the kernel: at any element values, from any memory, every run of the call ends, leaves its six arguments as
  they were and every semaphore counter at zero. The body is run once (`kernelRun`); nothing is said of the result here.
-/
module

public import proofs.«01_k».proof.Proof.KernelIdealRun

@[expose] public section

set_option maxRecDepth 16384
set_option maxHeartbeats 1600000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result's window is forgotten; the six inputs' windows are not. -/
def forgets0 : Fin 7 → Bool := fun w => decide (w = 6)

/-- The proof data: each input's buffer holds its block at every point, the invariant is that the scratch holds anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d

/-- The four scratch buffers as the body is handed them. -/
abbrev sc0 : Memref sig .tc .vmem S8192x128 .f32 := Memref.whole cc0_scratch0
abbrev sc1 : Memref sig .tc .vmem S8192x128 .f32 := Memref.whole cc0_scratch1
abbrev sc2 : Memref sig .tc .vmem S8192x256 .f32 := Memref.whole cc0_scratch2
abbrev sc3 : Memref sig .tc .vmem S32x256 .f32 := Memref.whole cc0_scratch3

/-- The invariant conjunct by conjunct: each scratch buffer owned at some contents, the generator register at some state. -/
theorem PhiA0_eq (c : Dev nD) :
    (Pipeline.ΦA (Val := Elt F) (U := UR sig nD τ) spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body is called with at point `t`, and what it returns. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare d))
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ (∃ d, owns (c : Thread nD τ) (st0_6 t) fullShare d))

/-- The body from the eleven buffers owned: the inputs come back as they were, the others hold something. -/
theorem body_owned (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (B3 : S1x256x512.Idx → Elt F .fp8e4m3) (B4 : S1x4x1x256.Idx → Elt F .f32) (B5 : S1x8192x128.Idx → Elt F .fp8e4m3) (B6 : S1x128x8192.Idx → Elt F .fp8e4m3) (B7 : S1x8192x4.Idx → Elt F .f32) (B8 : S1x8192x4.Idx → Elt F .f32) (Q : PUnit → sProp 𝕄) :
    (iprop(owns (c : Thread nD τ) arg3 fullShare B3 ∗ owns (c : Thread nD τ) arg4 fullShare B4 ∗ owns (c : Thread nD τ) arg5 fullShare B5
      ∗ owns (c : Thread nD τ) arg6 fullShare B6 ∗ owns (c : Thread nD τ) arg7 fullShare B7 ∗ owns (c : Thread nD τ) arg8 fullShare B8
      ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d)
      ∗ (iprop(owns (c : Thread nD τ) arg3 fullShare B3 ∗ owns (c : Thread nD τ) arg4 fullShare B4 ∗ owns (c : Thread nD τ) arg5 fullShare B5
      ∗ owns (c : Thread nD τ) arg6 fullShare B6 ∗ owns (c : Thread nD τ) arg7 fullShare B7 ∗ owns (c : Thread nD τ) arg8 fullShare B8
      ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d) ∗ (∃ d, owns (c : Thread nD τ) arg13 fullShare d)) -∗ Q ⟨⟩)) : sProp 𝕄)
    ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, %h9, H9⟩, ⟨%d10, %f10, %h10, H10⟩, ⟨%d11, %f11, %h11, H11⟩, ⟨%d12, %f12, %h12, H12⟩, ⟨%d13, %f13, %h13, H13⟩, Hk⟩
  generalize kernelRun (F := F) Variants.none c i arg3 harg3 arg4 harg4 arg5 harg5 arg6 harg6 arg7 harg7 arg8 harg8 arg9 harg9 arg10 harg10 arg11 harg11 arg12 harg12 arg13 harg13 f3 f4 f5 f6 f7 f8 f9 f10 f11 f12 f13 = run
  obtain ⟨g9, g10, g11, g12, g13, hrun⟩ := run
  have hw : (iprop(((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ∗ (∀ a : PUnit, ((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13)) -∗ Q a)) : sProp 𝕄)
      ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13) Q :=
    (sep_mono_l (hrun Set.univ)).trans (wp_wand_r _ _ _)
  iapply hw
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨H3, H4, H5, H6, H7, H8, H9, H10, H11, H12, H13⟩
  iapply Hk
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

theorem sound_fbody (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore_0, fbefore_1, fbefore_2, fbefore_3, fbefore_4, fbefore_5]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq,
    fafter_0, fafter_1, fafter_2, fafter_3, fafter_4, fafter_5]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, H6⟩
  iapply (body_owned c (grid0.coords t) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body as the point spells it. -/
theorem fdefs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, fdefs₀_row]
  exact triple_restated (sound_fbody m c t) rfl .rfl fun _ => .rfl

set_option backward.isDefEq.respectTransparency.types false in
/-- Every run of the call ends with every window's array accounted for and every counter at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: the six arguments end as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ ⟨h, hz⟩ => ⟨fun c =>
    ⟨(Pipeline.RDat.FramePost.arr_in h c 0 rfl).trans ((fA_eq m c 0).trans (V_main_arg0 m c)),
     (Pipeline.RDat.FramePost.arr_in h c 1 rfl).trans ((fA_eq m c 1).trans (V_main_arg1 m c)),
     (Pipeline.RDat.FramePost.arr_in h c 2 rfl).trans ((fA_eq m c 2).trans (V_main_arg2 m c)),
     (Pipeline.RDat.FramePost.arr_in h c 3 rfl).trans ((fA_eq m c 3).trans (V_main_arg3 m c)),
     (Pipeline.RDat.FramePost.arr_in h c 4 rfl).trans ((fA_eq m c 4).trans (V_main_arg4 m c)),
     (Pipeline.RDat.FramePost.arr_in h c 5 rfl).trans ((fA_eq m c 5).trans (V_main_arg5 m c))⟩, hz⟩) (frun_main m ρ)

end Cert.KernelIdeal.Hand

end
-- ==== Proof.Online.lean ====
/-
  The arithmetic of one query row, over the extended reals, with no kernel in it.

  The kernel meets the keys in blocks of 256, from the diagonal block down to block 0, and carries three numbers: the
  largest logit so far, the sum of the exponentials relative to it, and the largest weighted exponential relative to it.
  `stats` names the three numbers of a SET of blocks; `stats_insert` says that one step of the kernel's recursion takes the
  numbers of a set to those of the set with one more block. `codes_sum` is the end of the row: the codes the kernel
  multiplies the values by are never clipped, and the power of two taken out of them is put back exactly.
-/
module

public import Idealize.ShloMosaic.PureOps.Ideal
public import Idealize.ShloMosaic.PureOps.Ideal.Laws

@[expose] public section

noncomputable section

namespace Cert.Online

open Idealize.ShloMosaic

/-! ## The exponential of a difference -/

/-- Two to the power of a difference: the weight of a logit `a` relative to a maximum `b`. -/
def E (a b : EReal) : EReal := Ideal.exp2 (a - b)

theorem exp2_nonneg (x : EReal) : 0 ≤ Ideal.exp2 x := by
  induction x with
  | bot => simp
  | top => simp
  | coe r => rw [Ideal.exp2_coe]; exact_mod_cast Real.rpow_nonneg (by norm_num) r

theorem E_nonneg (a b : EReal) : 0 ≤ E a b := exp2_nonneg _

/-- The weight of a masked logit is zero. -/
@[simp] theorem E_bot (b : EReal) : E ⊥ b = 0 := by
  unfold E; rw [EReal.bot_sub]; rfl

@[simp] theorem E_top_right (a : EReal) : E a ⊤ = 0 := by
  unfold E; rw [sub_eq_add_neg, EReal.neg_top, EReal.add_bot]; rfl

/-- The weight of a logit that is at most the maximum is at most one. -/
theorem E_le_one {a b : EReal} (h : a ≤ b) : E a b ≤ 1 := by
  induction b with
  | bot => rw [le_bot_iff.mp h]; simp
  | top => simp
  | coe y =>
    induction a with
    | bot => simp
    | top => exact absurd h (by simp)
    | coe x =>
      have hxy : x ≤ y := by exact_mod_cast h
      unfold E; rw [← EReal.coe_sub, Ideal.exp2_coe]
      exact_mod_cast Real.rpow_le_one_of_one_le_of_nonpos (by norm_num) (by linarith)

/-- Changing the maximum multiplies the weights by the weight of the old maximum. -/
theorem E_chain {a b c : EReal} (hab : a ≤ b) (hbc : b ≤ c) : E a b * E b c = E a c := by
  induction c with
  | top => simp
  | bot => rw [le_bot_iff.mp hbc] at hab ⊢; rw [le_bot_iff.mp hab]; simp
  | coe z =>
    induction b with
    | bot => rw [le_bot_iff.mp hab]; simp
    | top => exact absurd hbc (by simp)
    | coe y =>
      induction a with
      | bot => simp
      | top => exact absurd hab (by simp)
      | coe x =>
        unfold E
        rw [← EReal.coe_sub, ← EReal.coe_sub, ← EReal.coe_sub, Ideal.exp2_coe, Ideal.exp2_coe, Ideal.exp2_coe,
          ← EReal.coe_mul]
        congr 1
        show (2 : ℝ) ^ (x - y) * (2 : ℝ) ^ (y - z) = (2 : ℝ) ^ (x - z)
        rw [← Real.rpow_add (by norm_num)]; ring_nf

theorem E_ne_top {a b : EReal} (h : a ≤ b) : E a b ≠ ⊤ :=
  ne_top_of_le_ne_top (by exact_mod_cast EReal.coe_ne_top 1) (E_le_one h)

/-! ## Sums -/

/-- A number that is neither negative nor infinite distributes over any sum. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A number that is not negative goes inside a maximum. -/
theorem max_mul {c : EReal} (h0 : 0 ≤ c) (x y : EReal) : max x y * c = max (x * c) (y * c) :=
  (Monotone.map_max (f := fun t : EReal => t * c) fun _ _ h => mul_le_mul_of_nonneg_right h h0)

/-- … and inside the maximum, with zero, of a finite family. -/
theorem max_sup_mul {ι : Type} (s : Finset ι) (f : ι → EReal) {c : EReal} (h0 : 0 ≤ c) :
    max 0 (s.sup f) * c = max 0 (s.sup fun i => f i * c) := by
  classical
  induction s using Finset.induction_on with
  | empty => simp
  | insert a s ha ih =>
    rw [Finset.sup_insert, Finset.sup_insert]
    show max 0 (max (f a) (s.sup f)) * c = max 0 (max (f a * c) (s.sup fun i => f i * c))
    rw [max_left_comm, max_mul h0, ih, max_left_comm]

/-! ## The three numbers of a set of blocks -/

variable (U V : ℕ → Fin 256 → EReal)

/-- The largest logit of a set of blocks. -/
def maxU (S : Finset ℕ) : EReal := S.sup fun j => Finset.univ.sup (U j)

/-- The sum of the weights of a set of blocks, relative to `m`. -/
def sumE (S : Finset ℕ) (m : EReal) : EReal := ∑ j ∈ S, ∑ r, E (U j r) m

/-- The largest weight times value scale of a set of blocks, relative to `m`; at least zero. -/
def maxW (S : Finset ℕ) (m : EReal) : EReal :=
  max 0 (S.sup fun j => Finset.univ.sup fun r => E (U j r) m * V j r)

/-- The three numbers the kernel carries, of a set of blocks. -/
def stats (S : Finset ℕ) : EReal × EReal × EReal := (maxU U S, sumE U S (maxU U S), maxW U V S (maxU U S))

/-- One step of the kernel's recursion, at a block's logits `u` and value scales `v`. -/
def step (u v : Fin 256 → EReal) (c : EReal × EReal × EReal) : EReal × EReal × EReal :=
  let m' := max c.1 (Finset.univ.sup u)
  (m', c.2.1 * E c.1 m' + ∑ r, E (u r) m',
    max (c.2.2 * E c.1 m') (Finset.univ.sup fun r => E (u r) m' * v r))

theorem stats_empty : stats U V ∅ = (⊥, 0, 0) := by
  simp [stats, maxU, sumE, maxW]

theorem le_maxU {S : Finset ℕ} {j : ℕ} (hj : j ∈ S) (r : Fin 256) : U j r ≤ maxU U S :=
  (Finset.le_sup (f := U j) (Finset.mem_univ r)).trans (Finset.le_sup (f := fun j => Finset.univ.sup (U j)) hj)

theorem maxU_mono {S T : Finset ℕ} (h : S ⊆ T) : maxU U S ≤ maxU U T := Finset.sup_mono h

theorem sumE_mul {S : Finset ℕ} {m' : EReal} (h : maxU U S ≤ m') :
    sumE U S (maxU U S) * E (maxU U S) m' = sumE U S m' := by
  unfold sumE
  rw [sum_mul _ _ (E_nonneg _ _) (E_ne_top h)]
  refine Finset.sum_congr rfl fun j hj => ?_
  rw [sum_mul _ _ (E_nonneg _ _) (E_ne_top h)]
  exact Finset.sum_congr rfl fun r _ => E_chain (le_maxU U hj r) h

theorem sup_mul_lift {ι : Type} (s : Finset ι) (f : ι → EReal) {c : EReal} (h0 : 0 ≤ c) :
    max 0 (s.sup fun i => f i * c) = max 0 (s.sup f) * c := (max_sup_mul s f h0).symm

/-- A maximum with zero of a double family, as one over the pairs. -/
theorem maxW_eq (S : Finset ℕ) (m : EReal) :
    maxW U V S m = max 0 ((S ×ˢ (Finset.univ : Finset (Fin 256))).sup fun p => E (U p.1 p.2) m * V p.1 p.2) := by
  unfold maxW; rw [Finset.sup_product_left]

theorem maxW_mul {S : Finset ℕ} {m' : EReal} (h : maxU U S ≤ m') :
    maxW U V S (maxU U S) * E (maxU U S) m' = maxW U V S m' := by
  rw [maxW_eq, maxW_eq, max_sup_mul _ _ (E_nonneg _ _)]
  congr 1
  refine Finset.sup_congr rfl fun p hp => ?_
  rw [mul_right_comm, E_chain (le_maxU U (Finset.mem_product.mp hp).1 p.2) h]

/-- ONE STEP: from the numbers of a set of blocks, at a block outside it, to those of the set with that block. -/
theorem stats_insert {S : Finset ℕ} {j : ℕ} (hj : j ∉ S) :
    step (U j) (V j) (stats U V S) = stats U V (insert j S) := by
  have hm : maxU U (insert j S) = max (maxU U S) (Finset.univ.sup (U j)) := by
    unfold maxU; rw [Finset.sup_insert]; exact max_comm _ _
  have hle : maxU U S ≤ max (maxU U S) (Finset.univ.sup (U j)) := le_max_left _ _
  unfold step stats
  simp only []
  rw [sumE_mul U hle, maxW_mul U V hle, hm]
  refine Prod.ext rfl (Prod.ext ?_ ?_)
  · show sumE U S _ + _ = sumE U (insert j S) _
    unfold sumE; rw [Finset.sum_insert hj, add_comm]
  · show max (maxW U V S _) _ = maxW U V (insert j S) _
    unfold maxW
    rw [Finset.sup_insert]
    exact (max_assoc _ _ _).trans (congrArg (max 0) (max_comm _ _))

/-! ## The end of the row -/

variable {U V}

theorem sumE_nonneg (S : Finset ℕ) (m : EReal) : 0 ≤ sumE U S m :=
  Finset.sum_nonneg fun _ _ => Finset.sum_nonneg fun _ _ => E_nonneg _ _

theorem E_le_sumE {S : Finset ℕ} {j : ℕ} (hj : j ∈ S) (r : Fin 256) (m : EReal) : E (U j r) m ≤ sumE U S m :=
  (Finset.single_le_sum (f := fun r => E (U j r) m) (fun _ _ => E_nonneg _ _) (Finset.mem_univ r)).trans
    (Finset.single_le_sum (f := fun j => ∑ r, E (U j r) m)
      (fun _ _ => Finset.sum_nonneg fun _ _ => E_nonneg _ _) hj)

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

theorem sumE_ne_top (S : Finset ℕ) : sumE U S (maxU U S) ≠ ⊤ :=
  sum_ne_top _ _ fun _ hj => sum_ne_top _ _ fun r _ => E_ne_top (le_maxU U hj r)

/-- The reciprocal of a number that is neither negative nor infinite: `⊤` at zero. -/
theorem inv_nonneg {s : EReal} (h : 0 ≤ s) : 0 ≤ Ideal.div 1 s := by
  unfold Ideal.div
  split
  · simp
  · rw [one_mul]; exact EReal.inv_nonneg_of_nonneg h

theorem inv_eq {s : EReal} (h : s ≠ 0) : Ideal.div 1 s = s⁻¹ := by
  unfold Ideal.div; rw [if_neg h, one_mul]

/-- A number that is not negative and not infinite is zero or a positive real. -/
theorem zero_or_pos {s : EReal} (h0 : 0 ≤ s) (ht : s ≠ ⊤) : s = 0 ∨ ∃ x : ℝ, 0 < x ∧ s = (x : EReal) := by
  induction s with
  | bot => simp at h0
  | top => exact absurd rfl ht
  | coe x =>
    have hx : (0 : ℝ) ≤ x := by exact_mod_cast h0
    rcases hx.eq_or_lt with h | h
    · left; rw [← h]; rfl
    · exact Or.inr ⟨x, h, rfl⟩

/-- The clip to the range of the code format. -/
def clip (x : EReal) : EReal := min (448 : ℝ) (max ((-448 : ℝ) : EReal) x)

/-- A number between zero and 448 is not clipped. -/
theorem clip_eq {x : EReal} (h0 : 0 ≤ x) (h : x ≤ (448 : ℝ)) : clip x = x := by
  unfold clip
  rw [max_eq_right, min_eq_right h]
  exact le_trans (by exact_mod_cast (by norm_num : (-448 : ℝ) ≤ 0)) h0

@[simp] theorem clip_zero : clip 0 = 0 := clip_eq le_rfl (by exact_mod_cast (by norm_num : (0 : ℝ) ≤ 448))

/-- THE CODES of a row: where no term times `c ≥ 1/448` exceeds the power of two `p`, none is clipped, and the sum of
    the products with the codes, times `p`, is the sum of the products with the terms. -/
theorem codes_sum {ι : Type} (s : Finset ι) (A v : ι → EReal) {c p : ℝ} (hc : 1 ≤ c * 448) (hp : 0 < p)
    (h0 : ∀ i ∈ s, 0 ≤ A i) (hA : ∀ i ∈ s, A i * (c : EReal) ≤ (p : EReal)) :
    (∑ i ∈ s, v i * clip (A i * ((p⁻¹ : ℝ) : EReal))) * (p : EReal) = ∑ i ∈ s, v i * A i := by
  have hc0 : 0 < c := by nlinarith
  have hreal : ∀ i ∈ s, ∃ x : ℝ, 0 ≤ x ∧ A i = (x : EReal) := by
    intro i hi
    have ht : A i ≠ ⊤ := by
      intro ht
      have := hA i hi
      rw [ht, EReal.top_mul_coe_of_pos hc0] at this
      exact absurd (top_le_iff.mp this) (EReal.coe_ne_top p)
    rcases zero_or_pos (h0 i hi) ht with h | ⟨x, hx, h⟩
    · exact ⟨0, le_rfl, h⟩
    · exact ⟨x, hx.le, h⟩
  rw [sum_mul _ _ (by exact_mod_cast hp.le) (EReal.coe_ne_top p)]
  refine Finset.sum_congr rfl fun i hi => ?_
  obtain ⟨x, hx0, hx⟩ := hreal i hi
  have hxc : x * c ≤ p := by have := hA i hi; rw [hx] at this; exact_mod_cast this
  rw [hx, ← EReal.coe_mul, clip_eq, mul_assoc, ← EReal.coe_mul, inv_mul_cancel_right₀ hp.ne']
  · exact_mod_cast mul_nonneg hx0 (_root_.inv_nonneg.mpr hp.le)
  · have : x * p⁻¹ ≤ 448 := by
      rw [← div_eq_mul_inv, div_le_iff₀ hp]; nlinarith
    exact_mod_cast this

/-- What the row yields: the values weighted by weight times value scale over the sum of the weights. -/
def A (e V s : EReal) : EReal := e * V * Ideal.div 1 s

theorem A_nonneg {e V s : EReal} (he : 0 ≤ e) (hV : 0 ≤ V) (hs : 0 ≤ s) : 0 ≤ A e V s :=
  mul_nonneg (mul_nonneg he hV) (Online.inv_nonneg hs)

theorem div_eq {s : EReal} {x : ℝ} (hx : 0 < x) (h : s = (x : EReal)) (y : EReal) :
    Ideal.div y s = y * ((x⁻¹ : ℝ) : EReal) := by
  unfold Ideal.div
  rw [if_neg (by rw [h]; exact_mod_cast hx.ne'), h, EReal.coe_inv]

theorem A_coe {s : EReal} {x : ℝ} (hx : 0 < x) (h : s = (x : EReal)) (e V : EReal) :
    A e V s = e * V * ((x⁻¹ : ℝ) : EReal) := by
  unfold A; rw [div_eq hx h, one_mul]

/-! ### The kernel's row -/

theorem mul_le_maxW {S : Finset ℕ} {j : ℕ} (hj : j ∈ S) (r : Fin 256) (m : EReal) :
    E (U j r) m * V j r ≤ maxW U V S m :=
  ((Finset.le_sup (f := fun r => E (U j r) m * V j r) (Finset.mem_univ r)).trans
    (Finset.le_sup (f := fun j => Finset.univ.sup fun r => E (U j r) m * V j r) hj)).trans (le_max_right _ _)

/-- Every term of the row is at most the number the kernel takes its power of two from. -/
theorem A_le {S : Finset ℕ} {j : ℕ} (hj : j ∈ S) (r : Fin 256) (m : EReal) :
    A (E (U j r) m) (V j r) (sumE U S m) ≤ maxW U V S m * Ideal.div 1 (sumE U S m) :=
  mul_le_mul_of_nonneg_right (mul_le_maxW hj r m) (Online.inv_nonneg (sumE_nonneg _ _))

theorem maxW_nonneg (S : Finset ℕ) (m : EReal) : 0 ≤ maxW U V S m := le_max_left _ _

/-- That number is at most the largest value scale. -/
theorem maxW_inv_le {S : Finset ℕ} {C : ℝ} (hC : 0 ≤ C) (hV0 : ∀ j r, 0 ≤ V j r) (hV : ∀ j r, V j r ≤ (C : EReal)) :
    maxW U V S (maxU U S) * Ideal.div 1 (sumE U S (maxU U S)) ≤ (C : EReal) := by
  set m := maxU U S
  have hle : maxW U V S m ≤ sumE U S m * (C : EReal) := by
    refine max_le (mul_nonneg (sumE_nonneg _ _) (by exact_mod_cast hC)) ?_
    refine Finset.sup_le fun j hj => Finset.sup_le fun r _ => ?_
    exact (mul_le_mul_of_nonneg_right (E_le_sumE hj r m) (hV0 j r)).trans
      (mul_le_mul_of_nonneg_left (hV j r) (sumE_nonneg _ _))
  rcases zero_or_pos (sumE_nonneg S m) (sumE_ne_top S) with h | ⟨x, hx, h⟩
  · rw [h, zero_mul] at hle
    rw [le_antisymm hle (maxW_nonneg _ _), zero_mul]
    exact_mod_cast hC
  · rw [div_eq hx h, one_mul]
    refine (mul_le_mul_of_nonneg_right hle (by exact_mod_cast (inv_pos.mpr hx).le)).trans ?_
    rw [h, mul_right_comm, ← EReal.coe_mul, mul_inv_cancel₀ hx.ne', EReal.coe_one, one_mul]

/-- THE KERNEL'S ROW: the codes it forms, from the weights relative to each block's running maximum `X j` and the factor
    from there to the last maximum, give the weighted sum of the values. -/
theorem kernel_row {S : Finset ℕ} (v : ℕ → Fin 256 → EReal) (X : ℕ → EReal) {c p : ℝ} (hc : 1 ≤ c * 448) (hp : 0 < p)
    (hV0 : ∀ j r, 0 ≤ V j r)
    (hX : ∀ j ∈ S, (∀ r, U j r ≤ X j) ∧ X j ≤ maxU U S)
    (hz : maxW U V S (maxU U S) * Ideal.div 1 (sumE U S (maxU U S)) * (c : EReal) ≤ (p : EReal)) :
    (∑ j ∈ S, ∑ r, v j r * clip (E (U j r) (X j) * V j r *
        (Ideal.div 1 (sumE U S (maxU U S)) * ((p⁻¹ : ℝ) : EReal) * E (X j) (maxU U S)))) * (p : EReal)
      = ∑ j ∈ S, ∑ r, v j r * A (E (U j r) (maxU U S)) (V j r) (sumE U S (maxU U S)) := by
  have hc0 : 0 < c := by nlinarith
  set m := maxU U S
  set s := sumE U S m
  have hterm : ∀ j ∈ S, ∀ r, E (U j r) (X j) * V j r * (Ideal.div 1 s * ((p⁻¹ : ℝ) : EReal) * E (X j) m)
      = A (E (U j r) m) (V j r) s * ((p⁻¹ : ℝ) : EReal) := by
    intro j hj r
    unfold A
    rw [← E_chain ((hX j hj).1 r) (hX j hj).2]
    ac_rfl
  have := codes_sum (S ×ˢ (Finset.univ : Finset (Fin 256))) (fun q => A (E (U q.1 q.2) m) (V q.1 q.2) s)
    (fun q => v q.1 q.2) hc hp (fun q _ => A_nonneg (E_nonneg _ _) (hV0 _ _) (sumE_nonneg _ _))
    (fun q hq => (mul_le_mul_of_nonneg_right (A_le (Finset.mem_product.mp hq).1 q.2 m) (by exact_mod_cast hc0.le)).trans hz)
  rw [Finset.sum_product, Finset.sum_product] at this
  rw [← this]
  congr 1
  exact Finset.sum_congr rfl fun j hj => Finset.sum_congr rfl fun r _ => by rw [hterm j hj r]

/-! ### The reference's row -/

/-- The exponent the reference takes from the largest absolute value. -/
def expo (c a : EReal) : EReal :=
  if a = 0 then 0 else Ideal.liftRound Int.floor (Ideal.div (Ideal.log (a * c)) (Ideal.log ((2 : ℝ) : EReal))) + 1

theorem sup_coe_of {ι : Type} [Fintype ι] [Nonempty ι] (f : ι → EReal) (h : ∀ i, ∃ x : ℝ, 0 ≤ x ∧ f i = (x : EReal)) :
    ∃ x : ℝ, 0 ≤ x ∧ Finset.univ.sup f = (x : EReal) := by
  obtain ⟨i, _, hi⟩ := Finset.exists_mem_eq_sup Finset.univ Finset.univ_nonempty f
  obtain ⟨x, hx, h⟩ := h i
  exact ⟨x, hx, hi.trans h⟩

/-- THE REFERENCE'S ROW, over any finite set of keys: weights `e` whose sum is `s`, the quotients by `s` times the value
    scales, the power of two above their largest absolute value over 448, the clipped codes, the sum of the products with
    the values, and the power of two put back. It is the weighted sum of the values. -/
theorem reference_row {ι : Type} [Fintype ι] [Nonempty ι] (e V v : ι → EReal) {c : ℝ} (hc : 1 ≤ c * 448)
    (he : ∀ i, 0 ≤ e i) (het : ∀ i, e i ≠ ⊤) (hV0 : ∀ i, 0 ≤ V i) (hVt : ∀ i, V i ≠ ⊤) {s a x : EReal}
    (hs : s = ∑ i, e i)
    (ha : a = Finset.univ.sup fun i => max (Ideal.div (e i) s * V i) (-(Ideal.div (e i) s * V i)))
    (hx : x = expo c a) :
    (∑ i, clip (Ideal.div (e i) s * V i * Ideal.exp2 (-x)) * v i) * Ideal.exp2 x = ∑ i, v i * A (e i) (V i) s := by
  have hc0 : 0 < c := by nlinarith
  have hs0 : 0 ≤ s := hs ▸ Finset.sum_nonneg fun i _ => he i
  have hst : s ≠ ⊤ := hs ▸ sum_ne_top _ _ fun i _ => het i
  have hes : ∀ i, e i ≤ s := fun i => hs ▸ Finset.single_le_sum (fun i _ => he i) (Finset.mem_univ i)
  rcases zero_or_pos hs0 hst with h | ⟨y, hy, h⟩
  · -- every weight is zero
    have he0 : ∀ i, e i = 0 := fun i => le_antisymm (h ▸ hes i) (he i)
    have hw : ∀ i, Ideal.div (e i) s = ⊥ := fun i => by rw [he0 i, h]; simp [Ideal.div]
    have hcode : ∀ i, clip (Ideal.div (e i) s * V i * Ideal.exp2 (-x)) = 0 := by
      by_cases hV : ∀ i, V i = 0
      · intro i; rw [hV i, mul_zero, zero_mul, clip_zero]
      · have hat : a = ⊤ := by
          push Not at hV
          obtain ⟨i, hi⟩ := hV
          have hpos : 0 < V i := lt_of_le_of_ne (hV0 i) (Ne.symm hi)
          rw [ha]
          refine top_le_iff.mp (le_trans ?_ (Finset.le_sup (Finset.mem_univ i)))
          rw [hw i, EReal.bot_mul_of_pos hpos, EReal.neg_bot]
          exact le_max_right _ _
        have hxt : x = ⊤ := by
          have hl : Ideal.log ((2 : ℝ) : EReal) = ((Real.log 2 : ℝ) : EReal) := by
            rw [Ideal.log_coe, if_neg (by norm_num)]
          have hl2 : 0 < Real.log 2 := Real.log_pos (by norm_num)
          rw [hx, hat]; unfold expo
          rw [if_neg (by simp), EReal.top_mul_coe_of_pos hc0, Ideal.log_top, div_eq hl2 hl,
            EReal.top_mul_coe_of_pos (inv_pos.mpr hl2), Ideal.liftRound_top]
          rfl
        intro i; rw [hxt, EReal.neg_top, Ideal.exp2_bot, mul_zero, clip_zero]
    rw [Finset.sum_eq_zero fun i _ => by rw [hcode i, zero_mul], zero_mul]
    refine (Finset.sum_eq_zero fun i _ => ?_).symm
    unfold A; rw [he0 i]; simp
  · have hw : ∀ i, Ideal.div (e i) s * V i = A (e i) (V i) s := fun i => by
      rw [A_coe hy h, div_eq hy h, mul_right_comm]
    have hA0 : ∀ i, 0 ≤ A (e i) (V i) s := fun i => A_nonneg (he i) (hV0 i) hs0
    have habs : ∀ i, max (Ideal.div (e i) s * V i) (-(Ideal.div (e i) s * V i)) = A (e i) (V i) s := fun i => by
      rw [hw i, max_eq_left]
      exact le_trans (EReal.neg_le_zero.mpr (hA0 i) |> fun h => h) (hA0 i)
    simp only [habs] at ha
    simp only [hw]
    have hreal : ∀ i, ∃ z : ℝ, 0 ≤ z ∧ A (e i) (V i) s = (z : EReal) := by
      intro i
      rcases zero_or_pos (he i) (het i) with h1 | ⟨x1, hx1, h1⟩ <;> rcases zero_or_pos (hV0 i) (hVt i) with h2 | ⟨x2, hx2, h2⟩
      · exact ⟨0, le_rfl, by unfold A; rw [h1]; simp⟩
      · exact ⟨0, le_rfl, by unfold A; rw [h1]; simp⟩
      · exact ⟨0, le_rfl, by unfold A; rw [h2]; simp⟩
      · exact ⟨x1 * x2 * y⁻¹, by positivity, by rw [A_coe hy h, h1, h2]; push_cast; rfl⟩
    obtain ⟨b, hb0, hb⟩ := sup_coe_of _ hreal
    rw [← ha] at hb
    have hle : ∀ i, A (e i) (V i) s ≤ a := fun i => ha ▸ Finset.le_sup (f := fun i => A (e i) (V i) s) (Finset.mem_univ i)
    -- the power of two, whatever it is, lies above the largest term
    obtain ⟨n, hn, hbn⟩ : ∃ n : ℝ, x = (n : EReal) ∧ b * c ≤ (2 : ℝ) ^ n := by
      rcases hb0.eq_or_lt with hz | hpos
      · refine ⟨0, ?_, ?_⟩
        · rw [hx, hb, ← hz]; simp [expo]
        · rw [← hz]; simp
      · have hl : Ideal.log ((2 : ℝ) : EReal) = ((Real.log 2 : ℝ) : EReal) := by
          rw [Ideal.log_coe, if_neg (by norm_num)]
        have hl2 : 0 < Real.log 2 := Real.log_pos (by norm_num)
        have hbc : 0 < b * c := mul_pos hpos hc0
        refine ⟨(⌊Real.log (b * c) * (Real.log 2)⁻¹⌋ : ℝ) + 1, ?_, ?_⟩
        · rw [hx, hb]; unfold expo
          rw [if_neg (by exact_mod_cast hpos.ne'), ← EReal.coe_mul, Ideal.log_coe, if_neg (not_le.mpr hbc), div_eq hl2 hl,
            ← EReal.coe_mul, Ideal.liftRound_coe]
          push_cast; rfl
        · have hlt := Int.lt_floor_add_one (Real.log (b * c) * (Real.log 2)⁻¹)
          rw [← div_eq_mul_inv, div_lt_iff₀ hl2] at hlt
          rw [← Real.log_le_log_iff hbc (by positivity), Real.log_rpow (by norm_num)]
          rw [div_eq_mul_inv] at hlt
          exact hlt.le
    have hp : (0 : ℝ) < (2 : ℝ) ^ n := by positivity
    have h1 : Ideal.exp2 x = (((2 : ℝ) ^ n : ℝ) : EReal) := by rw [hn, Ideal.exp2_coe]; rfl
    have h2 : Ideal.exp2 (-x) = ((((2 : ℝ) ^ n)⁻¹ : ℝ) : EReal) := by
      rw [hn, ← EReal.coe_neg, Ideal.exp2_coe]
      congr 1
      exact Real.rpow_neg (by norm_num) n
    rw [h1, h2, ← codes_sum Finset.univ (fun i => A (e i) (V i) s) v hc hp (fun i _ => hA0 i) fun i _ => ?_]
    · congr 1
      exact Finset.sum_congr rfl fun i _ => mul_comm _ _
    · refine (mul_le_mul_of_nonneg_right (hle i) (by exact_mod_cast hc0.le)).trans ?_
      rw [hb]; exact_mod_cast hbn

/-! ## The logits -/

/-- A positive real multiple and a shift by a real number do not change weights: the kernel's logits `U`, in units of two
    and relative to its tile, are such an image of the reference's logits `L`. -/
theorem E_affine {κ d : ℝ} {L M U N : EReal} (hκ : κ * Real.log 2 = 1)
    (hU : U = L * (κ : EReal) + (d : EReal)) (hN : N = M * (κ : EReal) + (d : EReal)) :
    E U N = Ideal.exp (L - M) := by
  have hl2 : 0 < Real.log 2 := Real.log_pos (by norm_num)
  have hκ0 : 0 < κ := by
    by_contra h
    nlinarith [not_lt.mp h]
  subst hU hN
  unfold E
  induction M with
  | top =>
    rw [EReal.top_mul_coe_of_pos hκ0, EReal.top_add_coe, sub_eq_add_neg, EReal.neg_top, EReal.add_bot, sub_eq_add_neg,
      EReal.neg_top, EReal.add_bot]; rfl
  | bot =>
    induction L with
    | bot => rw [EReal.bot_mul_coe_of_pos hκ0, EReal.bot_add, EReal.bot_sub]; rfl
    | top =>
      rw [EReal.bot_mul_coe_of_pos hκ0, EReal.bot_add, EReal.top_mul_coe_of_pos hκ0, EReal.top_add_coe]; rfl
    | coe x =>
      rw [EReal.bot_mul_coe_of_pos hκ0, EReal.bot_add, ← EReal.coe_mul, ← EReal.coe_add]; rfl
  | coe y =>
    induction L with
    | bot => rw [EReal.bot_mul_coe_of_pos hκ0, EReal.bot_add, EReal.bot_sub, EReal.bot_sub]; rfl
    | top =>
      rw [EReal.top_mul_coe_of_pos hκ0, EReal.top_add_coe, ← EReal.coe_mul, ← EReal.coe_add]; rfl
    | coe x =>
      rw [← EReal.coe_mul, ← EReal.coe_mul, ← EReal.coe_add, ← EReal.coe_add, ← EReal.coe_sub, ← EReal.coe_sub,
        Ideal.exp2_coe, Ideal.exp_coe]
      congr 1
      show (2 : ℝ) ^ (x * κ + d - (y * κ + d)) = Real.exp (x - y)
      rw [Real.rpow_def_of_pos (by norm_num)]
      congr 1
      linear_combination (x - y) * hκ

/-- The largest of such images is the image of the largest. -/
theorem sup_affine {ι : Type} (s : Finset ι) (hs : s.Nonempty) {κ d : ℝ} (hκ : 0 < κ) (L : ι → EReal) :
    (s.sup fun i => L i * (κ : EReal) + (d : EReal)) = s.sup L * (κ : EReal) + (d : EReal) := by
  have hmono : Monotone fun t : EReal => t * (κ : EReal) + (d : EReal) := fun a b h =>
    add_le_add_left (mul_le_mul_of_nonneg_right h (by exact_mod_cast hκ.le)) _
  rw [← Finset.sup'_eq_sup hs, ← Finset.sup'_eq_sup hs]
  exact (Finset.comp_sup'_eq_sup'_comp hs (fun t : EReal => t * (κ : EReal) + (d : EReal))
    fun a b => hmono.map_max).symm

/-- A real multiple distributes over a difference with a real number. -/
theorem sub_mul_coe {κ : ℝ} (hκ : 0 < κ) (x : EReal) (y : ℝ) :
    (x - (y : EReal)) * (κ : EReal) = x * (κ : EReal) + ((-(y * κ) : ℝ) : EReal) := by
  rw [sub_eq_add_neg, EReal.right_distrib_of_nonneg_of_ne_top (by exact_mod_cast hκ.le) (EReal.coe_ne_top κ),
    ← EReal.coe_neg, ← EReal.coe_mul]
  congr 2
  ring

end Cert.Online
-- ==== Proof.Field.lean ====
/-
  The power of two above a number, found by comparisons.

  A float32 pattern whose significand bits are zero is a power of two, so the exponent field of a number `z` that is not
  negative is the largest `n` with `pow n ≤ z`, `pow n` the pattern `n << 23`. The kernel finds it bit by bit from the top
  (`field`), takes `field - 126` as the exponent (0 for the smallest numbers), and forms the two powers of two with that
  exponent and its negative again as patterns. `powers` is what the row needs of them: they are reciprocal, and the first
  is at least `z`.
-/
module

public import Idealize.ShloMosaic.PureOps.Ideal
public import Idealize.ShloMosaic.PureOps.Ideal.Laws

@[expose] public section

noncomputable section

namespace Cert.Field

open Idealize.ShloMosaic

/-- The number whose float32 pattern is `n << 23`. -/
def pow (n : BitVec 32) : EReal := Ideal.ofBits .f32 (n <<< 23)

theorem bits_lt : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  decide +kernel

/-- Between 1 and 254 it is two to the power `n - 127`. -/
theorem pow_eq {n : ℕ} (h1 : 1 ≤ n) (h2 : n ≤ 254) : pow (BitVec.ofNat 32 n) = (((2 : ℝ) ^ ((n : ℤ) - 127) : ℝ) : EReal) := by
  obtain ⟨a, b, c⟩ := bits_lt ⟨n, by omega⟩
  have hp : ((1 : ℝ) * ((2 ^ 23 + 0 : ℕ) : ℝ) * (2 : ℝ) ^ ((n : ℤ) - 127 - (23 : ℕ))) = (2 : ℝ) ^ ((n : ℤ) - 127) := by
    rw [zpow_sub₀ (by norm_num : (2 : ℝ) ≠ 0) _ ((23 : ℕ) : ℤ), zpow_natCast]
    push_cast
    field_simp
    norm_num
  rw [← hp]
  show Ideal.ieee 8 23 (BitVec.ofNat 32 n <<< 23) = _
  generalize hw : (BitVec.ofNat 32 n <<< 23 : BitVec 32) = w at a b c ⊢
  unfold Ideal.ieee
  simp only [show (8 : ℕ) + 23 = 31 from rfl, a, b, c]
  have e1 : ¬ n = 2 ^ 8 - 1 := by omega
  have e2 : ¬ n = 0 := by omega
  simp only [e1, e2, if_false, Bool.false_eq_true]
  norm_num

theorem pow_zero : pow (BitVec.ofNat 32 0) = 0 := by
  show Ideal.ieee 8 23 (BitVec.ofNat 32 0 <<< 23) = _
  simp [Ideal.ieee]

theorem pow_top : pow (BitVec.ofNat 32 255) = ⊤ := by
  obtain ⟨a, b, c⟩ := bits_lt ⟨255, by omega⟩
  show Ideal.ieee 8 23 (BitVec.ofNat 32 255 <<< 23) = _
  generalize hw : (BitVec.ofNat 32 255 <<< 23 : BitVec 32) = w at a b c ⊢
  unfold Ideal.ieee
  simp only [show (8 : ℕ) + 23 = 31 from rfl, a, b, c]
  norm_num

/-- One step of the search: set bit `b` of the field if the number is at least the power so named. -/
def next (z : EReal) (f b : BitVec 32) : BitVec 32 :=
  if Ideal.cmp .oge z (pow (f + b)) = 1#1 then f + b else f

/-- The exponent field of `z`, by eight comparisons. -/
def field (z : EReal) : BitVec 32 :=
  next z (next z (next z (next z (next z (next z (next z (next z 0#32 128#32) 64#32) 32#32) 16#32) 8#32) 4#32) 2#32) 1#32

/-- The exponent: the field less 126, and 0 for the smallest numbers. -/
def expo (f : BitVec 32) : BitVec 32 :=
  if (IntOp.cmpi .eq f 0#32 ||| IntOp.cmpi .eq f 255#32) = 1#1 then 0#32 else f - 126#32

/-- What a step keeps: `pow n ≤ z`, and `z` is below `pow (n + 2b)` where that is a pattern. -/
theorem next_spec {z : EReal} {n b : ℕ} (hn : n + 2 * b ≤ 256) (hlo : pow (BitVec.ofNat 32 n) ≤ z)
    (hhi : n + 2 * b ≤ 255 → z < pow (BitVec.ofNat 32 (n + 2 * b))) :
    ∃ k : ℕ, next z (BitVec.ofNat 32 n) (BitVec.ofNat 32 b) = BitVec.ofNat 32 k ∧ k + b ≤ 256
      ∧ pow (BitVec.ofNat 32 k) ≤ z ∧ (k + b ≤ 255 → z < pow (BitVec.ofNat 32 (k + b))) := by
  unfold next
  rw [← BitVec.ofNat_add]
  by_cases h : pow (BitVec.ofNat 32 (n + b)) ≤ z
  · refine ⟨n + b, ?_, by omega, h, fun hk => ?_⟩
    · rw [if_pos]; simp [Ideal.cmp, h]
    · have := hhi (by omega); rwa [show n + b + b = n + 2 * b by ring]
  · refine ⟨n, ?_, by omega, hlo, fun _ => not_le.mp h⟩
    rw [if_neg]; simp [Ideal.cmp, h]

/-- The field the search finds, of a number below `2 ^ 120`. -/
theorem field_spec {z : EReal} (h0 : 0 ≤ z) (hz : z < (((2 : ℝ) ^ (120 : ℤ) : ℝ) : EReal)) :
    ∃ n : ℕ, field z = BitVec.ofNat 32 n ∧ n ≤ 246 ∧ z < (((2 : ℝ) ^ ((n : ℤ) - 126) : ℝ) : EReal) := by
  obtain ⟨n1, e1, l1, a1, b1⟩ := next_spec (z := z) (n := 0) (b := 128) (by norm_num) (by rw [pow_zero]; exact h0)
    (fun h => absurd h (by norm_num))
  obtain ⟨n2, e2, l2, a2, b2⟩ := next_spec (b := 64) (by omega) a1 b1
  obtain ⟨n3, e3, l3, a3, b3⟩ := next_spec (b := 32) (by omega) a2 b2
  obtain ⟨n4, e4, l4, a4, b4⟩ := next_spec (b := 16) (by omega) a3 b3
  obtain ⟨n5, e5, l5, a5, b5⟩ := next_spec (b := 8) (by omega) a4 b4
  obtain ⟨n6, e6, l6, a6, b6⟩ := next_spec (b := 4) (by omega) a5 b5
  obtain ⟨n7, e7, l7, a7, b7⟩ := next_spec (b := 2) (by omega) a6 b6
  obtain ⟨n8, e8, l8, a8, b8⟩ := next_spec (b := 1) (by omega) a7 b7
  have hn : n8 ≤ 246 := by
    by_contra hc
    have hlt := a8.trans_lt hz
    by_cases h255 : n8 = 255
    · rw [h255, pow_top] at hlt; exact absurd hlt (by simp)
    · rw [pow_eq (by omega) (by omega)] at hlt
      have hlt : (2 : ℝ) ^ ((n8 : ℤ) - 127) < (2 : ℝ) ^ (120 : ℤ) := by exact_mod_cast hlt
      have := (zpow_lt_zpow_iff_right₀ (by norm_num : (1 : ℝ) < 2)).mp hlt
      omega
  refine ⟨n8, ?_, hn, ?_⟩
  · unfold field
    rw [show (0#32 : BitVec 32) = BitVec.ofNat 32 0 from rfl, e1, e2, e3, e4, e5, e6, e7, e8]
  · have := b8 (by omega)
    rw [pow_eq (by omega) (by omega)] at this
    convert this using 3
    push_cast; ring

/-- THE TWO POWERS OF TWO the kernel forms from a number `z` below `2 ^ 120`: reciprocal, and the first at least `z`. -/
theorem powers {z : EReal} (h0 : 0 ≤ z) (hz : z < (((2 : ℝ) ^ (120 : ℤ) : ℝ) : EReal)) :
    ∃ p : ℝ, 0 < p ∧ pow (expo (field z) + 127#32) = (p : EReal)
      ∧ pow (0#32 - expo (field z) + 127#32) = ((p⁻¹ : ℝ) : EReal) ∧ z ≤ (p : EReal) := by
  obtain ⟨n, hf, hn, hlt⟩ := field_spec h0 hz
  rw [hf]
  rcases Nat.eq_zero_or_pos n with h | h
  · subst h
    have he : expo (BitVec.ofNat 32 0) = 0#32 := by decide
    refine ⟨1, one_pos, ?_, ?_, ?_⟩
    · rw [he, show (0#32 + 127#32 : BitVec 32) = BitVec.ofNat 32 127 from rfl, pow_eq (by norm_num) (by norm_num)]
      norm_num
    · rw [he, show (0#32 - 0#32 + 127#32 : BitVec 32) = BitVec.ofNat 32 127 from rfl, pow_eq (by norm_num) (by norm_num)]
      norm_num
    · refine hlt.le.trans ?_
      have : (2 : ℝ) ^ (((0 : ℕ) : ℤ) - 126) ≤ 1 := zpow_le_one_of_nonpos₀ (by norm_num) (by norm_num)
      exact_mod_cast this
  · have hex : ∀ n : Fin 247, 0 < n.val → expo (BitVec.ofNat 32 n.val) + 127#32 = BitVec.ofNat 32 (n.val + 1)
        ∧ 0#32 - expo (BitVec.ofNat 32 n.val) + 127#32 = BitVec.ofNat 32 (253 - n.val) := by decide +kernel
    obtain ⟨e1, e2⟩ := hex ⟨n, by omega⟩ h
    simp only [] at e1 e2
    refine ⟨(2 : ℝ) ^ ((n : ℤ) - 126), by positivity, ?_, ?_, hlt.le⟩
    · rw [e1, pow_eq (by omega) (by omega)]
      congr 2; push_cast; ring
    · rw [e2, pow_eq (by omega) (by omega), ← zpow_neg]
      congr 2
      rw [Nat.cast_sub (by omega)]; push_cast; ring

end Cert.Field
-- ==== Proof.Tile.lean ====
/-
  Hand-written. What the kernel computes on one block of 256 keys and 256 queries, as terms over whole vectors that the four heads of a group
  and all their loops share, and each of those terms read at an index in extended reals.
-/
module

public import proofs.«01_k».proof.Proof.Gen.KernelIdeal.Skeleton
public import proofs.«01_k».proof.Proof.Online
public import proofs.«01_k».proof.Proof.Field
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic
open Cert.Online (E)

section terms

variable {F : FTy → Type} [FloatOps F] [Named F]

/-- The products of a block of keys with the block's queries. -/
abbrev dotsT (k : Vec F S1x256x128 .fp8e4m3) (q : Vec F S1x256x128 .fp8e4m3) : FVec F S256x256 .f32 :=
  matmul dot_S256x128_S256x128_S256x256_1_1_0_0_n_n none (shapeCast S256x128 k shapeCasts_S1x256x128_S256x128)
    (shapeCast S256x128 q shapeCasts_S1x256x128_S256x128) (constant S256x256 .f32 0x00000000#32)

/-- A column of scales, over 256 lanes. -/
abbrev wideT (x : Vec F S256x128 .f32) : FVec F S256x256 .f32 :=
  concatenate S256x256 1 [⟨S256x128, x⟩, ⟨S256x128, x⟩] concatenates_S256x128_S256x128_S256x256_d1

/-- The logits of a block, in units of two. -/
abbrev logitsT (pos : FVec F S256x256 .f32) (sl : FVec F S1x1 .f32) (a : FVec F S1x256 .f32) (dots : FVec F S256x256 .f32) (off : BitVec 32)
    (kc : Vec F S256x128 .f32) : FVec F S256x256 .f32 :=
  addf (mulf (mulf dots (broadcastTo S256x256 a broadcasts_S1x256_S256x256)) (wideT kc))
    (mulf (broadcastTo S256x256 sl broadcasts_S1x1_S256x256) (addf pos (broadcast S256x256 (Scalar.sitofp .f32 off))))

/-- The new running maximum. -/
abbrev maxT (u : FVec F S256x256 .f32) (m : FVec F S1x256 .f32) : FVec F S1x256 .f32 :=
  maximumf m (shapeCast S1x256 (multiReduction .maximumf [0] S256 u 0xFF800000#32 reduces_S256x256_S256 (.inl rfl) rfl) shapeCasts_S256_S1x256)

/-- What the numbers of the blocks before are worth at the new maximum. -/
abbrev fixT (m m' : FVec F S1x256 .f32) : FVec F S1x256 .f32 := exp2 (subf m m')

/-- The weights of a block. -/
abbrev weightsT (u : FVec F S256x256 .f32) (m' : FVec F S1x256 .f32) : FVec F S256x256 .f32 :=
  exp2 (subf u (broadcastTo S256x256 m' broadcasts_S1x256_S256x256))

/-- The new running sum. -/
abbrev sumT (p : FVec F S256x256 .f32) (fix s : FVec F S1x256 .f32) : FVec F S1x256 .f32 :=
  addf (mulf s fix) (shapeCast S1x256 (multiReduction .add [0] S256 p 0x00000000#32 reduces_S256x256_S256 (.inl rfl) rfl) shapeCasts_S256_S1x256)

/-- The weights times the value scales. -/
abbrev scaledT (p : FVec F S256x256 .f32) (vc : Vec F S256x128 .f32) : FVec F S256x256 .f32 := mulf p (wideT vc)

/-- The new running maximum of those. -/
abbrev wmaxT (w : FVec F S256x256 .f32) (fix wm : FVec F S1x256 .f32) : FVec F S1x256 .f32 :=
  maximumf (mulf wm fix) (shapeCast S1x256 (multiReduction .maximumf [0] S256 w 0xFF800000#32 reduces_S256x256_S256 (.inl rfl) rfl) shapeCasts_S256_S1x256)

/-- One block's step of the three running numbers. -/
abbrev stepT (u : FVec F S256x256 .f32) (vc : Vec F S256x128 .f32) (a : FVec F S1x256 .f32 × FVec F S1x256 .f32 × FVec F S1x256 .f32) :
    FVec F S1x256 .f32 × FVec F S1x256 .f32 × FVec F S1x256 .f32 :=
  (maxT u a.1, sumT (weightsT u (maxT u a.1)) (fixT a.1 (maxT u a.1)) a.2.1,
    wmaxT (scaledT (weightsT u (maxT u a.1)) vc) (fixT a.1 (maxT u a.1)) a.2.2)

/-- The codes of a block times the block's values, onto the sum so far. -/
abbrev accT (m c : FVec F S1x256 .f32) (acc : FVec F S128x256 .f32) (x : Vec F S1x256 .f32) (w : Vec F S256x256 .f32)
    (v : Vec F S1x128x256 .fp8e4m3) : FVec F S128x256 .f32 :=
  addf acc (matmul dot_S128x256_S256x256_S128x256_1_0_0_1_n_n none (shapeCast S128x256 v shapeCasts_S1x128x256_S128x256)
    (truncf .fp8e4m3 (minimumf (broadcast S256x256 (Scalar.ofBits .f32 0x43E00000#32))
      (maximumf (broadcast S256x256 (Scalar.ofBits .f32 0xC3E00000#32))
        (mulf w (broadcastTo S256x256 (mulf c (exp2 (subf x m))) broadcasts_S1x256_S256x256)))) bitsLt_fp8e4m3_f32)
    (constant S128x256 .f32 0x00000000#32))

end terms

/-- What a block's step leaves, at a query: the step of `Online`. -/
abbrev at3 (a : FVec Ideal S1x256 .f32 × FVec Ideal S1x256 .f32 × FVec Ideal S1x256 .f32) (c : Fin 256) : EReal × EReal × EReal :=
  (a.1 (ix2 0 c), a.2.1 (ix2 0 c), a.2.2 (ix2 0 c))

theorem dotsT_apply (k q : Vec Ideal S1x256x128 .fp8e4m3) (r c : Fin 256) :
    dotsT (F := Ideal) k q (ix2 r c) = ∑ d : Fin 128, (k (ix3 0 r d) : EReal) * (q (ix3 0 c d) : EReal) := by
  pointwise

theorem wideT_apply (x : Vec Ideal S256x128 .f32) (v : EReal) (r c : Fin 256) (h : ∀ l : Fin 128, x (ix2 r l) = v) :
    wideT (F := Ideal) x (ix2 r c) = v := by
  pointwise
  split <;> exact h _

theorem logitsT_apply (pos : FVec Ideal S256x256 .f32) (sl : FVec Ideal S1x1 .f32) (a : FVec Ideal S1x256 .f32) (dots : FVec Ideal S256x256 .f32)
    (off : BitVec 32) (kc : Vec Ideal S256x128 .f32) (v : EReal) (r c : Fin 256) (h : ∀ l : Fin 128, kc (ix2 r l) = v) :
    logitsT (F := Ideal) pos sl a dots off kc (ix2 r c)
      = dots (ix2 r c) * a (ix2 0 c) * v + sl (ix2 0 0) * (pos (ix2 r c) + ((off.toInt : ℝ) : EReal)) := by
  have e := wideT_apply kc v r c h
  generalize hw : wideT kc = w at e
  show addf (mulf (mulf dots (broadcastTo S256x256 a broadcasts_S1x256_S256x256)) (wideT kc)) _ _ = _
  rw [hw, ← e]
  pointwise

theorem neg_inf : Ideal.ofBits FTy.f32 0xFF800000#32 = ⊥ := by
  simp [Ideal.ofBits, Ideal.ieee]

theorem fold_max (f : Fin 256 → EReal) : Finset.fold max (Ideal.ofBits FTy.f32 0xFF800000#32) f Finset.univ = Finset.univ.sup f := by
  rw [neg_inf]; rfl

theorem maxT_apply (u : FVec Ideal S256x256 .f32) (m : FVec Ideal S1x256 .f32) (c : Fin 256) :
    maxT (F := Ideal) u m (ix2 0 c) = max (m (ix2 0 c)) (Finset.univ.sup fun r : Fin 256 => u (ix2 r c)) := by
  pointwise
  rw [fold_max]

theorem weightsT_apply (u : FVec Ideal S256x256 .f32) (m : FVec Ideal S1x256 .f32) (r c : Fin 256) :
    weightsT (F := Ideal) u m (ix2 r c) = E (u (ix2 r c)) (m (ix2 0 c)) := by
  pointwise
  rfl

theorem fixT_apply (m m' : FVec Ideal S1x256 .f32) (c : Fin 256) :
    fixT (F := Ideal) m m' (ix2 0 c) = E (m (ix2 0 c)) (m' (ix2 0 c)) := by
  pointwise
  rfl

theorem sumT_apply (p : FVec Ideal S256x256 .f32) (fix s : FVec Ideal S1x256 .f32) (c : Fin 256) :
    sumT (F := Ideal) p fix s (ix2 0 c) = s (ix2 0 c) * fix (ix2 0 c) + ∑ r : Fin 256, p (ix2 r c) := by
  pointwise

theorem scaledT_apply (p : FVec Ideal S256x256 .f32) (vc : Vec Ideal S256x128 .f32) (v : EReal) (r c : Fin 256)
    (h : ∀ l : Fin 128, vc (ix2 r l) = v) : scaledT (F := Ideal) p vc (ix2 r c) = p (ix2 r c) * v := by
  rw [← wideT_apply vc v r c h]
  rfl

theorem wmaxT_apply (w : FVec Ideal S256x256 .f32) (fix wm : FVec Ideal S1x256 .f32) (c : Fin 256) :
    wmaxT (F := Ideal) w fix wm (ix2 0 c) = max (wm (ix2 0 c) * fix (ix2 0 c)) (Finset.univ.sup fun r : Fin 256 => w (ix2 r c)) := by
  pointwise
  rw [fold_max]

/-- A block's step at a query, the block's logits there `U` and its value scales `V`. -/
theorem stepT_apply (u : FVec Ideal S256x256 .f32) (vc : Vec Ideal S256x128 .f32)
    (a : FVec Ideal S1x256 .f32 × FVec Ideal S1x256 .f32 × FVec Ideal S1x256 .f32) (c : Fin 256) (U V : Fin 256 → EReal)
    (hU : ∀ r, u (ix2 r c) = U r) (hV : ∀ r l, vc (ix2 r l) = V r) :
    at3 (stepT u vc a) c = Online.step U V (at3 a c) := by
  unfold at3 stepT Online.step
  simp only [sumT_apply, wmaxT_apply, maxT_apply, weightsT_apply, fixT_apply, hU, fun p r => scaledT_apply p vc (V r) r c (hV r),
    ValueIdx.mulf_apply]

theorem c448_neg : Ideal.ofBits FTy.f32 0xC3E00000#32 = ((-448 : ℝ) : EReal) := by
  simp [Ideal.ofBits, Ideal.ieee]; rw [← EReal.coe_mul]; norm_num

theorem c448_pos : Ideal.ofBits FTy.f32 0x43E00000#32 = ((448 : ℝ) : EReal) := by
  simp [Ideal.ofBits, Ideal.ieee]; rw [← EReal.coe_mul]; norm_num

theorem accT_apply (m c : FVec Ideal S1x256 .f32) (acc : FVec Ideal S128x256 .f32) (x : Vec Ideal S1x256 .f32) (w : Vec Ideal S256x256 .f32)
    (v : Vec Ideal S1x128x256 .fp8e4m3) (d : Fin 128) (q : Fin 256) :
    accT (F := Ideal) m c acc x w v (ix2 d q)
      = acc (ix2 d q) + ∑ r : Fin 256, (v (ix3 0 d r) : EReal) * Online.clip (w (ix2 r q) * (c (ix2 0 q) * E (x (ix2 0 q)) (m (ix2 0 q)))) := by
  unfold Online.clip
  rw [← c448_neg, ← c448_pos]
  pointwise
  rfl

end Cert.KernelIdeal.Hand

end
-- ==== Proof.Loop.lean ====
/-
  Hand-written. The two loops of a head, over any functions of the shape they have: the loop over the blocks before the diagonal one, which
  carries the three running numbers and writes each block's scaled weights and running maximum, and the loop that turns those into codes and
  sums the codes' products with the values.
-/
module

public import proofs.«01_k».proof.Proof.Tile
public import Idealize.ShloMosaic.Lib.Writes

@[expose] public section

set_option maxRecDepth 16384

noncomputable section

namespace Cert.KernelIdeal.Hand

open Cert.KernelIdeal Cert.KernelIdeal.Gen
open Idealize.ShloMosaic
open Cert.Online (E)

abbrev Carry := FVec Ideal S1x256 .f32 × FVec Ideal S1x256 .f32 × FVec Ideal S1x256 .f32

variable (t : ℕ) (U : ℕ → Fin 256 → Fin 256 → EReal) (V : ℕ → Fin 256 → EReal)

/-- The three numbers of the blocks `j … t` at query `c`. -/
def statsAt (j : ℕ) (c : Fin 256) : EReal × EReal × EReal := Online.stats (fun j r => U j r c) V (Finset.Icc j t)

/-- The running maximum after block `j`. -/
def runMax (j : ℕ) (c : Fin 256) : EReal := Online.maxU (fun j r => U j r c) (Finset.Icc j t)

/-- What is kept of block `j`. -/
def kept (j : ℕ) (r c : Fin 256) : EReal := E (U j r c) (runMax t U j c) * V j r

theorem statsAt_succ {j : ℕ} (h : j < t) (c : Fin 256) :
    Online.step (fun r => U j r c) (V j) (statsAt t U V (j + 1) c) = statsAt t U V j c := by
  unfold statsAt
  rw [Online.stats_insert (fun j r => U j r c) V (j := j) (S := Finset.Icc (j + 1) t) (by simp)]
  congr 1
  ext x; simp; omega

/-- The first block. -/
theorem statsAt_first (c : Fin 256) : Online.step (fun r => U t r c) (V t) (⊥, 0, 0) = statsAt t U V t c := by
  rw [← Online.stats_empty (fun j r => U j r c) V, Online.stats_insert (fun j r => U j r c) V (j := t) (S := ∅) (by simp)]
  unfold statsAt; simp

/-- What the two work buffers hold once the blocks `j … t` are done. -/
def Done (v12 : View sig .tc .vmem S8192x256 .f32) (v13 : View sig .tc .vmem S32x256 .f32) (f12 : v12.ty.Contents (Elt Ideal))
    (f13 : v13.ty.Contents (Elt Ideal)) (j : ℕ) : Prop :=
  ∀ j', j ≤ j' → j' ≤ t → ∀ c : Fin 256,
    (∀ (r : Fin 256) (R : Fin 8192), R.val = 256 * j' + r.val → v12.read (Elt Ideal) f12 (ix2 R c) = kept t U V j' r c)
    ∧ ∀ J : Fin 32, J.val = j' → v13.read (Elt Ideal) f13 (ix2 J c) = runMax t U j' c

theorem done_step {v12 : View sig .tc .vmem S8192x256 .f32} {v13 : View sig .tc .vmem S32x256 .f32} {f12 : v12.ty.Contents (Elt Ideal)}
    {f13 : v13.ty.Contents (Elt Ideal)} {L12 : List (View.Piece (Elt Ideal) S8192x256 .f32)} {L13 : List (View.Piece (Elt Ideal) S32x256 .f32)}
    {j : ℕ} (hj : j ≤ t) (ht : t < 32)
    (h : Done t U V v12 v13 (v12.writes (Elt Ideal) f12 L12) (v13.writes (Elt Ideal) f13 L13) (j + 1))
    (o12 : Fin 2 → ℕ) (b12 : ∀ a, o12 a + S256x256.size a ≤ S8192x256.size a) (W : S256x256.Idx → EReal) (e12 : o12 = ![256 * j, 0])
    (o13 : Fin 2 → ℕ) (b13 : ∀ a, o13 a + S1x256.size a ≤ S32x256.size a) (X : S1x256.Idx → EReal) (e13 : o13 = ![j, 0])
    (hW : ∀ r c, W (ix2 r c) = kept t U V j r c) (hX : ∀ c, X (ix2 0 c) = runMax t U j c) :
    Done t U V v12 v13 (v12.writes (Elt Ideal) f12 (⟨Rect.unit o12 S256x256.size b12, W⟩ :: L12))
      (v13.writes (Elt Ideal) f13 (⟨Rect.unit o13 S1x256.size b13, X⟩ :: L13)) j := by
  subst e12 e13
  intro j' h1 h2 c
  rcases Nat.eq_or_lt_of_le h1 with rfl | h1
  · refine ⟨fun r R hR => ?_, fun J hJ => ?_⟩
    · rw [View.read_writes_cons_hit_of_coords _ _ _ _ _ (ix2 r c) _ (by
        intro a; match a with
        | ⟨0, _⟩ => simpa using hR
        | ⟨1, _⟩ => simp)]
      exact hW r c
    · rw [View.read_writes_cons_hit_of_coords _ _ _ _ _ (ix2 0 c) _ (by
        intro a; match a with
        | ⟨0, _⟩ => simpa using hJ
        | ⟨1, _⟩ => simp)]
      exact hX c
  · obtain ⟨ha, hb⟩ := h j' h1 h2 c
    refine ⟨fun r R hR => ?_, fun J hJ => ?_⟩
    · rw [View.read_writes_cons_miss_of_axis _ _ _ _ _ 0 (256 * j) 256 rfl rfl rfl (Or.inr (by
        show 256 * j + 256 ≤ R.val; omega))]
      exact ha r R hR
    · rw [View.read_writes_cons_miss_of_axis _ _ _ _ _ 0 j 1 rfl rfl rfl (Or.inr (by
        show j + 1 ≤ J.val; omega))]
      exact hb J hJ

/-- THE LOOP OVER THE BLOCKS BEFORE the diagonal one: after `k` trips the blocks `t - k … t` are done. -/
theorem blocks_loop {n : ℕ} (hn : n = t) (ht : t < 32) {v12 : View sig .tc .vmem S8192x256 .f32} {v13 : View sig .tc .vmem S32x256 .f32}
    (f12 : v12.ty.Contents (Elt Ideal)) (f13 : v13.ty.Contents (Elt Ideal))
    (B12 : List (View.Piece (Elt Ideal) S8192x256 .f32)) (B13 : List (View.Piece (Elt Ideal) S32x256 .f32))
    (st : ℕ → Carry × List (View.Piece (Elt Ideal) S8192x256 .f32) × List (View.Piece (Elt Ideal) S32x256 .f32))
    (u : Fin n → FVec Ideal S256x256 .f32) (vc : Fin n → Vec Ideal S256x128 .f32)
    (o12 : Fin n → Fin 2 → ℕ) (b12 : ∀ k a, o12 k a + S256x256.size a ≤ S8192x256.size a) (e12 : ∀ k, o12 k = ![256 * (t - 1 - k.val), 0])
    (o13 : Fin n → Fin 2 → ℕ) (b13 : ∀ k a, o13 k a + S1x256.size a ≤ S32x256.size a) (e13 : ∀ k, o13 k = ![t - 1 - k.val, 0])
    (h0 : (st 0).2 = ([], []))
    (hs1 : ∀ k : Fin n, (st (k.val + 1)).1 = stepT (u k) (vc k) (st k.val).1)
    (hs2 : ∀ k : Fin n, (st (k.val + 1)).2.1 = ⟨Rect.unit (s := S8192x256) (o12 k) S256x256.size (b12 k),
      shapeCast S256x256 (scaledT (weightsT (u k) (maxT (u k) (st k.val).1.1)) (vc k)) shapeCasts_S256x256_S256x256⟩ :: (st k.val).2.1)
    (hs3 : ∀ k : Fin n, (st (k.val + 1)).2.2 = ⟨Rect.unit (s := S32x256) (o13 k) S1x256.size (b13 k),
      shapeCast S1x256 (maxT (u k) (st k.val).1.1) shapeCasts_S1x256_S1x256⟩ :: (st k.val).2.2)
    (hU : ∀ (k : Fin n) r c, u k (ix2 r c) = U (t - 1 - k.val) r c)
    (hV : ∀ (k : Fin n) r l, vc k (ix2 r l) = V (t - 1 - k.val) r)
    (hi : ∀ c, at3 (st 0).1 c = statsAt t U V t c)
    (hd : Done t U V v12 v13 (v12.writes (Elt Ideal) f12 B12) (v13.writes (Elt Ideal) f13 B13) t) (k : ℕ) (hk : k ≤ n) :
    (∀ c, at3 (st k).1 c = statsAt t U V (t - k) c)
      ∧ Done t U V v12 v13 (v12.writes (Elt Ideal) f12 ((st k).2.1 ++ B12)) (v13.writes (Elt Ideal) f13 ((st k).2.2 ++ B13)) (t - k) := by
  induction k with
  | zero =>
    rw [h0]
    exact ⟨hi, hd⟩
  | succ k ih =>
    obtain ⟨ih1, ih2⟩ := ih (by omega)
    have e : t - k = t - 1 - k + 1 := by omega
    have e' : t - (k + 1) = t - 1 - k := by omega
    have hstep : ∀ c, at3 (st (k + 1)).1 c = statsAt t U V (t - (k + 1)) c := by
      intro c
      rw [hs1 ⟨k, by omega⟩, stepT_apply _ _ _ c (fun r => U (t - 1 - k) r c) (V (t - 1 - k)) (fun r => hU ⟨k, by omega⟩ r c)
        (fun r l => hV ⟨k, by omega⟩ r l), ih1, e, e', statsAt_succ t U V (by omega)]
    refine ⟨hstep, ?_⟩
    rw [hs2 ⟨k, by omega⟩, hs3 ⟨k, by omega⟩, List.cons_append, List.cons_append, e']
    have hm : ∀ c, maxT (u ⟨k, by omega⟩) (st k).1.1 (ix2 0 c) = runMax t U (t - 1 - k) c := by
      intro c
      have := congrArg Prod.fst (hstep c)
      rw [hs1 ⟨k, by omega⟩, e'] at this
      exact this
    refine done_step t U V (by omega) ht (e ▸ ih2) _ _ _ (e12 ⟨k, by omega⟩) _ _ _ (e13 ⟨k, by omega⟩) (fun r c => ?_) (fun c => ?_)
    · rw [shapeCast_id]
      rw [scaledT_apply _ _ (V (t - 1 - k) r) r c (fun l => hV ⟨k, by omega⟩ r l), weightsT_apply, hm]
      unfold kept
      rw [hU]
    · rw [shapeCast_id]; exact hm c

/-- THE LOOP OVER THE CODES: after `k` trips the blocks `0 … k - 1` are counted. -/
theorem codes_loop {n : ℕ} (hn : n = t + 1) (ht : t < 32) {v12 : View sig .tc .vmem S8192x256 .f32} {v13 : View sig .tc .vmem S32x256 .f32}
    {v6 : View sig .tc .vmem S1x128x8192 .fp8e4m3}
    (f12 : v12.ty.Contents (Elt Ideal)) (f13 : v13.ty.Contents (Elt Ideal)) (f6 : v6.ty.Contents (Elt Ideal))
    (m cc : FVec Ideal S1x256 .f32) (st : ℕ → FVec Ideal S128x256 .f32)
    (x : Fin n → Vec Ideal S1x256 .f32) (w : Fin n → Vec Ideal S256x256 .f32) (v : Fin n → Vec Ideal S1x128x256 .fp8e4m3)
    (hx : ∀ (k : Fin n) c, x k (ix2 0 c) = runMax t U k.val c)
    (hw : ∀ (k : Fin n) r c, w k (ix2 r c) = kept t U V k.val r c)
    (vals : ℕ → Fin 256 → Fin 128 → EReal) (hv : ∀ (k : Fin n) d r, v k (ix3 0 d r) = vals k.val r d)
    (h0 : ∀ d c, st 0 (ix2 d c) = 0)
    (hs : ∀ k : Fin n, st (k.val + 1) = accT m cc (st k.val) (x k) (w k) (v k)) (k : ℕ) (hk : k ≤ n) (d : Fin 128) (c : Fin 256) :
    st k (ix2 d c) = ∑ j ∈ Finset.range k, ∑ r : Fin 256, vals j r d * Online.clip (kept t U V j r c *
      (cc (ix2 0 c) * E (runMax t U j c) (m (ix2 0 c)))) := by
  induction k with
  | zero => simpa using h0 d c
  | succ k ih =>
    rw [hs ⟨k, by omega⟩, accT_apply, ih (by omega), Finset.sum_range_succ]
    simp only [hx, hw, hv]

end Cert.KernelIdeal.Hand

end
-- ==== Proof.End.lean ====
/-
  Hand-written. The end of a head: the reciprocal of the sum, the power of two above the largest scaled weight, the codes' sum times that power,
  transposed and written as the head's part of the result's block.
-/
module

public import proofs.«01_k».proof.Proof.Loop

@[expose] public section

set_option maxRecDepth 16384

noncomputable section

namespace Cert.KernelIdeal.Hand

open Cert.KernelIdeal Cert.KernelIdeal.Gen
open Idealize.ShloMosaic
open Cert.Online (E)

section terms

variable {F : FTy → Type} [FloatOps F] [Named F]

/-- The pattern of a power of two, from its exponent field. -/
def powT (n : IVec S1x256 32) : FVec F S1x256 .f32 := bitcastToFloat .f32 (shli n (broadcast S1x256 23#32))

/-- One comparison of the search for an exponent field. -/
def nextT (z : FVec F S1x256 .f32) (f : IVec S1x256 32) (b : BitVec 32) : IVec S1x256 32 :=
  select (cmpf .oge z (powT (addi f (broadcast S1x256 b)))) (addi f (broadcast S1x256 b)) f

/-- The exponent field. -/
def fieldT (z : FVec F S1x256 .f32) : IVec S1x256 32 :=
  nextT z (nextT z (nextT z (nextT z (nextT z (nextT z (nextT z (nextT z (broadcast S1x256 0#32) 128#32) 64#32) 32#32) 16#32) 8#32) 4#32) 2#32) 1#32

/-- The exponent. -/
def expoT (f : IVec S1x256 32) : IVec S1x256 32 :=
  select (ori (cmpi .eq f (broadcast S1x256 0#32)) (cmpi .eq f (broadcast S1x256 255#32))) (broadcast S1x256 0#32) (subi f (broadcast S1x256 126#32))

/-- The reciprocal of the sum. -/
def invT (s : FVec F S1x256 .f32) : FVec F S1x256 .f32 := divf (broadcast S1x256 (Scalar.ofBits .f32 0x3F800000#32)) s

/-- The number whose power of two is taken. -/
def zT (s wm : FVec F S1x256 .f32) : FVec F S1x256 .f32 :=
  mulf (mulf wm (invT s)) (broadcast S1x256 (Scalar.ofBits .f32 0x3B124925#32))

/-- The factor from a kept number to a code, but for the running maximum. -/
def ccT (s wm : FVec F S1x256 .f32) : FVec F S1x256 .f32 :=
  mulf (invT s) (powT (addi (subi (broadcast S1x256 0#32) (expoT (fieldT (zT s wm)))) (broadcast S1x256 127#32)))

/-- A head's part of the result's block. -/
def endT (e : IVec S1x256 32) (acc : FVec F S128x256 .f32) : FVec F S1x256x128 .bf16 :=
  shapeCast S1x256x128 (truncf .bf16 (transpose S256x128 [1, 0]
    (mulf acc (broadcastTo S128x256 (powT (addi e (broadcast S1x256 127#32))) broadcasts_S1x256_S128x256))
    transposes_S128x256_p1_0_S256x128) bitsLt_bf16_f32) shapeCasts_S256x128_S1x256x128

end terms

theorem powT_apply (n : IVec S1x256 32) (i : S1x256.Idx) : powT (F := Ideal) n i = Field.pow (n i) := rfl

theorem nextT_apply (z : FVec Ideal S1x256 .f32) (f : IVec S1x256 32) (b : BitVec 32) (i : S1x256.Idx) :
    nextT z f b i = Field.next (z i) (f i) b := rfl

theorem fieldT_apply (z : FVec Ideal S1x256 .f32) (i : S1x256.Idx) : fieldT z i = Field.field (z i) := by
  unfold fieldT Field.field
  simp only [nextT_apply, broadcast]

theorem expoT_apply (f : IVec S1x256 32) (i : S1x256.Idx) : expoT f i = Field.expo (f i) := rfl

theorem invT_apply (s : FVec Ideal S1x256 .f32) (i : S1x256.Idx) : invT s i = Ideal.div 1 (s i) := by
  unfold invT
  pointwise

theorem zT_apply (s wm : FVec Ideal S1x256 .f32) (i : S1x256.Idx) :
    zT s wm i = wm i * Ideal.div 1 (s i) * Ideal.ofBits .f32 0x3B124925#32 := by
  unfold zT
  rw [← invT_apply]
  rfl

theorem ccT_apply (s wm : FVec Ideal S1x256 .f32) (i : S1x256.Idx) :
    ccT s wm i = Ideal.div 1 (s i) * Field.pow (0#32 - Field.expo (Field.field (zT s wm i)) + 127#32) := by
  rw [← invT_apply, ← fieldT_apply]
  unfold ccT
  generalize fieldT (zT s wm) = f
  rfl

theorem endT_apply (e : IVec S1x256 32) (acc : FVec Ideal S128x256 .f32) (c : Fin 256) (d : Fin 128) :
    endT (F := Ideal) e acc (ix3 0 c d) = acc (ix2 d c) * Field.pow (e (ix2 0 c) + 127#32) := by
  unfold endT
  rw [show e (ix2 0 c) + 127#32 = addi e (broadcast S1x256 127#32) (ix2 0 c) from rfl, ← powT_apply]
  generalize powT (F := Ideal) (addi e (broadcast S1x256 127#32)) = p
  pointwise

/-- The reciprocal of 448 as the kernel writes it. -/
theorem c448 : ∃ x : ℝ, Ideal.ofBits .f32 0x3B124925#32 = (x : EReal) ∧ 1 ≤ x * 448 ∧ 0 < x ∧ x < 1 / 256 := by
  refine ⟨9586981 * (1 / 2 ^ 32), ?_, by norm_num, by norm_num, by norm_num⟩
  simp [Ideal.ofBits, Ideal.ieee, -EReal.coe_mul]

variable (t : ℕ) (U : ℕ → Fin 256 → Fin 256 → EReal) (V : ℕ → Fin 256 → EReal) (vals : ℕ → Fin 256 → Fin 128 → EReal)

/-- What a head's row is: the values weighted, over the blocks up to the diagonal one. -/
def rowOf (c : Fin 256) (d : Fin 128) : EReal :=
  ∑ j ∈ Finset.range (t + 1), ∑ r : Fin 256, vals j r d *
    Online.A (E (U j r c) (Online.maxU (fun j r => U j r c) (Finset.range (t + 1)))) (V j r)
      (Online.sumE (fun j r => U j r c) (Finset.range (t + 1)) (Online.maxU (fun j r => U j r c) (Finset.range (t + 1))))

/-- THE END OF A HEAD, from the running numbers of all its blocks and the sum of the codes' products. -/
theorem head_end {C : ℝ} (hC : 0 ≤ C) (hC' : C ≤ 2 ^ 128) (hV0 : ∀ j r, 0 ≤ V j r) (hV : ∀ j r, V j r ≤ (C : EReal))
    (m s wm : FVec Ideal S1x256 .f32) (acc : FVec Ideal S128x256 .f32)
    (h3 : ∀ c, at3 (m, s, wm) c = statsAt t U V 0 c)
    (hacc : ∀ d c, acc (ix2 d c) = ∑ j ∈ Finset.range (t + 1), ∑ r : Fin 256, vals j r d * Online.clip (kept t U V j r c *
      (ccT s wm (ix2 0 c) * E (runMax t U j c) (m (ix2 0 c))))) (c : Fin 256) (d : Fin 128) :
    endT (F := Ideal) (expoT (fieldT (zT s wm))) acc (ix3 0 c d) = rowOf t U V vals c d := by
  have hIcc : Finset.Icc 0 t = Finset.range (t + 1) := by ext x; simp [Nat.lt_succ_iff]
  obtain ⟨x, hx, hx1, hx0, hx2⟩ := c448
  have h := h3 c
  unfold at3 statsAt Online.stats at h
  rw [hIcc] at h
  have hm := congrArg Prod.fst h
  have hs := congrArg (fun p => p.2.1) h
  have hw := congrArg (fun p => p.2.2) h
  simp only [] at hm hs hw
  rw [endT_apply, hacc]
  simp only [ccT_apply, expoT_apply, fieldT_apply]
  have hz : zT s wm (ix2 0 c) = Online.maxW (fun j r => U j r c) V (Finset.range (t + 1)) (Online.maxU (fun j r => U j r c) (Finset.range (t + 1)))
      * Ideal.div 1 (Online.sumE (fun j r => U j r c) (Finset.range (t + 1)) (Online.maxU (fun j r => U j r c) (Finset.range (t + 1)))) * (x : EReal) := by
    rw [zT_apply, hx, hs, hw]
  have hz0 : 0 ≤ zT s wm (ix2 0 c) := by
    rw [hz]
    exact mul_nonneg (mul_nonneg (Online.maxW_nonneg _ _) (Online.inv_nonneg (Online.sumE_nonneg _ _))) (by exact_mod_cast hx0.le)
  have hzl : zT s wm (ix2 0 c) < (((2 : ℝ) ^ (120 : ℤ) : ℝ) : EReal) := by
    rw [hz]
    refine lt_of_le_of_lt (mul_le_mul_of_nonneg_right (Online.maxW_inv_le hC hV0 hV) (by exact_mod_cast hx0.le)) ?_
    rw [← EReal.coe_mul]
    refine EReal.coe_lt_coe_iff.mpr ?_
    have : C * x ≤ 2 ^ 128 * x := mul_le_mul_of_nonneg_right hC' hx0.le
    have h2 : (2 : ℝ) ^ 128 * x < 2 ^ 128 * (1 / 256) := mul_lt_mul_of_pos_left hx2 (by positivity)
    refine lt_of_le_of_lt this (lt_of_lt_of_eq h2 ?_)
    norm_num
  obtain ⟨p, hp, hp1, hp2, hp3⟩ := Field.powers hz0 hzl
  rw [hp1, hp2, hs, hm]
  unfold rowOf kept
  refine Online.kernel_row (fun j r => vals j r d) (fun j => runMax t U j c) hx1 hp hV0 (fun j hj => ⟨fun r => ?_, ?_⟩) ?_
  · have hj := Finset.mem_range.mp hj
    exact Online.le_maxU (fun j r => U j r c) (Finset.mem_Icc.mpr ⟨le_rfl, by omega⟩) r
  · refine Online.maxU_mono (fun j r => U j r c) fun a ha => ?_
    have := Finset.mem_Icc.mp ha
    exact Finset.mem_range.mpr (by omega)
  · rw [← hz]; exact hp3

end Cert.KernelIdeal.Hand

end
-- ==== Proof.Core.lean ====
/-
  Hand-written. A head from its first block to its last: over any loops of the shape the four heads have, the block of the result that the end of
  a head computes is the weighted sum of the values, in terms of what the input buffers and the two columns of scales hold.
-/
module

public import proofs.«01_k».proof.Proof.Loop
public import proofs.«01_k».proof.Proof.End

@[expose] public section

set_option maxRecDepth 16384

noncomputable section

namespace Cert.KernelIdeal.Hand

open Cert.KernelIdeal Cert.KernelIdeal.Gen
open Idealize.ShloMosaic
open Cert.Online (E)

/-- A load at an index: the buffer at the index moved by the rectangle's corner. -/
theorem read_unit {sig : RefSig} {κ : Kind} {sp : Space} {s : Shape} {e : EltTy} {Val : EltTy → Type} (v : View sig κ sp s e)
    (X : v.ty.Contents Val) (o sz : Fin s.rank → ℕ) (b : ∀ a, o a + sz a ≤ s.size a) (x : (Rect.unit (s := s) o sz b).shape.Idx) (y : s.Idx)
    (h : ∀ a, (y a).val = o a + (x a).val) : v.readAt Val (Rect.unit (s := s) o sz b).toLoadRect X x = v.read Val X y := by
  show v.read Val X _ = _
  congr 1
  funext a
  apply Fin.ext
  rw [h a]
  simp [Rect.toLoadRect, Rect.unit]

section terms
variable {F : FTy → Type} [FloatOps F] [Named F]

/-- The position of a row in its block. -/
abbrev posT : FVec F S256x256 .f32 := sitofp .f32 (iota .tc S256x256 32 [0] iota_S256x256_d0_w32)

/-- The diagonal block's logits: what is after the query is masked. -/
abbrev diagT (u : FVec F S256x256 .f32) : FVec F S256x256 .f32 :=
  select (cmpi .sge (iota .tc S256x256 32 [1] iota_S256x256_d1_w32) (iota .tc S256x256 32 [0] iota_S256x256_d0_w32)) u
    (broadcast S256x256 (Named.named (φ := .f32) κ "mask" 0xF149F2CA#32))

abbrev botT : FVec F S1x256 .f32 := broadcast S1x256 (Named.named (φ := .f32) κ "mask" 0xF149F2CA#32)
abbrev zeroT : FVec F S1x256 .f32 := broadcast S1x256 (Scalar.ofBits .f32 0x00000000#32)
abbrev zeroAccT : FVec F S128x256 .f32 := broadcast S128x256 (Scalar.ofBits .f32 0x00000000#32)

end terms

theorem mask_named : Named.named (F := Ideal) (φ := .f32) κ "mask" 0xF149F2CA#32 = (⊥ : EReal) :=
  IdealRules.named_const.ideal_named_scalar _ _ _ _ rfl

theorem small_toInt : ∀ r : Fin 256, (BitVec.ofNat 32 r.val).toInt = (r.val : ℤ) := by decide +kernel

theorem after_iff : ∀ r c : Fin 256, IntOp.cmpi .sge (BitVec.ofNat 32 c.val) (BitVec.ofNat 32 r.val) = BitVec.ofBool (decide (r.val ≤ c.val)) := by
  decide +kernel

theorem posT_apply (r c : Fin 256) : posT (F := Ideal) (ix2 r c) = ((r.val : ℝ) : EReal) := by
  pointwise
  show (((BitVec.ofNat 32 r.val).toInt : ℝ) : EReal) = _
  rw [small_toInt r]
  simp

theorem diagT_apply (u : FVec Ideal S256x256 .f32) (r c : Fin 256) :
    diagT (F := Ideal) u (ix2 r c) = if r.val ≤ c.val then u (ix2 r c) else ⊥ := by
  rw [← mask_named]
  pointwise
  rw [after_iff r c]
  by_cases h : r.val ≤ c.val <;> simp [h, Scalar.select]

theorem scale_apply (x : Vec Ideal S1x1x1x256 .f32) (c : Fin 256) :
    mulf (F := Ideal) (φ := .f32) (shapeCast S1x256 x shapeCasts_S1x1x1x256_S1x256)
      (broadcast S1x256 (Named.named (φ := .f32) κ "logit_scale" 0x3E0293EE#32)) (ix2 0 c)
      = (x (ix4 0 0 0 c) : EReal) * Named.named (F := Ideal) (φ := .f32) κ "logit_scale" 0x3E0293EE#32 := by
  pointwise

variable (t : ℕ) (K : ℕ → Fin 128 → EReal) (Q : Fin 256 → Fin 128 → EReal) (A : Fin 256 → EReal) (KC : ℕ → EReal) (sl : EReal)
  (VC : ℕ → EReal) (W : ℕ → Fin 128 → EReal)

/-- The logit of key `r` of block `j` at query `c` of block `t`, in units of two, before the mask. -/
def rawOf (j : ℕ) (r c : Fin 256) : EReal :=
  (∑ d : Fin 128, K (256 * j + r.val) d * Q c d) * A c * KC (256 * j + r.val)
    + sl * (((r.val : ℝ) : EReal) + (((256 * ((j : ℤ) - (t : ℤ)) : ℤ) : ℝ) : EReal))

/-- The same with the mask. -/
def logitOf (j : ℕ) (r c : Fin 256) : EReal := if j = t ∧ ¬ r.val ≤ c.val then ⊥ else rawOf t K Q A KC sl j r c

theorem raw_tile (kb qb : Vec Ideal S1x256x128 .fp8e4m3) (a : FVec Ideal S1x256 .f32) (slv : FVec Ideal S1x1 .f32) (off : BitVec 32)
    (kcb : Vec Ideal S256x128 .f32) (j : ℕ) (hk : ∀ r d, kb (ix3 0 r d) = K (256 * j + r.val) d) (hq : ∀ c d, qb (ix3 0 c d) = Q c d)
    (ha : ∀ c, a (ix2 0 c) = A c) (hs : slv (ix2 0 0) = sl) (ho : off.toInt = 256 * ((j : ℤ) - (t : ℤ)))
    (hkc : ∀ r l, kcb (ix2 r l) = KC (256 * j + r.val)) (r c : Fin 256) :
    logitsT posT slv a (dotsT kb qb) off kcb (ix2 r c) = rawOf t K Q A KC sl j r c := by
  rw [logitsT_apply _ _ _ _ _ _ _ r c (fun l => hkc r l), dotsT_apply, ha, hs, posT_apply, ho]
  unfold rawOf
  simp only [hk, hq]

/-- A HEAD. -/
theorem head_core {C : ℝ} (hC : 0 ≤ C) (hC' : C ≤ 2 ^ 128) (hV0 : ∀ R, 0 ≤ VC R) (hV : ∀ R, VC R ≤ (C : EReal)) (ht : t < 32)
    {v12 : View sig .tc .vmem S8192x256 .f32} {v13 : View sig .tc .vmem S32x256 .f32} {v3 : View sig .tc .vmem S1x256x512 .fp8e4m3}
    {v5 : View sig .tc .vmem S1x8192x128 .fp8e4m3} {v6 : View sig .tc .vmem S1x128x8192 .fp8e4m3}
    {v10 v11 : View sig .tc .vmem S8192x128 .f32}
    (f3 : v3.ty.Contents (Elt Ideal)) (f5 : v5.ty.Contents (Elt Ideal)) (f6 : v6.ty.Contents (Elt Ideal)) (f10 : v10.ty.Contents (Elt Ideal))
    (f11 : v11.ty.Contents (Elt Ideal)) (f12 : v12.ty.Contents (Elt Ideal)) (f13 : v13.ty.Contents (Elt Ideal))
    (h5 : ∀ (R : Fin 8192) d, v5.read (Elt Ideal) f5 (ix3 0 R d) = K R.val d)
    (h6 : ∀ (R : Fin 8192) d, v6.read (Elt Ideal) f6 (ix3 0 d R) = W R.val d)
    (h10 : ∀ (R : Fin 8192) l, v10.read (Elt Ideal) f10 (ix2 R l) = KC R.val)
    (h11 : ∀ (R : Fin 8192) l, v11.read (Elt Ideal) f11 (ix2 R l) = VC R.val)
    (qb : Vec Ideal S1x256x128 .fp8e4m3) (hq : ∀ c d, qb (ix3 0 c d) = Q c d)
    (a : FVec Ideal S1x256 .f32) (ha : ∀ c, a (ix2 0 c) = A c) (slv : FVec Ideal S1x1 .f32) (hs : slv (ix2 0 0) = sl)
    (o1 : Fin 3 → ℕ) (b1 : ∀ a, o1 a + S1x256x128.size a ≤ S1x8192x128.size a) (e1 : o1 = ![0, 256 * t, 0])
    (o2 : Fin 2 → ℕ) (b2 : ∀ a, o2 a + S256x128.size a ≤ S8192x128.size a) (e2 : o2 = ![256 * t, 0])
    (o3 : Fin 2 → ℕ) (b3 : ∀ a, o3 a + S256x256.size a ≤ S8192x256.size a) (e3 : o3 = ![256 * t, 0])
    (o4 : Fin 2 → ℕ) (b4 : ∀ a, o4 a + S1x256.size a ≤ S32x256.size a) (e4 : o4 = ![t, 0])
    (off0 : BitVec 32) (hoff0 : off0.toInt = 0)
    (u0 : FVec Ideal S256x256 .f32)
    (hu0 : u0 = diagT (logitsT posT slv a (dotsT (v5.readAt (Elt Ideal) (Rect.unit (s := S1x8192x128) o1 S1x256x128.size b1).toLoadRect f5) qb) off0
      (v10.readAt (Elt Ideal) (Rect.unit (s := S8192x128) o2 S256x128.size b2).toLoadRect f10)))
    (B12 : List (View.Piece (Elt Ideal) S8192x256 .f32)) (B13 : List (View.Piece (Elt Ideal) S32x256 .f32))
    (hB12 : B12 = [⟨Rect.unit (s := S8192x256) o3 S256x256.size b3, shapeCast S256x256 (scaledT (weightsT u0 (maxT u0 botT))
      (v11.readAt (Elt Ideal) (Rect.unit (s := S8192x128) o2 S256x128.size b2).toLoadRect f11)) shapeCasts_S256x256_S256x256⟩])
    (hB13 : B13 = [⟨Rect.unit (s := S32x256) o4 S1x256.size b4, shapeCast S1x256 (maxT u0 botT) shapeCasts_S1x256_S1x256⟩])
    {n : ℕ} (hn : n = t)
    (st : ℕ → Carry × List (View.Piece (Elt Ideal) S8192x256 .f32) × List (View.Piece (Elt Ideal) S32x256 .f32))
    (p5 : Fin n → Fin 3 → ℕ) (c5 : ∀ k a, p5 k a + S1x256x128.size a ≤ S1x8192x128.size a) (d5 : ∀ k, p5 k = ![0, 256 * (t - 1 - k.val), 0])
    (p6 : Fin n → Fin 2 → ℕ) (c6 : ∀ k a, p6 k a + S256x128.size a ≤ S8192x128.size a) (d6 : ∀ k, p6 k = ![256 * (t - 1 - k.val), 0])
    (o12 : Fin n → Fin 2 → ℕ) (b12 : ∀ k a, o12 k a + S256x256.size a ≤ S8192x256.size a) (e12 : ∀ k, o12 k = ![256 * (t - 1 - k.val), 0])
    (o13 : Fin n → Fin 2 → ℕ) (b13 : ∀ k a, o13 k a + S1x256.size a ≤ S32x256.size a) (e13 : ∀ k, o13 k = ![t - 1 - k.val, 0])
    (off : Fin n → BitVec 32) (hoff : ∀ k, (off k).toInt = -(256 * ((k.val : ℤ) + 1)))
    (u : Fin n → FVec Ideal S256x256 .f32)
    (hu : ∀ k, u k = logitsT posT slv a (dotsT (v5.readAt (Elt Ideal) (Rect.unit (s := S1x8192x128) (p5 k) S1x256x128.size (c5 k)).toLoadRect f5) qb)
      (off k) (v10.readAt (Elt Ideal) (Rect.unit (s := S8192x128) (p6 k) S256x128.size (c6 k)).toLoadRect f10))
    (vc : Fin n → Vec Ideal S256x128 .f32)
    (hvc : ∀ k, vc k = v11.readAt (Elt Ideal) (Rect.unit (s := S8192x128) (p6 k) S256x128.size (c6 k)).toLoadRect f11)
    (h0 : st 0 = (stepT u0 (v11.readAt (Elt Ideal) (Rect.unit (s := S8192x128) o2 S256x128.size b2).toLoadRect f11) (botT, zeroT, zeroT), [], []))
    (hs1 : ∀ k : Fin n, (st (k.val + 1)).1 = stepT (u k) (vc k) (st k.val).1)
    (hs2 : ∀ k : Fin n, (st (k.val + 1)).2.1 = ⟨Rect.unit (s := S8192x256) (o12 k) S256x256.size (b12 k),
      shapeCast S256x256 (scaledT (weightsT (u k) (maxT (u k) (st k.val).1.1)) (vc k)) shapeCasts_S256x256_S256x256⟩ :: (st k.val).2.1)
    (hs3 : ∀ k : Fin n, (st (k.val + 1)).2.2 = ⟨Rect.unit (s := S32x256) (o13 k) S1x256.size (b13 k),
      shapeCast S1x256 (maxT (u k) (st k.val).1.1) shapeCasts_S1x256_S1x256⟩ :: (st k.val).2.2)
    {n' : ℕ} (hn' : n' = t + 1) (st' : ℕ → FVec Ideal S128x256 .f32)
    (q13 : Fin n' → Fin 2 → ℕ) (g13 : ∀ k a, q13 k a + S1x256.size a ≤ S32x256.size a) (r13 : ∀ k, q13 k = ![k.val, 0])
    (q12 : Fin n' → Fin 2 → ℕ) (g12 : ∀ k a, q12 k a + S256x256.size a ≤ S8192x256.size a) (r12 : ∀ k, q12 k = ![256 * k.val, 0])
    (q6 : Fin n' → Fin 3 → ℕ) (g6 : ∀ k a, q6 k a + S1x128x256.size a ≤ S1x128x8192.size a) (r6 : ∀ k, q6 k = ![0, 0, 256 * k.val])
    (h0' : st' 0 = zeroAccT)
    (hs' : ∀ k : Fin n', st' (k.val + 1) = accT (st n).1.1 (ccT (st n).1.2.1 (st n).1.2.2) (st' k.val)
      (v13.readAt (Elt Ideal) (Rect.unit (s := S32x256) (q13 k) S1x256.size (g13 k)).toLoadRect (v13.writes (Elt Ideal) f13 ((st n).2.2 ++ B13)))
      (v12.readAt (Elt Ideal) (Rect.unit (s := S8192x256) (q12 k) S256x256.size (g12 k)).toLoadRect (v12.writes (Elt Ideal) f12 ((st n).2.1 ++ B12)))
      (v6.readAt (Elt Ideal) (Rect.unit (s := S1x128x8192) (q6 k) S1x128x256.size (g6 k)).toLoadRect f6))
    (c : Fin 256) (d : Fin 128) :
    endT (F := Ideal) (expoT (fieldT (zT (st n).1.2.1 (st n).1.2.2))) (st' n') (ix3 0 c d)
      = rowOf t (logitOf t K Q A KC sl) (fun j r => VC (256 * j + r.val)) (fun j r => W (256 * j + r.val)) c d := by
  set U := logitOf t K Q A KC sl with hU
  set V : ℕ → Fin 256 → EReal := fun j r => VC (256 * j + r.val) with hVdef
  have hk5 : ∀ (j : ℕ), j ≤ t → ∀ (o : Fin 3 → ℕ) (b : ∀ a, o a + S1x256x128.size a ≤ S1x8192x128.size a), o = ![0, 256 * j, 0] → ∀ r d,
      v5.readAt (Elt Ideal) (Rect.unit (s := S1x8192x128) o S1x256x128.size b).toLoadRect f5 (ix3 0 r d) = K (256 * j + r.val) d := by
    intro j hj o b e r d
    subst e
    rw [read_unit v5 f5 _ _ _ _ (ix3 0 ⟨256 * j + r.val, by omega⟩ d), h5]
    intro a; match a with
    | ⟨0, _⟩ => simp
    | ⟨1, _⟩ => simp
    | ⟨2, _⟩ => simp
  have hk2 : ∀ (v : View sig .tc .vmem S8192x128 .f32) (f : v.ty.Contents (Elt Ideal)) (G : ℕ → EReal)
      (hG : ∀ (R : Fin 8192) l, v.read (Elt Ideal) f (ix2 R l) = G R.val) (j : ℕ), j ≤ t → ∀ (o : Fin 2 → ℕ)
      (b : ∀ a, o a + S256x128.size a ≤ S8192x128.size a), o = ![256 * j, 0] → ∀ r l,
      v.readAt (Elt Ideal) (Rect.unit (s := S8192x128) o S256x128.size b).toLoadRect f (ix2 r l) = G (256 * j + r.val) := by
    intro v f G hG j hj o b e r l
    subst e
    rw [read_unit v f _ _ _ _ (ix2 ⟨256 * j + r.val, by omega⟩ l), hG]
    intro a; match a with
    | ⟨0, _⟩ => simp
    | ⟨1, _⟩ => simp
  have hu0' : ∀ r c, u0 (ix2 r c) = U t r c := by
    intro r c
    rw [hu0, diagT_apply, raw_tile t K Q A KC sl _ _ _ _ _ _ t (hk5 t le_rfl _ _ e1) hq ha hs (by simp [hoff0])
      (hk2 v10 f10 KC h10 t le_rfl _ _ e2), hU]
    unfold logitOf
    by_cases h : r.val ≤ c.val <;> simp [h, Scalar.select]
  have hv0 := hk2 v11 f11 VC h11 t le_rfl _ b2 e2
  have huk : ∀ (k : Fin n) r c, u k (ix2 r c) = U (t - 1 - k.val) r c := by
    intro k r c
    have hk := k.isLt
    have e : ¬ t - 1 - k.val = t := by omega
    rw [hu, raw_tile t K Q A KC sl _ _ _ _ _ _ (t - 1 - k.val) (hk5 _ (by omega) _ _ (d5 k)) hq ha hs (by rw [hoff]; omega)
      (hk2 v10 f10 KC h10 _ (by omega) _ _ (d6 k)), hU]
    unfold logitOf
    rw [if_neg (fun h => e h.1)]
  have hvk : ∀ (k : Fin n) r l, vc k (ix2 r l) = V (t - 1 - k.val) r := by
    intro k r l
    rw [hvc, hk2 v11 f11 VC h11 (t - 1 - k.val) (by omega) _ _ (d6 k)]
  have hbot : ∀ c, at3 (botT, zeroT, zeroT) c = (⊥, 0, 0) := by
    intro c
    have hb : (botT (F := Ideal)) (ix2 0 c) = ⊥ := mask_named
    have hz : (zeroT (F := Ideal)) (ix2 0 c) = 0 := by
      show Ideal.ofBits .f32 0#32 = 0
      simp [Ideal.ofBits, Ideal.ieee]
    show ((botT (F := Ideal)) (ix2 0 c), (zeroT (F := Ideal)) (ix2 0 c), (zeroT (F := Ideal)) (ix2 0 c)) = _
    rw [hb, hz]
  have hi : ∀ c, at3 (st 0).1 c = statsAt t U V t c := by
    intro c
    rw [h0, stepT_apply _ _ _ c (fun r => U t r c) (V t) (fun r => hu0' r c) (fun r l => hv0 r l), hbot, statsAt_first]
  have hm0 : ∀ c, maxT u0 botT (ix2 0 c) = runMax t U t c := by
    intro c
    have := congrArg Prod.fst (hi c)
    rw [h0] at this
    exact this
  have hd : Done t U V v12 v13 (v12.writes (Elt Ideal) f12 B12) (v13.writes (Elt Ideal) f13 B13) t := by
    rw [hB12, hB13]
    refine done_step t U V le_rfl ht (L12 := []) (L13 := []) (fun j' h1 h2 => by omega) _ _ _ e3 _ _ _ e4 (fun r c => ?_) (fun c => ?_)
    · rw [shapeCast_id, scaledT_apply _ _ (V t r) r c (fun l => hv0 r l), weightsT_apply, hm0, hu0']
      rfl
    · rw [shapeCast_id]; exact hm0 c
  obtain ⟨hend, hdone⟩ := blocks_loop t U V hn ht f12 f13 B12 B13 st u vc o12 b12 e12 o13 b13 e13 (by rw [h0]) hs1 hs2 hs3 huk hvk hi hd n le_rfl
  have ht0 : t - n = 0 := by omega
  rw [ht0] at hdone
  rw [ht0] at hend
  have hx : ∀ (k : Fin n') c, v13.readAt (Elt Ideal) (Rect.unit (s := S32x256) (q13 k) S1x256.size (g13 k)).toLoadRect
      (v13.writes (Elt Ideal) f13 ((st n).2.2 ++ B13)) (ix2 0 c) = runMax t U k.val c := by
    intro k c
    have hk := k.isLt
    rw [read_unit v13 _ _ _ _ _ (ix2 ⟨k.val, by omega⟩ c)]
    · exact (hdone k.val (by omega) (by omega) c).2 _ rfl
    · have e := r13 k
      intro a; match a with
      | ⟨0, _⟩ => simp [e]
      | ⟨1, _⟩ => simp [e]
  have hw : ∀ (k : Fin n') r c, v12.readAt (Elt Ideal) (Rect.unit (s := S8192x256) (q12 k) S256x256.size (g12 k)).toLoadRect
      (v12.writes (Elt Ideal) f12 ((st n).2.1 ++ B12)) (ix2 r c) = kept t U V k.val r c := by
    intro k r c
    have hk := k.isLt
    rw [read_unit v12 _ _ _ _ _ (ix2 ⟨256 * k.val + r.val, by omega⟩ c)]
    · exact (hdone k.val (by omega) (by omega) c).1 r _ rfl
    · have e := r12 k
      intro a; match a with
      | ⟨0, _⟩ => simp [e]
      | ⟨1, _⟩ => simp [e]
  have hv : ∀ (k : Fin n') d r, v6.readAt (Elt Ideal) (Rect.unit (s := S1x128x8192) (q6 k) S1x128x256.size (g6 k)).toLoadRect f6 (ix3 0 d r)
      = W (256 * k.val + r.val) d := by
    intro k d r
    have hk := k.isLt
    rw [read_unit v6 _ _ _ _ _ (ix3 0 d ⟨256 * k.val + r.val, by omega⟩), h6]
    have e := r6 k
    intro a; match a with
    | ⟨0, _⟩ => simp [e]
    | ⟨1, _⟩ => simp [e]
    | ⟨2, _⟩ => simp [e]
  have h00 : ∀ d c, st' 0 (ix2 d c) = 0 := by
    intro d c
    rw [h0']
    show Ideal.ofBits .f32 0#32 = 0
    simp [Ideal.ofBits, Ideal.ieee]
  refine head_end t U V _ hC hC' (fun j r => hV0 _) (fun j r => hV _) (st n).1.1 (st n).1.2.1 (st n).1.2.2 _ hend (fun d c => ?_) c d
  have := codes_loop t U V hn' ht f12 f13 f6 (st n).1.1 (ccT (st n).1.2.1 (st n).1.2.2) st' _ _ _ hx hw
    (fun j r d => W (256 * j + r.val) d) hv h00 hs' n' le_rfl d c
  rw [this, hn']

end Cert.KernelIdeal.Hand

end
-- ==== Proof.Bounds.lean ====
/-
  Hand-written. The loops' numbers of trips and the corners of the rectangles a head reads and writes, as numbers.
-/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

/-- The tile of a grid point. -/
abbrev tileOf (i : grid0.Coords) : Fin 32 := i 2

/-- The loop over the blocks before the diagonal one. -/
abbrev beforeLoop (t : ℕ) : Scf.Loop 32 :=
  ⟨0#32, Scalar.addi 0#32 (Scalar.muli (Scalar.divsi (Scalar.subi (BitVec.ofNat 32 t) 0#32) 1#32) 1#32), 1#32⟩

abbrev beforeRest (t : ℕ) : Scf.Loop 32 :=
  ⟨Scalar.addi 0#32 (Scalar.muli (Scalar.divsi (Scalar.subi (BitVec.ofNat 32 t) 0#32) 1#32) 1#32),
    Scalar.addi 0#32 (Scalar.subi (BitVec.ofNat 32 t) 0#32), 1#32⟩

/-- The loop over all the blocks. -/
abbrev allLoop (t : ℕ) : Scf.Loop 32 :=
  ⟨0#32, Scalar.addi 0#32 (Scalar.muli (Scalar.divsi (Scalar.subi (Scalar.addi (BitVec.ofNat 32 t) 1#32) 0#32) 1#32) 1#32), 1#32⟩

abbrev allRest (t : ℕ) : Scf.Loop 32 :=
  ⟨Scalar.addi 0#32 (Scalar.muli (Scalar.divsi (Scalar.subi (Scalar.addi (BitVec.ofNat 32 t) 1#32) 0#32) 1#32) 1#32),
    Scalar.addi 0#32 (Scalar.subi (Scalar.addi (BitVec.ofNat 32 t) 1#32) 0#32), 1#32⟩

theorem before_trips : ∀ t : Fin 32, (beforeLoop t.val).trips = t.val := by decide +kernel
theorem beforeRest_trips : ∀ t : Fin 32, (beforeRest t.val).trips = 0 := by decide +kernel
theorem all_trips : ∀ t : Fin 32, (allLoop t.val).trips = t.val + 1 := by decide +kernel
theorem allRest_trips : ∀ t : Fin 32, (allRest t.val).trips = 0 := by decide +kernel

/-- The block of a trip of the first loop, as the kernel counts it. -/
abbrev blockWord (t k : ℕ) : BitVec 32 := Scalar.subi (Scalar.subi (BitVec.ofNat 32 t) 1#32) (Scf.iv 0#32 1#32 k)

theorem block_row : ∀ t k : Fin 32, k.val < t.val → (Scalar.indexCast (Scalar.muli (blockWord t.val k.val) 256#32)).toNat = 256 * (t.val - 1 - k.val) := by
  decide +kernel
theorem block_nat : ∀ t k : Fin 32, k.val < t.val → (Scalar.indexCast (blockWord t.val k.val)).toNat = t.val - 1 - k.val := by
  decide +kernel
theorem block_off : ∀ t k : Fin 32, k.val < t.val →
    (Scalar.muli (Scalar.subi (blockWord t.val k.val) (BitVec.ofNat 32 t.val)) 256#32).toInt = -(256 * ((k.val : ℤ) + 1)) := by
  decide +kernel
theorem tile_row : ∀ t : Fin 32, (Scalar.indexCast (Scalar.muli (BitVec.ofNat 32 t.val) 256#32)).toNat = 256 * t.val := by decide +kernel
theorem tile_nat : ∀ t : Fin 32, (Scalar.indexCast (BitVec.ofNat 32 t.val)).toNat = t.val := by decide +kernel
theorem tile_off : ∀ t : Fin 32, (Scalar.muli (Scalar.subi (BitVec.ofNat 32 t.val) (BitVec.ofNat 32 t.val)) 256#32).toInt = 0 := by decide +kernel
theorem iv_row : ∀ k : Fin 32, (Scalar.indexCast (Scalar.muli (Scf.iv 0#32 1#32 k.val) 256#32)).toNat = 256 * k.val := by decide +kernel
theorem iv_nat : ∀ k : Fin 32, (Scalar.indexCast (Scf.iv 0#32 1#32 k.val)).toNat = k.val := by decide +kernel

variable (i : grid0.Coords)

theorem t1_trips : (k0_t1_loop i).trips = (tileOf i).val := before_trips (i 2)
theorem t2_trips : (k0_t2_loop i).trips = 0 := beforeRest_trips (i 2)
theorem t3_trips : (k0_t3_loop i).trips = (tileOf i).val + 1 := all_trips (i 2)
theorem t4_trips : (k0_t4_loop i).trips = 0 := allRest_trips (i 2)

theorem off1 : k0_off1 i = ![0, 256 * (tileOf i).val, 0] := by
  rw [← tile_row (tileOf i)]; rfl
theorem off2 : k0_off2 i = ![256 * (tileOf i).val, 0] := by
  rw [← tile_row (tileOf i)]; rfl
theorem off3 : k0_off3 i = ![256 * (tileOf i).val, 0] := by
  rw [← tile_row (tileOf i)]; rfl
theorem off4 : k0_off4 i = ![(tileOf i).val, 0] := by
  conv_rhs => rw [← tile_nat (tileOf i)]
  rfl

variable (k : Fin (k0_t1_loop i).trips)

theorem k1_lt : k.val < (tileOf i).val := lt_of_lt_of_eq k.isLt (t1_trips i)

theorem off5 : k0_off5 i k = ![0, 256 * ((tileOf i).val - 1 - k.val), 0] := by
  have h := k1_lt i k
  have e := block_row (tileOf i) ⟨k.val, by omega⟩ h
  rw [← e]; rfl
theorem off6 : k0_off6 i k = ![256 * ((tileOf i).val - 1 - k.val), 0] := by
  have h := k1_lt i k
  have e := block_row (tileOf i) ⟨k.val, by omega⟩ h
  rw [← e]; rfl
theorem off7 : k0_off7 i k = ![256 * ((tileOf i).val - 1 - k.val), 0] := by
  have h := k1_lt i k
  have e := block_row (tileOf i) ⟨k.val, by omega⟩ h
  rw [← e]; rfl
theorem off8 : k0_off8 i k = ![(tileOf i).val - 1 - k.val, 0] := by
  have h := k1_lt i k
  have e := block_nat (tileOf i) ⟨k.val, by omega⟩ h
  rw [← e]; rfl
theorem offWord : (Scalar.muli (Scalar.subi (blockWord (tileOf i).val k.val) (BitVec.ofNat 32 (tileOf i).val)) 256#32).toInt
    = -(256 * ((k.val : ℤ) + 1)) := by
  have h := k1_lt i k
  exact block_off (tileOf i) ⟨k.val, by omega⟩ h

variable (k' : Fin (k0_t3_loop i).trips)

theorem k3_lt : k'.val < 32 := by
  have h := lt_of_lt_of_eq k'.isLt (t3_trips i)
  omega

theorem off13 : k0_off13 i k' = ![k'.val, 0] := by
  have e := iv_nat ⟨k'.val, k3_lt i k'⟩
  simp only [] at e
  conv_rhs => rw [← e]
  rfl
theorem off14 : k0_off14 i k' = ![256 * k'.val, 0] := by
  have e := iv_row ⟨k'.val, k3_lt i k'⟩
  rw [← e]; rfl
theorem off15 : k0_off15 i k' = ![0, 0, 256 * k'.val] := by
  have e := iv_row ⟨k'.val, k3_lt i k'⟩
  rw [← e]; rfl

end Cert.KernelIdeal.Hand

end
-- ==== Proof.Stretch.lean ====
/-
  Hand-written. The body of the kernel as a chain of its calls, cut at the four query heads of a group: the first stretch is the branch that
  fills the columns of scales at the first tile, the four others are one head each.
-/
module

public import proofs.«01_k».proof.Proof.Gen.KernelIdeal.Skeleton
public import Idealize.ShloMosaic.Lib.Tactic.OpenCalls
public import Idealize.ShloMosaic.Lib.Tactic.Stretches

@[expose] public section

set_option maxHeartbeats 8000000
set_option maxRecDepth 65536

namespace Cert.KernelIdeal.Hand

open Cert.KernelIdeal Cert.KernelIdeal.Gen

open_calls attn := cc0_attention_skel [k0_part47, k0_part31, k0_part32, k0_part33, k0_part34, k0_part35, k0_part36, k0_part37, k0_part38, k0_part39, k0_part40, k0_part41, k0_part42, k0_part43, k0_part44, k0_part45, k0_part46]
cut_chain s := attn at 2, 17, 32, 47

end Cert.KernelIdeal.Hand

end
-- ==== Proof.Head.lean ====
module

public import proofs.«01_k».proof.Proof.Gen.KernelIdeal.Frame
public import proofs.«01_k».proof.Proof.Gen.KernelIdeal.Loops
public import proofs.«01_k».proof.Proof.Stretch
public import Idealize.ShloMosaic.Lib.Pipeline.Frame
public import Idealize.ShloMosaic.Lib.Tactic

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- Head 0 of a group: one run of its stretch from the eleven buffers at any contents; the inputs and the columns of scales come back as they
    were, and what the result's block and the two work buffers hold is found by the run. -/
def headRun0 (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f12 : BufTy.Contents (Elt F) arg12.view.ty), { f13 : BufTy.Contents (Elt F) arg13.view.ty // ∀ (E : Set ℕ) (R : Type) (κ : s2.K (F := F) i arg3 harg3 arg4 harg4 arg5 harg5 arg6 harg6 arg7 harg7 arg8 harg8 arg9 harg9 arg10 harg10 arg11 harg11 arg12 harg12 arg13 harg13 (R := R)) (Q : R → sProp 𝕄),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} f12) ∗ (arg13.view.loc (c : Thread nD τ) ↦[arg13.view.set]{fullShare} f13)) -∗ wp frame (wpE (defs₀ (F := F)) 𝒱 (c : Thread nD τ) none) E κ Q)) : sProp 𝕄)
      ⊢ wp frame (wpE (defs₀ (F := F)) 𝒱 (c : Thread nD τ) none) E (s2 (F := F) i arg3 harg3 arg4 harg4 arg5 harg5 arg6 harg6 arg7 harg7 arg8 harg8 arg9 harg9 arg10 harg10 arg11 harg11 arg12 harg12 arg13 harg13 κ) Q } := by
  refine ⟨?_, ?_, ?_, fun E R κ Q => ?run⟩
  case run =>
    unfold s2
    iintro ⟨H3, H4, H5, H6, H7, H8, H9, H10, H11, H12, H13, Hκ⟩
    sl_exec
    iapply Hκ
    sl_close

/-- Head 1 of a group: one run of its stretch from the eleven buffers at any contents; the inputs and the columns of scales come back as they
    were, and what the result's block and the two work buffers hold is found by the run. -/
def headRun1 (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f12 : BufTy.Contents (Elt F) arg12.view.ty), { f13 : BufTy.Contents (Elt F) arg13.view.ty // ∀ (E : Set ℕ) (R : Type) (κ : s3.K (F := F) i arg3 harg3 arg4 harg4 arg5 harg5 arg6 harg6 arg7 harg7 arg8 harg8 arg9 harg9 arg10 harg10 arg11 harg11 arg12 harg12 arg13 harg13 (R := R)) (Q : R → sProp 𝕄),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} f12) ∗ (arg13.view.loc (c : Thread nD τ) ↦[arg13.view.set]{fullShare} f13)) -∗ wp frame (wpE (defs₀ (F := F)) 𝒱 (c : Thread nD τ) none) E κ Q)) : sProp 𝕄)
      ⊢ wp frame (wpE (defs₀ (F := F)) 𝒱 (c : Thread nD τ) none) E (s3 (F := F) i arg3 harg3 arg4 harg4 arg5 harg5 arg6 harg6 arg7 harg7 arg8 harg8 arg9 harg9 arg10 harg10 arg11 harg11 arg12 harg12 arg13 harg13 κ) Q } := by
  refine ⟨?_, ?_, ?_, fun E R κ Q => ?run⟩
  case run =>
    unfold s3
    iintro ⟨H3, H4, H5, H6, H7, H8, H9, H10, H11, H12, H13, Hκ⟩
    sl_exec
    iapply Hκ
    sl_close

/-- Head 2 of a group: one run of its stretch from the eleven buffers at any contents; the inputs and the columns of scales come back as they
    were, and what the result's block and the two work buffers hold is found by the run. -/
def headRun2 (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f12 : BufTy.Contents (Elt F) arg12.view.ty), { f13 : BufTy.Contents (Elt F) arg13.view.ty // ∀ (E : Set ℕ) (R : Type) (κ : s4.K (F := F) i arg3 harg3 arg4 harg4 arg5 harg5 arg6 harg6 arg7 harg7 arg8 harg8 arg9 harg9 arg10 harg10 arg11 harg11 arg12 harg12 arg13 harg13 (R := R)) (Q : R → sProp 𝕄),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} f12) ∗ (arg13.view.loc (c : Thread nD τ) ↦[arg13.view.set]{fullShare} f13)) -∗ wp frame (wpE (defs₀ (F := F)) 𝒱 (c : Thread nD τ) none) E κ Q)) : sProp 𝕄)
      ⊢ wp frame (wpE (defs₀ (F := F)) 𝒱 (c : Thread nD τ) none) E (s4 (F := F) i arg3 harg3 arg4 harg4 arg5 harg5 arg6 harg6 arg7 harg7 arg8 harg8 arg9 harg9 arg10 harg10 arg11 harg11 arg12 harg12 arg13 harg13 κ) Q } := by
  refine ⟨?_, ?_, ?_, fun E R κ Q => ?run⟩
  case run =>
    unfold s4
    iintro ⟨H3, H4, H5, H6, H7, H8, H9, H10, H11, H12, H13, Hκ⟩
    sl_exec
    iapply Hκ
    sl_close

/-- Head 3 of a group: one run of its stretch from the eleven buffers at any contents; the inputs and the columns of scales come back as they
    were, and what the result's block and the two work buffers hold is found by the run. -/
def headRun3 (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f9 : BufTy.Contents (Elt F) arg9.view.ty) (f12 : BufTy.Contents (Elt F) arg12.view.ty), { f13 : BufTy.Contents (Elt F) arg13.view.ty // ∀ (E : Set ℕ) (R : Type) (κ : s5.K (F := F) i arg3 harg3 arg4 harg4 arg5 harg5 arg6 harg6 arg7 harg7 arg8 harg8 arg9 harg9 arg10 harg10 arg11 harg11 arg12 harg12 arg13 harg13 (R := R)) (Q : R → sProp 𝕄),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} f12) ∗ (arg13.view.loc (c : Thread nD τ) ↦[arg13.view.set]{fullShare} f13)) -∗ wp frame (wpE (defs₀ (F := F)) 𝒱 (c : Thread nD τ) none) E κ Q)) : sProp 𝕄)
      ⊢ wp frame (wpE (defs₀ (F := F)) 𝒱 (c : Thread nD τ) none) E (s5 (F := F) i arg3 harg3 arg4 harg4 arg5 harg5 arg6 harg6 arg7 harg7 arg8 harg8 arg9 harg9 arg10 harg10 arg11 harg11 arg12 harg12 arg13 harg13 κ) Q } := by
  refine ⟨?_, ?_, ?_, fun E R κ Q => ?run⟩
  case run =>
    unfold s5
    iintro ⟨H3, H4, H5, H6, H7, H8, H9, H10, H11, H12, H13, Hκ⟩
    sl_exec
    iapply Hκ
    sl_close

end Cert.KernelIdeal.Hand

end
-- ==== Proof.Head0Value.lean ====
/-
  Hand-written. Head 0 of a group: the block of the result it stores, in terms of what the input buffers and the two columns of scales hold.
-/
module

public import proofs.«01_k».proof.Proof.Core
public import proofs.«01_k».proof.Proof.Bounds
public import proofs.«01_k».proof.Proof.Head

@[expose] public section

set_option maxRecDepth 16384
set_option maxHeartbeats 4000000

noncomputable section

namespace Cert.KernelIdeal.Hand

open Cert.KernelIdeal Cert.KernelIdeal.Gen
open Idealize.ShloMosaic

set_option backward.isDefEq.respectTransparency.types false in
theorem headValue0 {C : ℝ} (hC : 0 ≤ C) (hC' : C ≤ 2 ^ 128) (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (K : ℕ → Fin 128 → EReal) (Q : Fin 256 → Fin 128 → EReal) (A : Fin 256 → EReal) (KC : ℕ → EReal) (sl : EReal) (VC : ℕ → EReal)
    (W : ℕ → Fin 128 → EReal) (hV0 : ∀ R, 0 ≤ VC R) (hV : ∀ R, VC R ≤ (C : EReal))
    (h3 : ∀ (c : Fin 256) (d : Fin 128) (D : Fin 512), D.val = 0 + d.val → arg3.view.read (Elt Ideal) X3 (ix3 0 c D) = Q c d)
    (h4 : ∀ c, (arg4.view.read (Elt Ideal) X4 (ix4 0 0 0 c) : EReal) * (Named.named (F := Ideal) (φ := .f32) κ "logit_scale" 0x3E0293EE#32) = A c)
    (h5 : ∀ (R : Fin 8192) d, arg5.view.read (Elt Ideal) X5 (ix3 0 R d) = K R.val d)
    (h6 : ∀ (R : Fin 8192) d, arg6.view.read (Elt Ideal) X6 (ix3 0 d R) = W R.val d)
    (h10 : ∀ (R : Fin 8192) l, arg10.view.read (Elt Ideal) G10 (ix2 R l) = KC R.val)
    (h11 : ∀ (R : Fin 8192) l, arg11.view.read (Elt Ideal) G11 (ix2 R l) = VC R.val)
    (hsl : (k0_pay145 (F := Ideal) i) (ix2 0 0) = sl) :
    ∃ P : Vec Ideal S1x256x128 .bf16, (headRun0 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1
        = arg9.view.writes (Elt Ideal) G9 [⟨Rect.unit ![0, 0, 0] S1x256x128.size inb_S1x256x512_S1x256x128_0_0_0, P⟩]
      ∧ ∀ c d, P (ix3 0 c d) = rowOf (tileOf i).val (logitOf (tileOf i).val K Q A KC sl) (fun j r => VC (256 * j + r.val))
          (fun j r => W (256 * j + r.val)) c d := by
  unfold headRun0
  dsimp only
  refine ⟨_, rfl, fun c d => ?_⟩
  rw [show Scf.trips (k0_t4_loop i).lb (k0_t4_loop i).ub (k0_t4_loop i).st = 0 from t4_trips i,
    show Scf.trips (k0_t2_loop i).lb (k0_t2_loop i).ub (k0_t2_loop i).st = 0 from t2_trips i]
  have key := head_core (tileOf i).val K Q A KC sl VC W hC hC' hV0 hV (tileOf i).isLt X3 X5 X6 G10 G11 G12 G13 h5 h6 h10 h11
    (arg3.view.readAt (Elt Ideal) (Rect.unit (s := S1x256x512) ![0, 0, 0] S1x256x128.size inb_S1x256x512_S1x256x128_0_0_0).toLoadRect X3) (fun c d => ?hq) (k0_pay146 (arg4.view.readAt (Elt Ideal) (Rect.unit (s := S1x4x1x256) ![0, 0, 0, 0] S1x1x1x256.size inb_S1x4x1x256_S1x1x1x256_0_0_0_0).toLoadRect X4)) (fun c => ?ha) (k0_pay145 (F := Ideal) i) hsl
    (k0_off1 i) (k0_off1_inb i) (off1 i) (k0_off2 i) (k0_off2_inb i) (off2 i) (k0_off3 i) (k0_off3_inb i) (off3 i)
    (k0_off4 i) (k0_off4_inb i) (off4 i) _ (tile_off (tileOf i)) _ rfl _ _ rfl rfl (n := (k0_t1_loop i).trips) (t1_trips i)
    (st_k0_t1 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) (k0_pay152 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)) (k0_pay155 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay148 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)) (k0_pay157 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay149 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) 0#32 1#32 (Scalar.divsi (Scalar.subi (BitVec.ofNat 32 (i 2).val) 0#32) 1#32) X3 X5 G10 G11 ((k0_pay152 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)), (k0_pay155 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay148 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)), (k0_pay157 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay149 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))))
    (fun k => k0_off5 i k) (fun k => k0_off5_inb i k) (fun k => off5 i k)
    (fun k => k0_off6 i k) (fun k => k0_off6_inb i k) (fun k => off6 i k)
    (fun k => k0_off7 i k) (fun k => k0_off7_inb i k) (fun k => off7 i k)
    (fun k => k0_off8 i k) (fun k => k0_off8_inb i k) (fun k => off8 i k)
    _ (fun k => offWord i k)
    _ (fun k => rfl) _ (fun k => rfl)
    rfl (fun k => ?hs1) (fun k => ?hs2) (fun k => ?hs3)
    (n' := (k0_t3_loop i).trips) (t3_trips i)
    (let st := st_k0_t1 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) (k0_pay152 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)) (k0_pay155 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay148 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)) (k0_pay157 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay149 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) 0#32 1#32 (Scalar.divsi (Scalar.subi (BitVec.ofNat 32 (i 2).val) 0#32) 1#32) X3 X5 G10 G11 ((k0_pay152 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)), (k0_pay155 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay148 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10)), (k0_pay157 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 k0_pay149 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))); st_k0_t3 (F := Ideal) 𝒱 dv none i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (st (k0_t1_loop i).trips).1.1 (k0_pay167 (k0_pay165 (st (k0_t1_loop i).trips).1.2.1 (st (k0_t1_loop i).trips).1.2.2) (k0_pay166 (st (k0_t1_loop i).trips).1.2.1 (st (k0_t1_loop i).trips).1.2.2)) (k0_pay168 (k0_pay164 (st (k0_t1_loop i).trips).1.2.1) (k0_pay165 (st (k0_t1_loop i).trips).1.2.1 (st (k0_t1_loop i).trips).1.2.2) (k0_pay166 (st (k0_t1_loop i).trips).1.2.1 (st (k0_t1_loop i).trips).1.2.2)) k0_pay169 0#32 (Scalar.addi 0#32 (Scalar.muli (Scalar.divsi (Scalar.subi (Scalar.addi (BitVec.ofNat 32 (i 2).val) 1#32) 0#32) 1#32) 1#32)) X6 (arg12.view.writes (Elt Ideal) G12 ((st (k0_t1_loop i).trips).2.1 ++ [⟨Rect.unit (s := S8192x256) (k0_off3 i) S256x256.size (k0_off3_inb i), (k0_pay158 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))⟩])) (arg13.view.writes (Elt Ideal) G13 ((st (k0_t1_loop i).trips).2.2 ++ [⟨Rect.unit (s := S32x256) (k0_off4 i) S1x256.size (k0_off4_inb i), (k0_pay159 (iota .tc S256x256 32 [0] iota_S256x256_d0_w32) (iota .tc S256x256 32 [1] iota_S256x256_d1_w32) k0_pay144 (k0_pay145 (F := Ideal) i) (k0_pay146 (arg4.view.readAt (Elt Ideal) (Rect.unit (s := S1x4x1x256) ![0, 0, 0, 0] S1x1x1x256.size inb_S1x4x1x256_S1x1x1x256_0_0_0_0).toLoadRect X4)) k0_pay147 (k0_pay150 (arg5.view.readAt (Elt Ideal) (Rect.unit (s := S1x8192x128) (k0_off1 i) S1x256x128.size (k0_off1_inb i)).toLoadRect X5) (arg3.view.readAt (Elt Ideal) (Rect.unit (s := S1x256x512) ![0, 0, 0] S1x256x128.size inb_S1x256x512_S1x256x128_0_0_0).toLoadRect X3)) (Scalar.subi (BitVec.ofNat 32 (i 2).val) (BitVec.ofNat 32 (i 2).val)) (arg10.view.readAt (Elt Ideal) (Rect.unit (s := S8192x128) (k0_off2 i) S256x128.size (k0_off2_inb i)).toLoadRect G10))⟩])) k0_pay169)
    (fun k => k0_off13 i k) (fun k => k0_off13_inb i k) (fun k => off13 i k)
    (fun k => k0_off14 i k) (fun k => k0_off14_inb i k) (fun k => off14 i k)
    (fun k => k0_off15 i k) (fun k => k0_off15_inb i k) (fun k => off15 i k)
    rfl (fun k => ?hs') c d
  case hq =>
    rw [read_unit _ _ _ _ _ _ (ix3 0 c ⟨0 + d.val, by omega⟩), h3 _ _ _ rfl]
    intro a; match a with
    | ⟨0, _⟩ => simp
    | ⟨1, _⟩ => simp
    | ⟨2, _⟩ => simp
  case ha =>
    rw [← h4 c, ← read_unit arg4.view X4 ![0, 0, 0, 0] S1x1x1x256.size inb_S1x4x1x256_S1x1x1x256_0_0_0_0 (ix4 0 0 0 c) (ix4 0 0 0 c) (by
      intro a; match a with
      | ⟨0, _⟩ => simp
      | ⟨1, _⟩ => simp
      | ⟨2, _⟩ => simp
      | ⟨3, _⟩ => simp)]
    generalize arg4.view.readAt (Elt Ideal) (Rect.unit (s := S1x4x1x256) ![0, 0, 0, 0] S1x1x1x256.size inb_S1x4x1x256_S1x1x1x256_0_0_0_0).toLoadRect X4 = R
    exact scale_apply R c
  case hs1 => rw [st_k0_t1_succ]; unfold tripR_k0_t1 trip_k0_t1; rfl
  case hs2 => rw [st_k0_t1_succ]; unfold tripL_k0_t1 trip_k0_t1; rfl
  case hs3 => rw [st_k0_t1_succ]; unfold tripL_k0_t1 trip_k0_t1; rfl
  case hs' => rw [st_k0_t3_succ]; unfold tripR_k0_t3 trip_k0_t3; rfl
  exact key

end Cert.KernelIdeal.Hand

end
-- ==== Proof.Head1Value.lean ====
/-
  Hand-written. Head 1 of a group: the block of the result it stores, in terms of what the input buffers and the two columns of scales hold.
-/
module

public import proofs.«01_k».proof.Proof.Core
public import proofs.«01_k».proof.Proof.Bounds
public import proofs.«01_k».proof.Proof.Head

@[expose] public section

set_option maxRecDepth 16384
set_option maxHeartbeats 4000000

noncomputable section

namespace Cert.KernelIdeal.Hand

open Cert.KernelIdeal Cert.KernelIdeal.Gen
open Idealize.ShloMosaic

set_option backward.isDefEq.respectTransparency.types false in
theorem headValue1 {C : ℝ} (hC : 0 ≤ C) (hC' : C ≤ 2 ^ 128) (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (K : ℕ → Fin 128 → EReal) (Q : Fin 256 → Fin 128 → EReal) (A : Fin 256 → EReal) (KC : ℕ → EReal) (sl : EReal) (VC : ℕ → EReal)
    (W : ℕ → Fin 128 → EReal) (hV0 : ∀ R, 0 ≤ VC R) (hV : ∀ R, VC R ≤ (C : EReal))
    (h3 : ∀ (c : Fin 256) (d : Fin 128) (D : Fin 512), D.val = 128 + d.val → arg3.view.read (Elt Ideal) X3 (ix3 0 c D) = Q c d)
    (h4 : ∀ c, (arg4.view.read (Elt Ideal) X4 (ix4 0 1 0 c) : EReal) * (Named.named (F := Ideal) (φ := .f32) κ "logit_scale" 0x3E0293EE#32) = A c)
    (h5 : ∀ (R : Fin 8192) d, arg5.view.read (Elt Ideal) X5 (ix3 0 R d) = K R.val d)
    (h6 : ∀ (R : Fin 8192) d, arg6.view.read (Elt Ideal) X6 (ix3 0 d R) = W R.val d)
    (h10 : ∀ (R : Fin 8192) l, arg10.view.read (Elt Ideal) G10 (ix2 R l) = KC R.val)
    (h11 : ∀ (R : Fin 8192) l, arg11.view.read (Elt Ideal) G11 (ix2 R l) = VC R.val)
    (hsl : (k0_pay173 (F := Ideal) (BitVec.ofNat 32 (i 1).val)) (ix2 0 0) = sl) :
    ∃ P : Vec Ideal S1x256x128 .bf16, (headRun1 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1
        = arg9.view.writes (Elt Ideal) G9 [⟨Rect.unit ![0, 0, 128] S1x256x128.size inb_S1x256x512_S1x256x128_0_0_128, P⟩]
      ∧ ∀ c d, P (ix3 0 c d) = rowOf (tileOf i).val (logitOf (tileOf i).val K Q A KC sl) (fun j r => VC (256 * j + r.val))
          (fun j r => W (256 * j + r.val)) c d := by
  unfold headRun1
  dsimp only
  refine ⟨_, rfl, fun c d => ?_⟩
  rw [show Scf.trips (k0_t8_loop i).lb (k0_t8_loop i).ub (k0_t8_loop i).st = 0 from t4_trips i,
    show Scf.trips (k0_t6_loop i).lb (k0_t6_loop i).ub (k0_t6_loop i).st = 0 from t2_trips i]
  have key := head_core (tileOf i).val K Q A KC sl VC W hC hC' hV0 hV (tileOf i).isLt X3 X5 X6 G10 G11 G12 G13 h5 h6 h10 h11
    (arg3.view.readAt (Elt Ideal) (Rect.unit (s := S1x256x512) ![0, 0, 128] S1x256x128.size inb_S1x256x512_S1x256x128_0_0_128).toLoadRect X3) (fun c d => ?hq) (k0_pay174 (arg4.view.readAt (Elt Ideal) (Rect.unit (s := S1x4x1x256) ![0, 1, 0, 0] S1x1x1x256.size inb_S1x4x1x256_S1x1x1x256_0_1_0_0).toLoadRect X4)) (fun c => ?ha) (k0_pay173 (F := Ideal) (BitVec.ofNat 32 (i 1).val)) hsl
    (k0_off1 i) (k0_off1_inb i) (off1 i) (k0_off2 i) (k0_off2_inb i) (off2 i) (k0_off3 i) (k0_off3_inb i) (off3 i)
    (k0_off4 i) (k0_off4_inb i) (off4 i) _ (tile_off (tileOf i)) _ rfl _ _ rfl rfl (n := (k0_t5_loop i).trips) (t1_trips i)
    (st_k0_t5 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) (k0_pay180 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)) (k0_pay183 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay176 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)) (k0_pay185 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay177 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) (arg13.view.readAt (Elt Ideal) (Rect.unit (s := S32x256) (k0_off4 i) S1x256.size (k0_off4_inb i)).toLoadRect G13) X3 X5 G10 G11 ((k0_pay180 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)), (k0_pay183 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay176 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)), (k0_pay185 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay177 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))))
    (fun k => k0_off19 i k) (fun k => k0_off19_inb i k) (fun k => off5 i k)
    (fun k => k0_off20 i k) (fun k => k0_off20_inb i k) (fun k => off6 i k)
    (fun k => k0_off21 i k) (fun k => k0_off21_inb i k) (fun k => off7 i k)
    (fun k => k0_off22 i k) (fun k => k0_off22_inb i k) (fun k => off8 i k)
    _ (fun k => offWord i k)
    _ (fun k => rfl) _ (fun k => rfl)
    rfl (fun k => ?hs1) (fun k => ?hs2) (fun k => ?hs3)
    (n' := (k0_t7_loop i).trips) (t3_trips i)
    (let st := st_k0_t5 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) (k0_pay180 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)) (k0_pay183 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay176 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)) (k0_pay185 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay177 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) (arg13.view.readAt (Elt Ideal) (Rect.unit (s := S32x256) (k0_off4 i) S1x256.size (k0_off4_inb i)).toLoadRect G13) X3 X5 G10 G11 ((k0_pay180 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)), (k0_pay183 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay176 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)), (k0_pay185 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 k0_pay177 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))); st_k0_t7 (F := Ideal) 𝒱 dv none i arg3 harg3 arg4 harg4 arg5 harg5 arg6 harg6 arg7 harg7 arg8 harg8 arg9 harg9 arg10 harg10 arg11 harg11 arg12 harg12 arg13 harg13 (BitVec.ofNat 32 (i 1).val) (Scalar.addi (BitVec.ofNat 32 (i 2).val) 1#32) (st (k0_t5_loop i).trips).1.1 (k0_pay195 (k0_pay193 (st (k0_t5_loop i).trips).1.2.1 (st (k0_t5_loop i).trips).1.2.2) (k0_pay194 (st (k0_t5_loop i).trips).1.2.1 (st (k0_t5_loop i).trips).1.2.2) 8#32) (k0_pay196 (k0_pay192 (st (k0_t5_loop i).trips).1.2.1) (k0_pay193 (st (k0_t5_loop i).trips).1.2.1 (st (k0_t5_loop i).trips).1.2.2) (k0_pay194 (st (k0_t5_loop i).trips).1.2.1 (st (k0_t5_loop i).trips).1.2.2) 8#32) (FloatOps.ofBits (F := Ideal) FTy.f32 0#32) X6 (arg12.view.writes (Elt Ideal) G12 ((st (k0_t5_loop i).trips).2.1 ++ [⟨Rect.unit (s := S8192x256) (k0_off3 i) S256x256.size (k0_off3_inb i), (k0_pay186 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))⟩])) (arg13.view.writes (Elt Ideal) G13 ((st (k0_t5_loop i).trips).2.2 ++ [⟨Rect.unit (s := S32x256) (k0_off4 i) S1x256.size (k0_off4_inb i), (k0_pay187 (k0_pay180 (BitVec.ofNat 32 (i 2).val) (iota .tc S256x256 32 [0] iota_S256x256_d0_w32) (iota .tc S256x256 32 [1] iota_S256x256_d1_w32) k0_pay144 (k0_pay173 (F := Ideal) (BitVec.ofNat 32 (i 1).val)) (k0_pay174 (arg4.view.readAt (Elt Ideal) (Rect.unit (s := S1x4x1x256) ![0, 1, 0, 0] S1x1x1x256.size inb_S1x4x1x256_S1x1x1x256_0_1_0_0).toLoadRect X4)) k0_pay175 (k0_pay178 (arg5.view.readAt (Elt Ideal) (Rect.unit (s := S1x8192x128) (k0_off1 i) S1x256x128.size (k0_off1_inb i)).toLoadRect X5)) (arg3.view.readAt (Elt Ideal) (Rect.unit (s := S1x256x512) ![0, 0, 128] S1x256x128.size inb_S1x256x512_S1x256x128_0_0_128).toLoadRect X3) (arg10.view.readAt (Elt Ideal) (Rect.unit (s := S8192x128) (k0_off2 i) S256x128.size (k0_off2_inb i)).toLoadRect G10)))⟩])) (k0_pay197 (FloatOps.ofBits (F := Ideal) FTy.f32 0#32)))
    (fun k => k0_off27 i k) (fun k => k0_off27_inb i k) (fun k => off13 i k)
    (fun k => k0_off28 i k) (fun k => k0_off28_inb i k) (fun k => off14 i k)
    (fun k => k0_off29 i k) (fun k => k0_off29_inb i k) (fun k => off15 i k)
    rfl (fun k => ?hs') c d
  case hq =>
    rw [read_unit _ _ _ _ _ _ (ix3 0 c ⟨128 + d.val, by omega⟩), h3 _ _ _ rfl]
    intro a; match a with
    | ⟨0, _⟩ => simp
    | ⟨1, _⟩ => simp
    | ⟨2, _⟩ => simp
  case ha =>
    rw [← h4 c, ← read_unit arg4.view X4 ![0, 1, 0, 0] S1x1x1x256.size inb_S1x4x1x256_S1x1x1x256_0_1_0_0 (ix4 0 0 0 c) (ix4 0 1 0 c) (by
      intro a; match a with
      | ⟨0, _⟩ => simp
      | ⟨1, _⟩ => simp
      | ⟨2, _⟩ => simp
      | ⟨3, _⟩ => simp)]
    generalize arg4.view.readAt (Elt Ideal) (Rect.unit (s := S1x4x1x256) ![0, 1, 0, 0] S1x1x1x256.size inb_S1x4x1x256_S1x1x1x256_0_1_0_0).toLoadRect X4 = R
    exact scale_apply R c
  case hs1 => rw [st_k0_t5_succ]; unfold tripR_k0_t5 trip_k0_t5; rfl
  case hs2 => rw [st_k0_t5_succ]; unfold tripL_k0_t5 trip_k0_t5; rfl
  case hs3 => rw [st_k0_t5_succ]; unfold tripL_k0_t5 trip_k0_t5; rfl
  case hs' => rw [st_k0_t7_succ]; unfold tripR_k0_t7 trip_k0_t7; rfl
  exact key

end Cert.KernelIdeal.Hand

end
-- ==== Proof.Head2Value.lean ====
/-
  Hand-written. Head 2 of a group: the block of the result it stores, in terms of what the input buffers and the two columns of scales hold.
-/
module

public import proofs.«01_k».proof.Proof.Core
public import proofs.«01_k».proof.Proof.Bounds
public import proofs.«01_k».proof.Proof.Head

@[expose] public section

set_option maxRecDepth 16384
set_option maxHeartbeats 4000000

noncomputable section

namespace Cert.KernelIdeal.Hand

open Cert.KernelIdeal Cert.KernelIdeal.Gen
open Idealize.ShloMosaic

set_option backward.isDefEq.respectTransparency.types false in
theorem headValue2 {C : ℝ} (hC : 0 ≤ C) (hC' : C ≤ 2 ^ 128) (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (K : ℕ → Fin 128 → EReal) (Q : Fin 256 → Fin 128 → EReal) (A : Fin 256 → EReal) (KC : ℕ → EReal) (sl : EReal) (VC : ℕ → EReal)
    (W : ℕ → Fin 128 → EReal) (hV0 : ∀ R, 0 ≤ VC R) (hV : ∀ R, VC R ≤ (C : EReal))
    (h3 : ∀ (c : Fin 256) (d : Fin 128) (D : Fin 512), D.val = 256 + d.val → arg3.view.read (Elt Ideal) X3 (ix3 0 c D) = Q c d)
    (h4 : ∀ c, (arg4.view.read (Elt Ideal) X4 (ix4 0 2 0 c) : EReal) * (Named.named (F := Ideal) (φ := .f32) κ "logit_scale" 0x3E0293EE#32) = A c)
    (h5 : ∀ (R : Fin 8192) d, arg5.view.read (Elt Ideal) X5 (ix3 0 R d) = K R.val d)
    (h6 : ∀ (R : Fin 8192) d, arg6.view.read (Elt Ideal) X6 (ix3 0 d R) = W R.val d)
    (h10 : ∀ (R : Fin 8192) l, arg10.view.read (Elt Ideal) G10 (ix2 R l) = KC R.val)
    (h11 : ∀ (R : Fin 8192) l, arg11.view.read (Elt Ideal) G11 (ix2 R l) = VC R.val)
    (hsl : (k0_pay201 (F := Ideal) (BitVec.ofNat 32 (i 1).val)) (ix2 0 0) = sl) :
    ∃ P : Vec Ideal S1x256x128 .bf16, (headRun2 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1
        = arg9.view.writes (Elt Ideal) G9 [⟨Rect.unit ![0, 0, 256] S1x256x128.size inb_S1x256x512_S1x256x128_0_0_256, P⟩]
      ∧ ∀ c d, P (ix3 0 c d) = rowOf (tileOf i).val (logitOf (tileOf i).val K Q A KC sl) (fun j r => VC (256 * j + r.val))
          (fun j r => W (256 * j + r.val)) c d := by
  unfold headRun2
  dsimp only
  refine ⟨_, rfl, fun c d => ?_⟩
  rw [show Scf.trips (k0_t12_loop i).lb (k0_t12_loop i).ub (k0_t12_loop i).st = 0 from t4_trips i,
    show Scf.trips (k0_t10_loop i).lb (k0_t10_loop i).ub (k0_t10_loop i).st = 0 from t2_trips i]
  have key := head_core (tileOf i).val K Q A KC sl VC W hC hC' hV0 hV (tileOf i).isLt X3 X5 X6 G10 G11 G12 G13 h5 h6 h10 h11
    (arg3.view.readAt (Elt Ideal) (Rect.unit (s := S1x256x512) ![0, 0, 256] S1x256x128.size inb_S1x256x512_S1x256x128_0_0_256).toLoadRect X3) (fun c d => ?hq) (k0_pay202 (arg4.view.readAt (Elt Ideal) (Rect.unit (s := S1x4x1x256) ![0, 2, 0, 0] S1x1x1x256.size inb_S1x4x1x256_S1x1x1x256_0_2_0_0).toLoadRect X4)) (fun c => ?ha) (k0_pay201 (F := Ideal) (BitVec.ofNat 32 (i 1).val)) hsl
    (k0_off1 i) (k0_off1_inb i) (off1 i) (k0_off2 i) (k0_off2_inb i) (off2 i) (k0_off3 i) (k0_off3_inb i) (off3 i)
    (k0_off4 i) (k0_off4_inb i) (off4 i) _ (tile_off (tileOf i)) _ rfl _ _ rfl rfl (n := (k0_t9_loop i).trips) (t1_trips i)
    (st_k0_t9 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) (k0_pay207 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)) (k0_pay210 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay204 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)) (k0_pay211 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) (k0_pay212 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay205 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) X3 X5 G10 G11 ((k0_pay207 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)), (k0_pay210 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay204 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)), (k0_pay212 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay205 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))))
    (fun k => k0_off33 i k) (fun k => k0_off33_inb i k) (fun k => off5 i k)
    (fun k => k0_off34 i k) (fun k => k0_off34_inb i k) (fun k => off6 i k)
    (fun k => k0_off35 i k) (fun k => k0_off35_inb i k) (fun k => off7 i k)
    (fun k => k0_off36 i k) (fun k => k0_off36_inb i k) (fun k => off8 i k)
    _ (fun k => offWord i k)
    _ (fun k => rfl) _ (fun k => rfl)
    rfl (fun k => ?hs1) (fun k => ?hs2) (fun k => ?hs3)
    (n' := (k0_t11_loop i).trips) (t3_trips i)
    (let st := st_k0_t9 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) (k0_pay207 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)) (k0_pay210 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay204 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)) (k0_pay211 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) (k0_pay212 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay205 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)) X3 X5 G10 G11 ((k0_pay207 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)), (k0_pay210 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay204 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)), (k0_pay212 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 k0_pay205 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11))); st_k0_t11 (F := Ideal) 𝒱 dv none i arg3 harg3 arg4 harg4 arg5 harg5 arg6 harg6 arg7 harg7 arg8 harg8 arg9 harg9 arg10 harg10 arg11 harg11 arg12 harg12 arg13 harg13 (BitVec.ofNat 32 (i 1).val) (Scalar.addi (BitVec.ofNat 32 (i 2).val) 1#32) (st (k0_t9_loop i).trips).1.1 (k0_pay219 (st (k0_t9_loop i).trips).1.2.1) (k0_pay223 (k0_pay220 (st (k0_t9_loop i).trips).1.2.1 (st (k0_t9_loop i).trips).1.2.2) (k0_pay221 (st (k0_t9_loop i).trips).1.2.1 (st (k0_t9_loop i).trips).1.2.2) k0_pay222) (k0_pay224 (k0_pay220 (st (k0_t9_loop i).trips).1.2.1 (st (k0_t9_loop i).trips).1.2.2) (k0_pay221 (st (k0_t9_loop i).trips).1.2.1 (st (k0_t9_loop i).trips).1.2.2) k0_pay222) 127#32 X6 (arg12.view.writes (Elt Ideal) G12 ((st (k0_t9_loop i).trips).2.1 ++ [⟨Rect.unit (s := S8192x256) (k0_off3 i) S256x256.size (k0_off3_inb i), (k0_pay213 (k0_pay211 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10) (arg11.view.readAt (Elt Ideal) (Rect.unit (s := S8192x128) (k0_off2 i) S256x128.size (k0_off2_inb i)).toLoadRect G11)))⟩])) (arg13.view.writes (Elt Ideal) G13 ((st (k0_t9_loop i).trips).2.2 ++ [⟨Rect.unit (s := S32x256) (k0_off4 i) S1x256.size (k0_off4_inb i), (k0_pay214 (k0_pay207 (BitVec.ofNat 32 (i 2).val) (iota .tc S256x256 32 [0] iota_S256x256_d0_w32) (iota .tc S256x256 32 [1] iota_S256x256_d1_w32) k0_pay144 (k0_pay201 (F := Ideal) (BitVec.ofNat 32 (i 1).val)) (k0_pay202 (arg4.view.readAt (Elt Ideal) (Rect.unit (s := S1x4x1x256) ![0, 2, 0, 0] S1x1x1x256.size inb_S1x4x1x256_S1x1x1x256_0_2_0_0).toLoadRect X4)) k0_pay203 (arg5.view.readAt (Elt Ideal) (Rect.unit (s := S1x8192x128) (k0_off1 i) S1x256x128.size (k0_off1_inb i)).toLoadRect X5) (arg3.view.readAt (Elt Ideal) (Rect.unit (s := S1x256x512) ![0, 0, 256] S1x256x128.size inb_S1x256x512_S1x256x128_0_0_256).toLoadRect X3) (arg10.view.readAt (Elt Ideal) (Rect.unit (s := S8192x128) (k0_off2 i) S256x128.size (k0_off2_inb i)).toLoadRect G10)))⟩])) k0_pay226)
    (fun k => k0_off41 i k) (fun k => k0_off41_inb i k) (fun k => off13 i k)
    (fun k => k0_off42 i k) (fun k => k0_off42_inb i k) (fun k => off14 i k)
    (fun k => k0_off43 i k) (fun k => k0_off43_inb i k) (fun k => off15 i k)
    rfl (fun k => ?hs') c d
  case hq =>
    rw [read_unit _ _ _ _ _ _ (ix3 0 c ⟨256 + d.val, by omega⟩), h3 _ _ _ rfl]
    intro a; match a with
    | ⟨0, _⟩ => simp
    | ⟨1, _⟩ => simp
    | ⟨2, _⟩ => simp
  case ha =>
    rw [← h4 c, ← read_unit arg4.view X4 ![0, 2, 0, 0] S1x1x1x256.size inb_S1x4x1x256_S1x1x1x256_0_2_0_0 (ix4 0 0 0 c) (ix4 0 2 0 c) (by
      intro a; match a with
      | ⟨0, _⟩ => simp
      | ⟨1, _⟩ => simp
      | ⟨2, _⟩ => simp
      | ⟨3, _⟩ => simp)]
    generalize arg4.view.readAt (Elt Ideal) (Rect.unit (s := S1x4x1x256) ![0, 2, 0, 0] S1x1x1x256.size inb_S1x4x1x256_S1x1x1x256_0_2_0_0).toLoadRect X4 = R
    exact scale_apply R c
  case hs1 => rw [st_k0_t9_succ]; unfold tripR_k0_t9 trip_k0_t9; rfl
  case hs2 => rw [st_k0_t9_succ]; unfold tripL_k0_t9 trip_k0_t9; rfl
  case hs3 => rw [st_k0_t9_succ]; unfold tripL_k0_t9 trip_k0_t9; rfl
  case hs' => rw [st_k0_t11_succ]; unfold tripR_k0_t11 trip_k0_t11; rfl
  exact key

end Cert.KernelIdeal.Hand

end
-- ==== Proof.Head3Value.lean ====
/-
  Hand-written. Head 3 of a group: the block of the result it stores, in terms of what the input buffers and the two columns of scales hold.
-/
module

public import proofs.«01_k».proof.Proof.Core
public import proofs.«01_k».proof.Proof.Bounds
public import proofs.«01_k».proof.Proof.Head

@[expose] public section

set_option maxRecDepth 16384
set_option maxHeartbeats 4000000

noncomputable section

namespace Cert.KernelIdeal.Hand

open Cert.KernelIdeal Cert.KernelIdeal.Gen
open Idealize.ShloMosaic

set_option backward.isDefEq.respectTransparency.types false in
theorem headValue3 {C : ℝ} (hC : 0 ≤ C) (hC' : C ≤ 2 ^ 128) (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (K : ℕ → Fin 128 → EReal) (Q : Fin 256 → Fin 128 → EReal) (A : Fin 256 → EReal) (KC : ℕ → EReal) (sl : EReal) (VC : ℕ → EReal)
    (W : ℕ → Fin 128 → EReal) (hV0 : ∀ R, 0 ≤ VC R) (hV : ∀ R, VC R ≤ (C : EReal))
    (h3 : ∀ (c : Fin 256) (d : Fin 128) (D : Fin 512), D.val = 384 + d.val → arg3.view.read (Elt Ideal) X3 (ix3 0 c D) = Q c d)
    (h4 : ∀ c, (arg4.view.read (Elt Ideal) X4 (ix4 0 3 0 c) : EReal) * (Named.named (F := Ideal) (φ := .f32) κ "logit_scale" 0x3E0293EE#32) = A c)
    (h5 : ∀ (R : Fin 8192) d, arg5.view.read (Elt Ideal) X5 (ix3 0 R d) = K R.val d)
    (h6 : ∀ (R : Fin 8192) d, arg6.view.read (Elt Ideal) X6 (ix3 0 d R) = W R.val d)
    (h10 : ∀ (R : Fin 8192) l, arg10.view.read (Elt Ideal) G10 (ix2 R l) = KC R.val)
    (h11 : ∀ (R : Fin 8192) l, arg11.view.read (Elt Ideal) G11 (ix2 R l) = VC R.val)
    (hsl : (k0_pay230 (F := Ideal) (BitVec.ofNat 32 (i 1).val)) (ix2 0 0) = sl) :
    ∃ P : Vec Ideal S1x256x128 .bf16, (headRun3 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1
        = arg9.view.writes (Elt Ideal) G9 [⟨Rect.unit ![0, 0, 384] S1x256x128.size inb_S1x256x512_S1x256x128_0_0_384, P⟩]
      ∧ ∀ c d, P (ix3 0 c d) = rowOf (tileOf i).val (logitOf (tileOf i).val K Q A KC sl) (fun j r => VC (256 * j + r.val))
          (fun j r => W (256 * j + r.val)) c d := by
  unfold headRun3
  dsimp only
  refine ⟨_, rfl, fun c d => ?_⟩
  rw [show Scf.trips (k0_t16_loop i).lb (k0_t16_loop i).ub (k0_t16_loop i).st = 0 from t4_trips i,
    show Scf.trips (k0_t14_loop i).lb (k0_t14_loop i).ub (k0_t14_loop i).st = 0 from t2_trips i]
  have key := head_core (tileOf i).val K Q A KC sl VC W hC hC' hV0 hV (tileOf i).isLt X3 X5 X6 G10 G11 G12 G13 h5 h6 h10 h11
    (arg3.view.readAt (Elt Ideal) (Rect.unit (s := S1x256x512) ![0, 0, 384] S1x256x128.size inb_S1x256x512_S1x256x128_0_0_384).toLoadRect X3) (fun c d => ?hq) (k0_pay232 (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32)) (fun c => ?ha) (k0_pay230 (F := Ideal) (BitVec.ofNat 32 (i 1).val)) hsl
    (k0_off1 i) (k0_off1_inb i) (off1 i) (k0_off2 i) (k0_off2_inb i) (off2 i) (k0_off3 i) (k0_off3_inb i) (off3 i)
    (k0_off4 i) (k0_off4_inb i) (off4 i) _ (tile_off (tileOf i)) _ rfl _ _ rfl rfl (n := (k0_t13_loop i).trips) (t1_trips i)
    (st_k0_t13 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay230 (F := Ideal) (BitVec.ofNat 32 (i 1).val)) (k0_pay232 (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32)) k0_pay234 (Scalar.muli (BitVec.ofNat 32 (i 2).val) 256#32) (k0_pay236 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay237 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay238 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay239 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (arg11.view.readAt (Elt Ideal) (Rect.unit (s := S8192x128) (k0_off2 i) S256x128.size (k0_off2_inb i)).toLoadRect G11) X3 X5 G10 G11 ((k0_pay236 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)), (k0_pay239 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)), (k0_pay241 k0_pay234 (k0_pay237 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay238 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (arg11.view.readAt (Elt Ideal) (Rect.unit (s := S8192x128) (k0_off2 i) S256x128.size (k0_off2_inb i)).toLoadRect G11))))
    (fun k => k0_off47 i k) (fun k => k0_off47_inb i k) (fun k => off5 i k)
    (fun k => k0_off48 i k) (fun k => k0_off48_inb i k) (fun k => off6 i k)
    (fun k => k0_off49 i k) (fun k => k0_off49_inb i k) (fun k => off7 i k)
    (fun k => k0_off50 i k) (fun k => k0_off50_inb i k) (fun k => off8 i k)
    _ (fun k => offWord i k)
    _ (fun k => rfl) _ (fun k => rfl)
    rfl (fun k => ?hs1) (fun k => ?hs2) (fun k => ?hs3)
    (n' := (k0_t15_loop i).trips) (t3_trips i)
    (let st := st_k0_t13 (F := Ideal) 𝒱 dv none i arg3 harg3 arg4 harg4 arg5 harg5 arg6 harg6 arg7 harg7 arg8 harg8 arg9 harg9 arg10 harg10 arg11 harg11 arg12 harg12 arg13 harg13 (BitVec.ofNat 32 (i 2).val) k0_pay144 (k0_pay230 (F := Ideal) (BitVec.ofNat 32 (i 1).val)) (k0_pay232 (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32)) k0_pay234 (Scalar.muli (BitVec.ofNat 32 (i 2).val) 256#32) (k0_pay236 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay237 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay238 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay239 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (arg11.view.readAt (Elt Ideal) (Rect.unit (s := S8192x128) (k0_off2 i) S256x128.size (k0_off2_inb i)).toLoadRect G11) X3 X5 G10 G11 ((k0_pay236 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)), (k0_pay239 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)), (k0_pay241 k0_pay234 (k0_pay237 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (k0_pay238 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (arg11.view.readAt (Elt Ideal) (Rect.unit (s := S8192x128) (k0_off2 i) S256x128.size (k0_off2_inb i)).toLoadRect G11))); st_k0_t15 (F := Ideal) 𝒱 dv none i arg3 harg3 arg4 harg4 arg5 harg5 arg6 harg6 arg7 harg7 arg8 harg8 arg9 harg9 arg10 harg10 arg11 harg11 arg12 harg12 arg13 harg13 (st (k0_t13_loop i).trips).1.1 (k0_pay248 (st (k0_t13_loop i).trips).1.2.1) (k0_pay252 (k0_pay249 (st (k0_t13_loop i).trips).1.2.1 (st (k0_t13_loop i).trips).1.2.2) (k0_pay250 (st (k0_t13_loop i).trips).1.2.1 (st (k0_t13_loop i).trips).1.2.2) (k0_pay251 (st (k0_t13_loop i).trips).1.2.1 (st (k0_t13_loop i).trips).1.2.2)) (k0_pay253 (k0_pay249 (st (k0_t13_loop i).trips).1.2.1 (st (k0_t13_loop i).trips).1.2.2) (k0_pay250 (st (k0_t13_loop i).trips).1.2.1 (st (k0_t13_loop i).trips).1.2.2) (k0_pay251 (st (k0_t13_loop i).trips).1.2.1 (st (k0_t13_loop i).trips).1.2.2)) k0_pay254 X6 (arg12.view.writes (Elt Ideal) G12 ((st (k0_t13_loop i).trips).2.1 ++ [⟨Rect.unit (s := S8192x256) (k0_off3 i) S256x256.size (k0_off3_inb i), (k0_pay242 (k0_pay238 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)) (arg11.view.readAt (Elt Ideal) (Rect.unit (s := S8192x128) (k0_off2 i) S256x128.size (k0_off2_inb i)).toLoadRect G11))⟩])) (arg13.view.writes (Elt Ideal) G13 ((st (k0_t13_loop i).trips).2.2 ++ [⟨Rect.unit (s := S32x256) (k0_off4 i) S1x256.size (k0_off4_inb i), (k0_pay243 (k0_pay236 (BitVec.ofNat 32 (i 2).val) (iota .tc S256x256 32 [0] iota_S256x256_d0_w32) (iota .tc S256x256 32 [1] iota_S256x256_d1_w32) k0_pay144 (k0_pay230 (F := Ideal) (BitVec.ofNat 32 (i 1).val)) (k0_pay231 (arg4.view.readAt (Elt Ideal) (Rect.unit (s := S1x4x1x256) ![0, 3, 0, 0] S1x1x1x256.size inb_S1x4x1x256_S1x1x1x256_0_3_0_0).toLoadRect X4)) (Named.named (F := Ideal) (φ := .f32) κ "logit_scale" 0x3E0293EE#32) (arg5.view.readAt (Elt Ideal) (Rect.unit (s := S1x8192x128) (k0_off1 i) S1x256x128.size (k0_off1_inb i)).toLoadRect X5) (arg3.view.readAt (Elt Ideal) (Rect.unit (s := S1x256x512) ![0, 0, 384] S1x256x128.size inb_S1x256x512_S1x256x128_0_0_384).toLoadRect X3) (arg10.view.readAt (Elt Ideal) (Rect.unit (s := S8192x128) (k0_off2 i) S256x128.size (k0_off2_inb i)).toLoadRect G10)))⟩])) k0_pay257)
    (fun k => k0_off55 i k) (fun k => k0_off55_inb i k) (fun k => off13 i k)
    (fun k => k0_off56 i k) (fun k => k0_off56_inb i k) (fun k => off14 i k)
    (fun k => k0_off57 i k) (fun k => k0_off57_inb i k) (fun k => off15 i k)
    rfl (fun k => ?hs') c d
  case hq =>
    rw [read_unit _ _ _ _ _ _ (ix3 0 c ⟨384 + d.val, by omega⟩), h3 _ _ _ rfl]
    intro a; match a with
    | ⟨0, _⟩ => simp
    | ⟨1, _⟩ => simp
    | ⟨2, _⟩ => simp
  case ha =>
    rw [← h4 c, ← read_unit arg4.view X4 ![0, 3, 0, 0] S1x1x1x256.size inb_S1x4x1x256_S1x1x1x256_0_3_0_0 (ix4 0 0 0 c) (ix4 0 3 0 c) (by
      intro a; match a with
      | ⟨0, _⟩ => simp
      | ⟨1, _⟩ => simp
      | ⟨2, _⟩ => simp
      | ⟨3, _⟩ => simp)]
    generalize arg4.view.readAt (Elt Ideal) (Rect.unit (s := S1x4x1x256) ![0, 3, 0, 0] S1x1x1x256.size inb_S1x4x1x256_S1x1x1x256_0_3_0_0).toLoadRect X4 = R
    exact scale_apply R c
  case hs1 => rw [st_k0_t13_succ]; unfold tripR_k0_t13 trip_k0_t13; rfl
  case hs2 => rw [st_k0_t13_succ]; unfold tripL_k0_t13 trip_k0_t13; rfl
  case hs3 => rw [st_k0_t13_succ]; unfold tripL_k0_t13 trip_k0_t13; rfl
  case hs' => rw [st_k0_t15_succ]; unfold tripR_k0_t15 trip_k0_t15; rfl
  exact key

end Cert.KernelIdeal.Hand

end
-- ==== Proof.Init.lean ====
/-
  Hand-written. The start of a grid point: what it leaves in the two columns of scales.
-/
module

public import proofs.«01_k».proof.Proof.Gen.KernelIdeal.Frame
public import proofs.«01_k».proof.Proof.Gen.KernelIdeal.Loops
public import proofs.«01_k».proof.Proof.Stretch
public import Idealize.ShloMosaic.Lib.Pipeline.Frame
public import Idealize.ShloMosaic.Lib.Tactic

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The start of a point: one run of its stretch. At the first tile of a head group the two columns of scales are filled; at the others nothing
    happens. What the columns hold afterwards is found by the run. -/
def initRun (𝒱 : Variants) (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) :
    Σ' (f10 : BufTy.Contents (Elt F) arg10.view.ty), { f11 : BufTy.Contents (Elt F) arg11.view.ty // ∀ (E : Set ℕ) (R : Type) (κ : s1.K (F := F) i arg3 harg3 arg4 harg4 arg5 harg5 arg6 harg6 arg7 harg7 arg8 harg8 arg9 harg9 arg10 harg10 arg11 harg11 arg12 harg12 arg13 harg13 (R := R)) (Q : R → sProp 𝕄),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} G12) ∗ (arg13.view.loc (c : Thread nD τ) ↦[arg13.view.set]{fullShare} G13)) -∗ wp frame (wpE (defs₀ (F := F)) 𝒱 (c : Thread nD τ) none) E κ Q)) : sProp 𝕄)
      ⊢ wp frame (wpE (defs₀ (F := F)) 𝒱 (c : Thread nD τ) none) E (s1 (F := F) i arg3 harg3 arg4 harg4 arg5 harg5 arg6 harg6 arg7 harg7 arg8 harg8 arg9 harg9 arg10 harg10 arg11 harg11 arg12 harg12 arg13 harg13 κ) Q } := by
  refine ⟨?_, ?_, fun E R κ Q => ?run⟩
  case run =>
    unfold s1
    iintro ⟨H3, H4, H5, H6, H7, H8, H9, H10, H11, H12, H13, Hκ⟩
    sl_exec
    iapply Hκ
    sl_close

end Cert.KernelIdeal.Hand
end
-- ==== Proof.InitValue.lean ====
/-
  Hand-written. The two columns of scales: after the start of a head group's first tile each row of them holds its key/value head's scale.
-/
module

public import proofs.«01_k».proof.Proof.Core
public import proofs.«01_k».proof.Proof.Bounds
public import proofs.«01_k».proof.Proof.Init

@[expose] public section

set_option maxRecDepth 16384
set_option maxHeartbeats 4000000

noncomputable section

namespace Cert.KernelIdeal.Hand

open Cert.KernelIdeal Cert.KernelIdeal.Gen
open Idealize.ShloMosaic

/-- Comparing a lane's number with a head's number compares the numbers. -/
theorem lane_eq : ∀ a k : Fin 4, Scalar.cmpi .eq (BitVec.ofNat 32 a.val) (BitVec.ofNat 32 k.val) = if a = k then 1#1 else 0#1 := by
  decide +kernel

/-- A block of scales of every head, summed over the lanes with all lanes but one head's set to zero, is that head's column, in every lane. -/
theorem lanePick_apply (k : Fin 4) (B : Vec Ideal S1x256x4 .f32) (r : Fin 256) (l : Fin 128) :
    k0_pay2 (F := Ideal) (BitVec.ofNat 32 k.val) B (ix2 r l) = B (ix3 0 r k) := by
  unfold k0_pay2
  pointwise
  have e : ∀ x : Fin 4, Scalar.select (IntOp.cmpi CmpIPredicate.eq (BitVec.ofNat 32 x.val) (BitVec.ofNat 32 k.val)) (B (ix3 0 r x)) (0 : EReal)
      = if x = k then B (ix3 0 r x) else 0 := by
    intro x
    have h := lane_eq x k
    unfold Scalar.cmpi at h
    rw [h]
    by_cases hx : x = k <;> simp [hx, Scalar.select]
  refine (Finset.sum_congr rfl fun x _ => e x).trans ?_
  simp

/-- A piece of a column read where it was written. -/
theorem column_piece {sp : Space} (arg : Memref sig .tc sp S1x8192x4 .f32) (X : BufTy.Contents (Elt Ideal) arg.view.ty) (k : Fin 4) (o : ℕ)
    (inb : ∀ a, (![o, 0] : Fin 2 → ℕ) a + S256x128.size a ≤ S8192x128.size a)
    (inb' : ∀ a, (![0, o, 0] : Fin 3 → ℕ) a + S1x256x4.size a ≤ S1x8192x4.size a)
    (w : (Rect.unit (s := S8192x128) ![o, 0] S256x128.size inb).shape.Idx → Elt Ideal .f32)
    (hw : w = k0_pay2 (F := Ideal) (BitVec.ofNat 32 k.val)
      (arg.view.readAt (Elt Ideal) (Rect.unit (s := S1x8192x4) ![0, o, 0] S1x256x4.size inb').toLoadRect X))
    (x : (Rect.unit (s := S8192x128) ![o, 0] S256x128.size inb).shape.Idx) :
    w x = arg.view.read (Elt Ideal) X (ix3 (n0 := 1) (n1 := 8192) (n2 := 4) 0
      ((Rect.unit (s := S8192x128) ![o, 0] S256x128.size inb).emb x 0) k) := by
  subst hw
  obtain ⟨r, l, rfl⟩ : ∃ (r : Fin 256) (l : Fin 128), x = ix2 r l := ⟨x 0, x 1, by funext a; fin_cases a <;> rfl⟩
  refine (lanePick_apply k _ r l).trans ?_
  refine read_unit arg.view X _ _ _ _ _ fun a => ?_
  fin_cases a
  · rfl
  · simp [Rect.emb, Rect.unit, ix3, ix2]
  · simp [ix3]

/-- The start's work is done exactly at the first tile. -/
theorem start_iff : ∀ t : Fin 32, Scalar.cmpi .ne (Scalar.extui (Scalar.cmpi .eq (BitVec.ofNat 32 t.val) 0#32) : BitVec 32) 0#32 = 1#1 ↔ t.val = 0 := by
  decide +kernel

set_option backward.isDefEq.respectTransparency.types false in
theorem keyColumn (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h0 : (i 2).val = 0) (R : Fin 8192) (l : Fin 128) :
    arg10.view.read (Elt Ideal) (initRun (F := Ideal) 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1 (ix2 R l) = arg7.view.read (Elt Ideal) X7 (ix3 0 R (i 1)) := by
  have hc := start_iff (i 2) |>.2 h0
  unfold initRun
  dsimp only
  rw [dif_pos hc]
  refine View.read_writes_apply_of_pieces arg10.view _ (fun y => arg7.view.read (Elt Ideal) X7 (ix3 (n0 := 1) (n1 := 8192) (n2 := 4) 0 (y 0) (i 1))) _ ?_ (ix2 R l) ?_
  rotate_left
  · refine View.cover_of_tiled (s := S8192x128) _ ![256, 128] ?_ _
    rfl
  iterate 32
    refine List.forall_mem_cons.2 ⟨?_, ?_⟩
    · refine column_piece arg7 X7 (i 1) _ ?_ ?_ _ ?_
      all_goals first | decide | rfl
  exact fun p hp => absurd hp List.not_mem_nil

set_option backward.isDefEq.respectTransparency.types false in
theorem keyColumn_later (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h0 : (i 2).val ≠ 0) :
    (initRun (F := Ideal) 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).1 = G10 := by
  have hc := mt (start_iff (i 2)).1 h0
  unfold initRun
  dsimp only
  rw [dif_neg hc]

set_option backward.isDefEq.respectTransparency.types false in
theorem valueColumn (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h0 : (i 2).val = 0) (R : Fin 8192) (l : Fin 128) :
    arg11.view.read (Elt Ideal) (initRun (F := Ideal) 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).2.1 (ix2 R l) = arg8.view.read (Elt Ideal) X8 (ix3 0 R (i 1)) := by
  have hc := start_iff (i 2) |>.2 h0
  unfold initRun
  dsimp only
  rw [dif_pos hc]
  refine View.read_writes_apply_of_pieces arg11.view _ (fun y => arg8.view.read (Elt Ideal) X8 (ix3 (n0 := 1) (n1 := 8192) (n2 := 4) 0 (y 0) (i 1))) _ ?_ (ix2 R l) ?_
  rotate_left
  · refine View.cover_of_tiled (s := S8192x128) _ ![256, 128] ?_ _
    rfl
  iterate 32
    refine List.forall_mem_cons.2 ⟨?_, ?_⟩
    · refine column_piece arg8 X8 (i 1) _ ?_ ?_ _ ?_
      all_goals first | decide | rfl
  exact fun p hp => absurd hp List.not_mem_nil

set_option backward.isDefEq.respectTransparency.types false in
theorem valueColumn_later (𝒱 : Variants) (dv : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
    (h0 : (i 2).val ≠ 0) :
    (initRun (F := Ideal) 𝒱 dv i arg3 harg3 arg4 harg4 arg5 harg5 arg6 harg6 arg7 harg7 arg8 harg8 arg9 harg9 arg10 harg10 arg11 harg11 arg12 harg12 arg13 harg13 X3 X4 X5 X6 X7 X8 G9 G10 G11 G12 G13).2.1 = G11 := by
  have hc := mt (start_iff (i 2)).1 h0
  unfold initRun
  dsimp only
  rw [dif_neg hc]

end Cert.KernelIdeal.Hand
end
-- ==== Proof.Chain.lean ====
/-
  Hand-written. The body of the kernel as its five stretches one after the other.
-/
module

public import proofs.«01_k».proof.Proof.Gen.KernelIdeal.Frame
public import proofs.«01_k».proof.Proof.Gen.KernelIdeal.Loops
public import proofs.«01_k».proof.Proof.Head
public import proofs.«01_k».proof.Proof.Init
public import Idealize.ShloMosaic.Lib.Pipeline.Frame
public import Idealize.ShloMosaic.Lib.Tactic

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The eleven buffers of a point, each at the contents named. -/
def held (c : Dev nD) (arg3 : Memref sig .tc .vmem S1x256x512 .fp8e4m3) (arg4 : Memref sig .tc .vmem S1x4x1x256 .f32) (arg5 : Memref sig .tc .vmem S1x8192x128 .fp8e4m3) (arg6 : Memref sig .tc .vmem S1x128x8192 .fp8e4m3) (arg7 : Memref sig .tc .vmem S1x8192x4 .f32) (arg8 : Memref sig .tc .vmem S1x8192x4 .f32) (arg9 : Memref sig .tc .vmem S1x256x512 .bf16) (arg10 : Memref sig .tc .vmem S8192x128 .f32) (arg11 : Memref sig .tc .vmem S8192x128 .f32) (arg12 : Memref sig .tc .vmem S8192x256 .f32) (arg13 : Memref sig .tc .vmem S32x256 .f32)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- A program that ends with the eleven buffers at `H` when it starts with them at `G`. -/
def Moves (c : Dev nD) (arg3 : Memref sig .tc .vmem S1x256x512 .fp8e4m3) (arg4 : Memref sig .tc .vmem S1x4x1x256 .f32) (arg5 : Memref sig .tc .vmem S1x8192x128 .fp8e4m3) (arg6 : Memref sig .tc .vmem S1x128x8192 .fp8e4m3) (arg7 : Memref sig .tc .vmem S1x8192x4 .f32) (arg8 : Memref sig .tc .vmem S1x8192x4 .f32) (arg9 : Memref sig .tc .vmem S1x256x512 .bf16) (arg10 : Memref sig .tc .vmem S8192x128 .f32) (arg11 : Memref sig .tc .vmem S8192x128 .f32) (arg12 : Memref sig .tc .vmem S8192x256 .f32) (arg13 : Memref sig .tc .vmem S32x256 .f32)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (H9 : BufTy.Contents (Elt F) arg9.view.ty) (H10 : BufTy.Contents (Elt F) arg10.view.ty) (H11 : BufTy.Contents (Elt F) arg11.view.ty) (H12 : BufTy.Contents (Elt F) arg12.view.ty) (H13 : BufTy.Contents (Elt F) arg13.view.ty)
    (p : Prog (TpuEff nD τ sig (Elt F) Λ₀ Proc.tc) PUnit.{1}) : Prop :=
  ∀ Q : PUnit → sProp 𝕄, (iprop(held c arg3 arg4 arg5 arg6 arg7 arg8 arg9 arg10 arg11 arg12 arg13 X3 X4 X5 X6 X7 X8 G9 G10 G11 G12 G13 ∗ (held c arg3 arg4 arg5 arg6 arg7 arg8 arg9 arg10 arg11 arg12 arg13 X3 X4 X5 X6 X7 X8 H9 H10 H11 H12 H13 -∗ Q ⟨⟩)) : sProp 𝕄) ⊢ wp frame (wpE (defs₀ (F := F)) Variants.none (c : Thread nD τ) none) Set.univ p Q

/-- One stretch before the rest. -/
theorem moves_step (c : Dev nD) (arg3 : Memref sig .tc .vmem S1x256x512 .fp8e4m3) (arg4 : Memref sig .tc .vmem S1x4x1x256 .f32) (arg5 : Memref sig .tc .vmem S1x8192x128 .fp8e4m3) (arg6 : Memref sig .tc .vmem S1x128x8192 .fp8e4m3) (arg7 : Memref sig .tc .vmem S1x8192x4 .f32) (arg8 : Memref sig .tc .vmem S1x8192x4 .f32) (arg9 : Memref sig .tc .vmem S1x256x512 .bf16) (arg10 : Memref sig .tc .vmem S8192x128 .f32) (arg11 : Memref sig .tc .vmem S8192x128 .f32) (arg12 : Memref sig .tc .vmem S8192x256 .f32) (arg13 : Memref sig .tc .vmem S32x256 .f32)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (H9 : BufTy.Contents (Elt F) arg9.view.ty) (H10 : BufTy.Contents (Elt F) arg10.view.ty) (H11 : BufTy.Contents (Elt F) arg11.view.ty) (H12 : BufTy.Contents (Elt F) arg12.view.ty) (H13 : BufTy.Contents (Elt F) arg13.view.ty) (J9 : BufTy.Contents (Elt F) arg9.view.ty) (J10 : BufTy.Contents (Elt F) arg10.view.ty) (J11 : BufTy.Contents (Elt F) arg11.view.ty) (J12 : BufTy.Contents (Elt F) arg12.view.ty) (J13 : BufTy.Contents (Elt F) arg13.view.ty)
    (p tail : Prog (TpuEff nD τ sig (Elt F) Λ₀ Proc.tc) PUnit.{1})
    (h : ∀ Q : PUnit → sProp 𝕄, (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} H9) ∗ (arg10.view.loc (c : Thread nD τ) ↦[arg10.view.set]{fullShare} H10) ∗ (arg11.view.loc (c : Thread nD τ) ↦[arg11.view.set]{fullShare} H11) ∗ (arg12.view.loc (c : Thread nD τ) ↦[arg12.view.set]{fullShare} H12) ∗ (arg13.view.loc (c : Thread nD τ) ↦[arg13.view.set]{fullShare} H13)) -∗ wp frame (wpE (defs₀ (F := F)) Variants.none (c : Thread nD τ) none) Set.univ tail Q)) : sProp 𝕄) ⊢ wp frame (wpE (defs₀ (F := F)) Variants.none (c : Thread nD τ) none) Set.univ p Q)
    (ht : Moves c arg3 arg4 arg5 arg6 arg7 arg8 arg9 arg10 arg11 arg12 arg13 X3 X4 X5 X6 X7 X8 H9 H10 H11 H12 H13 J9 J10 J11 J12 J13 tail) :
    Moves c arg3 arg4 arg5 arg6 arg7 arg8 arg9 arg10 arg11 arg12 arg13 X3 X4 X5 X6 X7 X8 G9 G10 G11 G12 G13 J9 J10 J11 J12 J13 p := by
  intro Q
  refine BIBase.Entails.trans ?_ (h Q)
  unfold held
  iintro ⟨⟨H3, H4, H5, H6, H7, H8, H9, H10, H11, H12, H13⟩, Hk⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro H
  iapply (ht Q)
  isplitl [H]
  · unfold held
    iexact H
  unfold held
  iexact Hk

theorem moves_nil (c : Dev nD) (arg3 : Memref sig .tc .vmem S1x256x512 .fp8e4m3) (arg4 : Memref sig .tc .vmem S1x4x1x256 .f32) (arg5 : Memref sig .tc .vmem S1x8192x128 .fp8e4m3) (arg6 : Memref sig .tc .vmem S1x128x8192 .fp8e4m3) (arg7 : Memref sig .tc .vmem S1x8192x4 .f32) (arg8 : Memref sig .tc .vmem S1x8192x4 .f32) (arg9 : Memref sig .tc .vmem S1x256x512 .bf16) (arg10 : Memref sig .tc .vmem S8192x128 .f32) (arg11 : Memref sig .tc .vmem S8192x128 .f32) (arg12 : Memref sig .tc .vmem S8192x256 .f32) (arg13 : Memref sig .tc .vmem S32x256 .f32)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) : Moves (F := F) c arg3 arg4 arg5 arg6 arg7 arg8 arg9 arg10 arg11 arg12 arg13 X3 X4 X5 X6 X7 X8 G9 G10 G11 G12 G13 G9 G10 G11 G12 G13 s5.tail := by
  intro Q
  unfold s5.tail
  iintro ⟨H, Hk⟩
  sl_step
  iapply Hk
  iexact H

variable (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty)

/-- What a buffer holds between stretches. -/
def col10 : BufTy.Contents (Elt F) arg10.view.ty := (initRun Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13).1

/-- What a buffer holds between stretches. -/
def col11 : BufTy.Contents (Elt F) arg11.view.ty := (initRun Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13).2.1

/-- What a buffer holds between stretches. -/
def out0 : BufTy.Contents (Elt F) arg9.view.ty := (headRun0 Variants.none c i arg3 harg3 arg4 harg4 arg5 harg5 arg6 harg6 arg7 harg7 arg8 harg8 arg9 harg9 arg10 harg10 arg11 harg11 arg12 harg12 arg13 harg13 X3 X4 X5 X6 X7 X8 G9 (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) G12 G13).1

/-- What a buffer holds between stretches. -/
def rows0 : BufTy.Contents (Elt F) arg12.view.ty := (headRun0 Variants.none c i arg3 harg3 arg4 harg4 arg5 harg5 arg6 harg6 arg7 harg7 arg8 harg8 arg9 harg9 arg10 harg10 arg11 harg11 arg12 harg12 arg13 harg13 X3 X4 X5 X6 X7 X8 G9 (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) G12 G13).2.1

/-- What a buffer holds between stretches. -/
def codes0 : BufTy.Contents (Elt F) arg13.view.ty := (headRun0 Variants.none c i arg3 harg3 arg4 harg4 arg5 harg5 arg6 harg6 arg7 harg7 arg8 harg8 arg9 harg9 arg10 harg10 arg11 harg11 arg12 harg12 arg13 harg13 X3 X4 X5 X6 X7 X8 G9 (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) G12 G13).2.2.1

/-- What a buffer holds between stretches. -/
def out1 : BufTy.Contents (Elt F) arg9.view.ty := (headRun1 Variants.none c i arg3 harg3 arg4 harg4 arg5 harg5 arg6 harg6 arg7 harg7 arg8 harg8 arg9 harg9 arg10 harg10 arg11 harg11 arg12 harg12 arg13 harg13 X3 X4 X5 X6 X7 X8 (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes0 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).1

/-- What a buffer holds between stretches. -/
def rows1 : BufTy.Contents (Elt F) arg12.view.ty := (headRun1 Variants.none c i arg3 harg3 arg4 harg4 arg5 harg5 arg6 harg6 arg7 harg7 arg8 harg8 arg9 harg9 arg10 harg10 arg11 harg11 arg12 harg12 arg13 harg13 X3 X4 X5 X6 X7 X8 (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes0 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.1

/-- What a buffer holds between stretches. -/
def codes1 : BufTy.Contents (Elt F) arg13.view.ty := (headRun1 Variants.none c i arg3 harg3 arg4 harg4 arg5 harg5 arg6 harg6 arg7 harg7 arg8 harg8 arg9 harg9 arg10 harg10 arg11 harg11 arg12 harg12 arg13 harg13 X3 X4 X5 X6 X7 X8 (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes0 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.1

/-- What a buffer holds between stretches. -/
def out2 : BufTy.Contents (Elt F) arg9.view.ty := (headRun2 Variants.none c i arg3 harg3 arg4 harg4 arg5 harg5 arg6 harg6 arg7 harg7 arg8 harg8 arg9 harg9 arg10 harg10 arg11 harg11 arg12 harg12 arg13 harg13 X3 X4 X5 X6 X7 X8 (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes1 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).1

/-- What a buffer holds between stretches. -/
def rows2 : BufTy.Contents (Elt F) arg12.view.ty := (headRun2 Variants.none c i arg3 harg3 arg4 harg4 arg5 harg5 arg6 harg6 arg7 harg7 arg8 harg8 arg9 harg9 arg10 harg10 arg11 harg11 arg12 harg12 arg13 harg13 X3 X4 X5 X6 X7 X8 (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes1 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.1

/-- What a buffer holds between stretches. -/
def codes2 : BufTy.Contents (Elt F) arg13.view.ty := (headRun2 Variants.none c i arg3 harg3 arg4 harg4 arg5 harg5 arg6 harg6 arg7 harg7 arg8 harg8 arg9 harg9 arg10 harg10 arg11 harg11 arg12 harg12 arg13 harg13 X3 X4 X5 X6 X7 X8 (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes1 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.1

/-- What a buffer holds between stretches. -/
def out3 : BufTy.Contents (Elt F) arg9.view.ty := (headRun3 Variants.none c i arg3 harg3 arg4 harg4 arg5 harg5 arg6 harg6 arg7 harg7 arg8 harg8 arg9 harg9 arg10 harg10 arg11 harg11 arg12 harg12 arg13 harg13 X3 X4 X5 X6 X7 X8 (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes2 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).1

/-- What a buffer holds between stretches. -/
def rows3 : BufTy.Contents (Elt F) arg12.view.ty := (headRun3 Variants.none c i arg3 harg3 arg4 harg4 arg5 harg5 arg6 harg6 arg7 harg7 arg8 harg8 arg9 harg9 arg10 harg10 arg11 harg11 arg12 harg12 arg13 harg13 X3 X4 X5 X6 X7 X8 (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes2 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.1

/-- What a buffer holds between stretches. -/
def codes3 : BufTy.Contents (Elt F) arg13.view.ty := (headRun3 Variants.none c i arg3 harg3 arg4 harg4 arg5 harg5 arg6 harg6 arg7 harg7 arg8 harg8 arg9 harg9 arg10 harg10 arg11 harg11 arg12 harg12 arg13 harg13 X3 X4 X5 X6 X7 X8 (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes2 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.1

/-- The body moves the eleven buffers as its five stretches do. -/
theorem body_moves : Moves c arg3 arg4 arg5 arg6 arg7 arg8 arg9 arg10 arg11 arg12 arg13 X3 X4 X5 X6 X7 X8 G9 G10 G11 G12 G13 (out3 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows3 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes3 c i arg3 harg3 arg4 harg4 arg5 harg5 arg6 harg6 arg7 harg7 arg8 harg8 arg9 harg9 arg10 harg10 arg11 harg11 arg12 harg12 arg13 harg13 X3 X4 X5 X6 X7 X8 G9 G10 G11 G12 G13)
    (cc0_attention (F := F) i arg3 harg3 arg4 harg4 arg5 harg5 arg6 harg6 arg7 harg7 arg8 harg8 arg9 harg9 arg10 harg10 arg11 harg11 arg12 harg12 arg13 harg13) := by
  rw [cc0_attention_eq_skeleton, attn.eq, s1.eq]
  refine moves_step c _ _ _ _ _ _ _ _ _ _ _ _ _ _ _ _ _ _ _ _ _ _ _ _ _ _ _ _ _ _ _ _  _ _ (fun Q => (initRun Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13).2.2 Set.univ PUnit _ Q) ?_
  rw [s2.eq]
  refine moves_step c _ _ _ _ _ _ _ _ _ _ _ _ _ _ _ _ _ _ _ _ _ _ _ _ _ _ _ _ _ _ _ _  _ _ (fun Q => (headRun0 Variants.none c i arg3 harg3 arg4 harg4 arg5 harg5 arg6 harg6 arg7 harg7 arg8 harg8 arg9 harg9 arg10 harg10 arg11 harg11 arg12 harg12 arg13 harg13 X3 X4 X5 X6 X7 X8 G9 (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) G12 G13).2.2.2 Set.univ PUnit _ Q) ?_
  rw [s3.eq]
  refine moves_step c _ _ _ _ _ _ _ _ _ _ _ _ _ _ _ _ _ _ _ _ _ _ _ _ _ _ _ _ _ _ _ _  _ _ (fun Q => (headRun1 Variants.none c i arg3 harg3 arg4 harg4 arg5 harg5 arg6 harg6 arg7 harg7 arg8 harg8 arg9 harg9 arg10 harg10 arg11 harg11 arg12 harg12 arg13 harg13 X3 X4 X5 X6 X7 X8 (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes0 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.2 Set.univ PUnit _ Q) ?_
  rw [s4.eq]
  refine moves_step c _ _ _ _ _ _ _ _ _ _ _ _ _ _ _ _ _ _ _ _ _ _ _ _ _ _ _ _ _ _ _ _  _ _ (fun Q => (headRun2 Variants.none c i arg3 harg3 arg4 harg4 arg5 harg5 arg6 harg6 arg7 harg7 arg8 harg8 arg9 harg9 arg10 harg10 arg11 harg11 arg12 harg12 arg13 harg13 X3 X4 X5 X6 X7 X8 (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes1 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.2 Set.univ PUnit _ Q) ?_
  rw [s5.eq]
  refine moves_step c _ _ _ _ _ _ _ _ _ _ _ _ _ _ _ _ _ _ _ _ _ _ _ _ _ _ _ _ _ _ _ _  _ _ (fun Q => (headRun3 Variants.none c i arg3 harg3 arg4 harg4 arg5 harg5 arg6 harg6 arg7 harg7 arg8 harg8 arg9 harg9 arg10 harg10 arg11 harg11 arg12 harg12 arg13 harg13 X3 X4 X5 X6 X7 X8 (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes2 c i arg3 harg3 arg4 harg4 arg5 harg5 arg6 harg6 arg7 harg7 arg8 harg8 arg9 harg9 arg10 harg10 arg11 harg11 arg12 harg12 arg13 harg13 X3 X4 X5 X6 X7 X8 G9 G10 G11 G12 G13)).2.2.2 Set.univ PUnit _ Q) ?_
  exact moves_nil c _ _ _ _ _ _ _ _ _ _ _ _ _ _ _ _ _ _ _ _ _ _

end Cert.KernelIdeal.Hand
end
-- ==== Proof.BodyValue.lean ====
/-
  Hand-written. What the body leaves in the result's buffer at a grid point, as a formula in what the six input buffers hold.
-/
module

public import proofs.«01_k».proof.Proof.Head0Value
public import proofs.«01_k».proof.Proof.Head1Value
public import proofs.«01_k».proof.Proof.Head2Value
public import proofs.«01_k».proof.Proof.Head3Value
public import proofs.«01_k».proof.Proof.InitValue
public import proofs.«01_k».proof.Proof.Chain

@[expose] public section

set_option maxRecDepth 16384
set_option maxHeartbeats 4000000

noncomputable section

namespace Cert.KernelIdeal.Hand

open Cert.KernelIdeal Cert.KernelIdeal.Gen
open Idealize.ShloMosaic

/-- The slope of query head `h` in units of the logarithm of two. -/
def slopeAt (h : ℕ) : ℝ := (Real.log 2)⁻¹ * (2 : ℝ) ^ (-(1 / 2 : ℝ) * ((h : ℝ) + 1))

theorem log2e_named : Named.named (F := Ideal) (φ := .f32) κ "log2e" 0x3FB8AA3B#32 = (((Real.log 2)⁻¹ : ℝ) : EReal) :=
  IdealRules.named_const.ideal_named_scalar _ _ _ _ rfl

theorem half_bits : Ideal.ofBits .f32 0xBF000000#32 = ((-(1 / 2 : ℝ) : ℝ) : EReal) := by
  simp [Ideal.ofBits, Ideal.ieee]
  rw [← EReal.coe_mul]
  norm_num

theorem slope_scalar (x : BitVec 32) (h : ℕ) (hx : x.toInt = (h : ℤ) + 1) :
    (Named.named (F := Ideal) (φ := .f32) κ "log2e" 0x3FB8AA3B#32 : EReal)
      * Ideal.exp2 (Ideal.ofBits .f32 0xBF000000#32 * (((x.toInt : ℝ) : EReal))) = (slopeAt h : EReal) := by
  rw [log2e_named, half_bits, hx, ← EReal.coe_mul, Ideal.exp2_coe, ← EReal.coe_mul]
  unfold slopeAt
  push_cast
  rfl

theorem headNumber0 : ∀ k : Fin 4, (Scalar.addi (Scalar.addi (Scalar.muli (BitVec.ofNat 32 k.val) 4#32) 0#32) 1#32).toInt = ((4 * k.val + 0 : ℕ) : ℤ) + 1 := by
  decide +kernel

theorem slope0 (i : grid0.Coords) : k0_pay145 (F := Ideal) i (ix2 0 0) = (slopeAt (4 * (i 1).val + 0) : EReal) :=
  slope_scalar _ _ (headNumber0 (i 1))

theorem headNumber1 : ∀ k : Fin 4, (Scalar.addi (Scalar.addi (Scalar.muli (BitVec.ofNat 32 k.val) 4#32) 1#32) 1#32).toInt = ((4 * k.val + 1 : ℕ) : ℤ) + 1 := by
  decide +kernel

theorem slope1 (i : grid0.Coords) : k0_pay173 (F := Ideal) (BitVec.ofNat 32 (i 1).val) (ix2 0 0) = (slopeAt (4 * (i 1).val + 1) : EReal) :=
  slope_scalar _ _ (headNumber1 (i 1))

theorem headNumber2 : ∀ k : Fin 4, (Scalar.addi (Scalar.addi (Scalar.muli (BitVec.ofNat 32 k.val) 4#32) 2#32) 1#32).toInt = ((4 * k.val + 2 : ℕ) : ℤ) + 1 := by
  decide +kernel

theorem slope2 (i : grid0.Coords) : k0_pay201 (F := Ideal) (BitVec.ofNat 32 (i 1).val) (ix2 0 0) = (slopeAt (4 * (i 1).val + 2) : EReal) :=
  slope_scalar _ _ (headNumber2 (i 1))

theorem headNumber3 : ∀ k : Fin 4, (Scalar.addi (Scalar.addi (Scalar.muli (BitVec.ofNat 32 k.val) 4#32) 3#32) 1#32).toInt = ((4 * k.val + 3 : ℕ) : ℤ) + 1 := by
  decide +kernel

theorem slope3 (i : grid0.Coords) : k0_pay230 (F := Ideal) (BitVec.ofNat 32 (i 1).val) (ix2 0 0) = (slopeAt (4 * (i 1).val + 3) : EReal) :=
  slope_scalar _ _ (headNumber3 (i 1))

/-- A table of the keys read at any number, zero past the last key. -/
def ext {α : Type} [Zero α] (f : Fin 8192 → α) : ℕ → α := fun R => if h : R < 8192 then f ⟨R, h⟩ else 0

theorem ext_val {α : Type} [Zero α] (f : Fin 8192 → α) (R : Fin 8192) : ext f R.val = f R := by
  unfold ext; rw [dif_pos R.isLt]

/-- One entry of head `g`'s block of the result. -/
def headOut (i : grid0.Coords) (B3 : S1x256x512.Idx → EReal) (B4 : S1x4x1x256.Idx → EReal) (B5 : S1x8192x128.Idx → EReal)
    (B6 : S1x128x8192.Idx → EReal) (B7 B8 : S1x8192x4.Idx → EReal) (g : Fin 4) (c : Fin 256) (d : Fin 128) : EReal :=
  rowOf (tileOf i).val
    (logitOf (tileOf i).val (ext fun R d => B5 (ix3 0 R d)) (fun c d => B3 (ix3 0 c ⟨128 * g.val + d.val, by omega⟩))
      (fun c => B4 (ix4 0 g 0 c) * Named.named (F := Ideal) (φ := .f32) κ "logit_scale" 0x3E0293EE#32)
      (ext fun R => B7 (ix3 0 R (i 1))) (slopeAt (4 * (i 1).val + g.val) : EReal))
    (fun j r => ext (fun R => B8 (ix3 0 R (i 1))) (256 * j + r.val)) (fun j r => ext (fun R d => B6 (ix3 0 d R)) (256 * j + r.val)) c d

/-- The block of the result at a grid point. -/
def outOf (i : grid0.Coords) (B3 : S1x256x512.Idx → EReal) (B4 : S1x4x1x256.Idx → EReal) (B5 : S1x8192x128.Idx → EReal)
    (B6 : S1x128x8192.Idx → EReal) (B7 B8 : S1x8192x4.Idx → EReal) : S1x256x512.Idx → EReal := fun y =>
  headOut i B3 B4 B5 B6 B7 B8 ⟨(y 2).val / 128, by have : (y 2).val < 512 := (y 2).isLt; omega⟩ (y 1) ⟨(y 2).val % 128, by omega⟩

/-- The column of one key/value head's scales, repeated in every lane. -/
def column (i : grid0.Coords) (B : S1x8192x4.Idx → EReal) : S8192x128.Idx → EReal := fun y => B (ix3 (n0 := 1) (n1 := 8192) (n2 := 4) 0 (y 0) (i 1))

variable (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty)

theorem col10_value (h : (i 2).val ≠ 0 → arg10.view.read (Elt Ideal) G10 = column i (arg7.view.read (Elt Ideal) X7)) :
    arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7) := by
  by_cases h0 : (i 2).val = 0
  · funext y
    obtain ⟨R, l, rfl⟩ : ∃ (R : Fin 8192) (l : Fin 128), y = ix2 R l := ⟨y 0, y 1, by funext a; fin_cases a <;> rfl⟩
    exact keyColumn Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13 h0 R l
  · unfold col10
    rw [keyColumn_later Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13 h0]
    exact h h0

theorem col11_value (h : (i 2).val ≠ 0 → arg11.view.read (Elt Ideal) G11 = column i (arg8.view.read (Elt Ideal) X8)) :
    arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8) := by
  by_cases h0 : (i 2).val = 0
  · funext y
    obtain ⟨R, l, rfl⟩ : ∃ (R : Fin 8192) (l : Fin 128), y = ix2 R l := ⟨y 0, y 1, by funext a; fin_cases a <;> rfl⟩
    exact valueColumn Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13 h0 R l
  · unfold col11
    rw [valueColumn_later Variants.none c i arg3 harg3 arg4 harg4 arg5 harg5 arg6 harg6 arg7 harg7 arg8 harg8 arg9 harg9 arg10 harg10 arg11 harg11 arg12 harg12 arg13 harg13 X3 X4 X5 X6 X7 X8 G9 G10 G11 G12 G13 h0]
    exact h h0

theorem out0_value {C : ℝ} (hC : 0 ≤ C) (hC' : C ≤ 2 ^ 128) (hV : ∀ y, 0 ≤ (arg8.view.read (Elt Ideal) X8) y ∧ (arg8.view.read (Elt Ideal) X8) y ≤ (C : EReal))
    (h10 : arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7)) (h11 : arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8)) :
    ∃ P : Vec Ideal S1x256x128 .bf16,
      (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = arg9.view.writes (Elt Ideal) G9 [⟨Rect.unit (s := S1x256x512) ![0, 0, 0] S1x256x128.size inb_S1x256x512_S1x256x128_0_0_0, P⟩]
      ∧ ∀ c d, P (ix3 0 c d) = headOut i (arg3.view.read (Elt Ideal) X3) (arg4.view.read (Elt Ideal) X4) (arg5.view.read (Elt Ideal) X5) (arg6.view.read (Elt Ideal) X6) (arg7.view.read (Elt Ideal) X7) (arg8.view.read (Elt Ideal) X8) (0 : Fin 4) c d := by
  refine headValue0 hC hC' Variants.none c i arg3 harg3 arg4 harg4 arg5 harg5 arg6 harg6 arg7 harg7 arg8 harg8 arg9 harg9 arg10 harg10 arg11 harg11 arg12 harg12 arg13 harg13 X3 X4 X5 X6 X7 X8 G9 (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) G12 G13
    (ext fun R d => (arg5.view.read (Elt Ideal) X5) (ix3 0 R d)) (fun c d => (arg3.view.read (Elt Ideal) X3) (ix3 0 c ⟨128 * (0 : Fin 4).val + d.val, by omega⟩))
    (fun c => (arg4.view.read (Elt Ideal) X4) (ix4 0 0 0 c) * Named.named (F := Ideal) (φ := .f32) κ "logit_scale" 0x3E0293EE#32)
    (ext fun R => (arg7.view.read (Elt Ideal) X7) (ix3 0 R (i 1))) (slopeAt (4 * (i 1).val + (0 : Fin 4).val) : EReal)
    (ext fun R => (arg8.view.read (Elt Ideal) X8) (ix3 0 R (i 1))) (ext fun R d => (arg6.view.read (Elt Ideal) X6) (ix3 0 d R)) ?_ ?_ ?_ (fun _ => rfl) ?_ ?_ ?_ ?_ (slope0 i)
  · intro R; unfold ext; split
    · exact (hV _).1
    · exact le_rfl
  · intro R; unfold ext; split
    · exact (hV _).2
    · exact_mod_cast hC
  · intro c d D hD
    have e : D = ⟨128 * (0 : Fin 4).val + d.val, by omega⟩ := Fin.ext (by rw [hD]; simp)
    rw [e]
  · intro R d; rw [ext_val]
  · intro R d; rw [ext_val]
  · intro R l; rw [h10, ext_val]; rfl
  · intro R l; rw [h11, ext_val]; rfl

theorem out1_value {C : ℝ} (hC : 0 ≤ C) (hC' : C ≤ 2 ^ 128) (hV : ∀ y, 0 ≤ (arg8.view.read (Elt Ideal) X8) y ∧ (arg8.view.read (Elt Ideal) X8) y ≤ (C : EReal))
    (h10 : arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7)) (h11 : arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8)) :
    ∃ P : Vec Ideal S1x256x128 .bf16,
      (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = arg9.view.writes (Elt Ideal) (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) [⟨Rect.unit (s := S1x256x512) ![0, 0, 128] S1x256x128.size inb_S1x256x512_S1x256x128_0_0_128, P⟩]
      ∧ ∀ c d, P (ix3 0 c d) = headOut i (arg3.view.read (Elt Ideal) X3) (arg4.view.read (Elt Ideal) X4) (arg5.view.read (Elt Ideal) X5) (arg6.view.read (Elt Ideal) X6) (arg7.view.read (Elt Ideal) X7) (arg8.view.read (Elt Ideal) X8) (1 : Fin 4) c d := by
  refine headValue1 hC hC' Variants.none c i arg3 harg3 arg4 harg4 arg5 harg5 arg6 harg6 arg7 harg7 arg8 harg8 arg9 harg9 arg10 harg10 arg11 harg11 arg12 harg12 arg13 harg13 X3 X4 X5 X6 X7 X8 (out0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows0 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes0 c i arg3 harg3 arg4 harg4 arg5 harg5 arg6 harg6 arg7 harg7 arg8 harg8 arg9 harg9 arg10 harg10 arg11 harg11 arg12 harg12 arg13 harg13 X3 X4 X5 X6 X7 X8 G9 G10 G11 G12 G13)
    (ext fun R d => (arg5.view.read (Elt Ideal) X5) (ix3 0 R d)) (fun c d => (arg3.view.read (Elt Ideal) X3) (ix3 0 c ⟨128 * (1 : Fin 4).val + d.val, by omega⟩))
    (fun c => (arg4.view.read (Elt Ideal) X4) (ix4 0 1 0 c) * Named.named (F := Ideal) (φ := .f32) κ "logit_scale" 0x3E0293EE#32)
    (ext fun R => (arg7.view.read (Elt Ideal) X7) (ix3 0 R (i 1))) (slopeAt (4 * (i 1).val + (1 : Fin 4).val) : EReal)
    (ext fun R => (arg8.view.read (Elt Ideal) X8) (ix3 0 R (i 1))) (ext fun R d => (arg6.view.read (Elt Ideal) X6) (ix3 0 d R)) ?_ ?_ ?_ (fun _ => rfl) ?_ ?_ ?_ ?_ (slope1 i)
  · intro R; unfold ext; split
    · exact (hV _).1
    · exact le_rfl
  · intro R; unfold ext; split
    · exact (hV _).2
    · exact_mod_cast hC
  · intro c d D hD
    have e : D = ⟨128 * (1 : Fin 4).val + d.val, by omega⟩ := Fin.ext (by rw [hD]; simp)
    rw [e]
  · intro R d; rw [ext_val]
  · intro R d; rw [ext_val]
  · intro R l; rw [h10, ext_val]; rfl
  · intro R l; rw [h11, ext_val]; rfl

theorem out2_value {C : ℝ} (hC : 0 ≤ C) (hC' : C ≤ 2 ^ 128) (hV : ∀ y, 0 ≤ (arg8.view.read (Elt Ideal) X8) y ∧ (arg8.view.read (Elt Ideal) X8) y ≤ (C : EReal))
    (h10 : arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7)) (h11 : arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8)) :
    ∃ P : Vec Ideal S1x256x128 .bf16,
      (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = arg9.view.writes (Elt Ideal) (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) [⟨Rect.unit (s := S1x256x512) ![0, 0, 256] S1x256x128.size inb_S1x256x512_S1x256x128_0_0_256, P⟩]
      ∧ ∀ c d, P (ix3 0 c d) = headOut i (arg3.view.read (Elt Ideal) X3) (arg4.view.read (Elt Ideal) X4) (arg5.view.read (Elt Ideal) X5) (arg6.view.read (Elt Ideal) X6) (arg7.view.read (Elt Ideal) X7) (arg8.view.read (Elt Ideal) X8) (2 : Fin 4) c d := by
  refine headValue2 hC hC' Variants.none c i arg3 harg3 arg4 harg4 arg5 harg5 arg6 harg6 arg7 harg7 arg8 harg8 arg9 harg9 arg10 harg10 arg11 harg11 arg12 harg12 arg13 harg13 X3 X4 X5 X6 X7 X8 (out1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows1 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes1 c i arg3 harg3 arg4 harg4 arg5 harg5 arg6 harg6 arg7 harg7 arg8 harg8 arg9 harg9 arg10 harg10 arg11 harg11 arg12 harg12 arg13 harg13 X3 X4 X5 X6 X7 X8 G9 G10 G11 G12 G13)
    (ext fun R d => (arg5.view.read (Elt Ideal) X5) (ix3 0 R d)) (fun c d => (arg3.view.read (Elt Ideal) X3) (ix3 0 c ⟨128 * (2 : Fin 4).val + d.val, by omega⟩))
    (fun c => (arg4.view.read (Elt Ideal) X4) (ix4 0 2 0 c) * Named.named (F := Ideal) (φ := .f32) κ "logit_scale" 0x3E0293EE#32)
    (ext fun R => (arg7.view.read (Elt Ideal) X7) (ix3 0 R (i 1))) (slopeAt (4 * (i 1).val + (2 : Fin 4).val) : EReal)
    (ext fun R => (arg8.view.read (Elt Ideal) X8) (ix3 0 R (i 1))) (ext fun R d => (arg6.view.read (Elt Ideal) X6) (ix3 0 d R)) ?_ ?_ ?_ (fun _ => rfl) ?_ ?_ ?_ ?_ (slope2 i)
  · intro R; unfold ext; split
    · exact (hV _).1
    · exact le_rfl
  · intro R; unfold ext; split
    · exact (hV _).2
    · exact_mod_cast hC
  · intro c d D hD
    have e : D = ⟨128 * (2 : Fin 4).val + d.val, by omega⟩ := Fin.ext (by rw [hD]; simp)
    rw [e]
  · intro R d; rw [ext_val]
  · intro R d; rw [ext_val]
  · intro R l; rw [h10, ext_val]; rfl
  · intro R l; rw [h11, ext_val]; rfl

theorem out3_value {C : ℝ} (hC : 0 ≤ C) (hC' : C ≤ 2 ^ 128) (hV : ∀ y, 0 ≤ (arg8.view.read (Elt Ideal) X8) y ∧ (arg8.view.read (Elt Ideal) X8) y ≤ (C : EReal))
    (h10 : arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7)) (h11 : arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8)) :
    ∃ P : Vec Ideal S1x256x128 .bf16,
      (out3 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = arg9.view.writes (Elt Ideal) (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) [⟨Rect.unit (s := S1x256x512) ![0, 0, 384] S1x256x128.size inb_S1x256x512_S1x256x128_0_0_384, P⟩]
      ∧ ∀ c d, P (ix3 0 c d) = headOut i (arg3.view.read (Elt Ideal) X3) (arg4.view.read (Elt Ideal) X4) (arg5.view.read (Elt Ideal) X5) (arg6.view.read (Elt Ideal) X6) (arg7.view.read (Elt Ideal) X7) (arg8.view.read (Elt Ideal) X8) (3 : Fin 4) c d := by
  refine headValue3 hC hC' Variants.none c i arg3 harg3 arg4 harg4 arg5 harg5 arg6 harg6 arg7 harg7 arg8 harg8 arg9 harg9 arg10 harg10 arg11 harg11 arg12 harg12 arg13 harg13 X3 X4 X5 X6 X7 X8 (out2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (rows2 c i arg3 harg3 arg4 harg4 arg5 harg5 arg6 harg6 arg7 harg7 arg8 harg8 arg9 harg9 arg10 harg10 arg11 harg11 arg12 harg12 arg13 harg13 X3 X4 X5 X6 X7 X8 G9 G10 G11 G12 G13) (codes2 c i arg3 harg3 arg4 harg4 arg5 harg5 arg6 harg6 arg7 harg7 arg8 harg8 arg9 harg9 arg10 harg10 arg11 harg11 arg12 harg12 arg13 harg13 X3 X4 X5 X6 X7 X8 G9 G10 G11 G12 G13)
    (ext fun R d => (arg5.view.read (Elt Ideal) X5) (ix3 0 R d)) (fun c d => (arg3.view.read (Elt Ideal) X3) (ix3 0 c ⟨128 * (3 : Fin 4).val + d.val, by omega⟩))
    (fun c => (arg4.view.read (Elt Ideal) X4) (ix4 0 3 0 c) * Named.named (F := Ideal) (φ := .f32) κ "logit_scale" 0x3E0293EE#32)
    (ext fun R => (arg7.view.read (Elt Ideal) X7) (ix3 0 R (i 1))) (slopeAt (4 * (i 1).val + (3 : Fin 4).val) : EReal)
    (ext fun R => (arg8.view.read (Elt Ideal) X8) (ix3 0 R (i 1))) (ext fun R d => (arg6.view.read (Elt Ideal) X6) (ix3 0 d R)) ?_ ?_ ?_ (fun _ => rfl) ?_ ?_ ?_ ?_ (slope3 i)
  · intro R; unfold ext; split
    · exact (hV _).1
    · exact le_rfl
  · intro R; unfold ext; split
    · exact (hV _).2
    · exact_mod_cast hC
  · intro c d D hD
    have e : D = ⟨128 * (3 : Fin 4).val + d.val, by omega⟩ := Fin.ext (by rw [hD]; simp)
    rw [e]
  · intro R d; rw [ext_val]
  · intro R d; rw [ext_val]
  · intro R l; rw [h10, ext_val]; rfl
  · intro R l; rw [h11, ext_val]; rfl

/-- The block of the result after the body. -/
theorem out_value {C : ℝ} (hC : 0 ≤ C) (hC' : C ≤ 2 ^ 128) (hV : ∀ y, 0 ≤ (arg8.view.read (Elt Ideal) X8) y ∧ (arg8.view.read (Elt Ideal) X8) y ≤ (C : EReal))
    (h10 : arg10.view.read (Elt Ideal) (col10 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg7.view.read (Elt Ideal) X7)) (h11 : arg11.view.read (Elt Ideal) (col11 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = column i (arg8.view.read (Elt Ideal) X8)) :
    arg9.view.read (Elt Ideal) (out3 c i arg3 harg3 arg4 harg4 arg5 harg5 arg6 harg6 arg7 harg7 arg8 harg8 arg9 harg9 arg10 harg10 arg11 harg11 arg12 harg12 arg13 harg13 X3 X4 X5 X6 X7 X8 G9 G10 G11 G12 G13) = outOf i (arg3.view.read (Elt Ideal) X3) (arg4.view.read (Elt Ideal) X4) (arg5.view.read (Elt Ideal) X5) (arg6.view.read (Elt Ideal) X6) (arg7.view.read (Elt Ideal) X7) (arg8.view.read (Elt Ideal) X8) := by
  obtain ⟨P0, e0, p0⟩ := out0_value c i arg3 harg3 arg4 harg4 arg5 harg5 arg6 harg6 arg7 harg7 arg8 harg8 arg9 harg9 arg10 harg10 arg11 harg11 arg12 harg12 arg13 harg13 X3 X4 X5 X6 X7 X8 G9 G10 G11 G12 G13 hC hC' hV h10 h11
  obtain ⟨P1, e1, p1⟩ := out1_value c i arg3 harg3 arg4 harg4 arg5 harg5 arg6 harg6 arg7 harg7 arg8 harg8 arg9 harg9 arg10 harg10 arg11 harg11 arg12 harg12 arg13 harg13 X3 X4 X5 X6 X7 X8 G9 G10 G11 G12 G13 hC hC' hV h10 h11
  obtain ⟨P2, e2, p2⟩ := out2_value c i arg3 harg3 arg4 harg4 arg5 harg5 arg6 harg6 arg7 harg7 arg8 harg8 arg9 harg9 arg10 harg10 arg11 harg11 arg12 harg12 arg13 harg13 X3 X4 X5 X6 X7 X8 G9 G10 G11 G12 G13 hC hC' hV h10 h11
  obtain ⟨P3, e3, p3⟩ := out3_value c i arg3 harg3 arg4 harg4 arg5 harg5 arg6 harg6 arg7 harg7 arg8 harg8 arg9 harg9 arg10 harg10 arg11 harg11 arg12 harg12 arg13 harg13 X3 X4 X5 X6 X7 X8 G9 G10 G11 G12 G13 hC hC' hV h10 h11
  rw [e3, e2, e1, e0]
  funext y
  obtain ⟨c, D, rfl⟩ : ∃ (c : Fin 256) (D : Fin 512), y = ix3 0 c D :=
    ⟨y 1, y 2, by funext a; fin_cases a; · exact Subsingleton.elim (α := Fin 1) _ _
                  · rfl
                  · rfl⟩
  have hD := D.isLt
  have key : ∀ (g : Fin 4) (d : Fin 128), D.val = 128 * g.val + d.val →
      outOf i (arg3.view.read (Elt Ideal) X3) (arg4.view.read (Elt Ideal) X4) (arg5.view.read (Elt Ideal) X5) (arg6.view.read (Elt Ideal) X6) (arg7.view.read (Elt Ideal) X7) (arg8.view.read (Elt Ideal) X8) (ix3 0 c D) = headOut i (arg3.view.read (Elt Ideal) X3) (arg4.view.read (Elt Ideal) X4) (arg5.view.read (Elt Ideal) X5) (arg6.view.read (Elt Ideal) X6) (arg7.view.read (Elt Ideal) X7) (arg8.view.read (Elt Ideal) X8) g c d := by
    intro g d h
    have hd := d.isLt
    unfold outOf
    congr 1
    · apply Fin.ext; show D.val / 128 = g.val; omega
    · apply Fin.ext; show D.val % 128 = d.val; omega
  rcases (by omega : D.val < 128 ∨ (128 ≤ D.val ∧ D.val < 256) ∨ (256 ≤ D.val ∧ D.val < 384) ∨ 384 ≤ D.val) with h | h | h | h
  · rw [View.read_writes_cons_miss_of_axis _ _ _ _ _ 2 384 128 rfl rfl rfl (Or.inl (by show D.val < 384; omega)), View.writes_nil,
      View.read_writes_cons_miss_of_axis _ _ _ _ _ 2 256 128 rfl rfl rfl (Or.inl (by show D.val < 256; omega)), View.writes_nil,
      View.read_writes_cons_miss_of_axis _ _ _ _ _ 2 128 128 rfl rfl rfl (Or.inl (by show D.val < 128; omega)), View.writes_nil,
      key 0 ⟨D.val, by omega⟩ (by simp), ← p0]
    refine View.read_writes_cons_hit_of_coords arg9.view _ (Rect.unit (s := S1x256x512) ![0, 0, 0] S1x256x128.size inb_S1x256x512_S1x256x128_0_0_0)
      P0 [] (ix3 (n0 := 1) (n1 := 256) (n2 := 128) 0 c ⟨D.val, by omega⟩) _ fun a => ?_
    fin_cases a
    · rfl
    · simp [Rect.unit, ix3]
    · show D.val = 0 + 1 * (D.val); omega
  · rw [View.read_writes_cons_miss_of_axis _ _ _ _ _ 2 384 128 rfl rfl rfl (Or.inl (by show D.val < 384; omega)), View.writes_nil,
      View.read_writes_cons_miss_of_axis _ _ _ _ _ 2 256 128 rfl rfl rfl (Or.inl (by show D.val < 256; omega)), View.writes_nil,
      key 1 ⟨D.val - 128, by omega⟩ (by simp; omega), ← p1]
    refine View.read_writes_cons_hit_of_coords arg9.view _ (Rect.unit (s := S1x256x512) ![0, 0, 128] S1x256x128.size inb_S1x256x512_S1x256x128_0_0_128)
      P1 [] (ix3 (n0 := 1) (n1 := 256) (n2 := 128) 0 c ⟨D.val - 128, by omega⟩) _ fun a => ?_
    fin_cases a
    · rfl
    · simp [Rect.unit, ix3]
    · show D.val = 128 + 1 * (D.val - 128); omega
  · rw [View.read_writes_cons_miss_of_axis _ _ _ _ _ 2 384 128 rfl rfl rfl (Or.inl (by show D.val < 384; omega)), View.writes_nil,
      key 2 ⟨D.val - 256, by omega⟩ (by simp; omega), ← p2]
    refine View.read_writes_cons_hit_of_coords arg9.view _ (Rect.unit (s := S1x256x512) ![0, 0, 256] S1x256x128.size inb_S1x256x512_S1x256x128_0_0_256)
      P2 [] (ix3 (n0 := 1) (n1 := 256) (n2 := 128) 0 c ⟨D.val - 256, by omega⟩) _ fun a => ?_
    fin_cases a
    · rfl
    · simp [Rect.unit, ix3]
    · show D.val = 256 + 1 * (D.val - 256); omega
  · rw [key 3 ⟨D.val - 384, by omega⟩ (by simp; omega), ← p3]
    refine View.read_writes_cons_hit_of_coords arg9.view _ (Rect.unit (s := S1x256x512) ![0, 0, 384] S1x256x128.size inb_S1x256x512_S1x256x128_0_0_384)
      P3 [] (ix3 (n0 := 1) (n1 := 256) (n2 := 128) 0 c ⟨D.val - 384, by omega⟩) _ fun a => ?_
    fin_cases a
    · rfl
    · simp [Rect.unit, ix3]
    · show D.val = 384 + 1 * (D.val - 384); omega

end Cert.KernelIdeal.Hand
end
-- ==== Proof.Blocks.lean ====
/-
  Hand-written. The grid's points as numbers and each window's block at a point as entries of its array.
-/
module

public import proofs.«01_k».proof.Proof.Gen.KernelIdeal.Frame
public import proofs.«01_k».proof.Proof.Core

@[expose] public section

set_option maxRecDepth 16384
set_option maxHeartbeats 4000000

noncomputable section

namespace Cert.KernelIdeal.Hand

open Cert.KernelIdeal Cert.KernelIdeal.Gen
open Idealize.ShloMosaic Idealize.ShloMosaic.TcCoe

theorem point_coords : ∀ t : Fin grid0.N, (grid0.coords t 0).val = t.val / 128 ∧ (grid0.coords t 1).val = t.val / 32 % 4
    ∧ (grid0.coords t 2).val = t.val % 32 := by
  decide +kernel

theorem index_0 : ∀ t : Fin grid0.N, win0_0.index t 0 = (grid0.coords t 0).val ∧ win0_0.index t 1 = (grid0.coords t 2).val
    ∧ win0_0.index t 2 = (grid0.coords t 1).val := by decide +kernel
theorem index_1 : ∀ t : Fin grid0.N, win0_1.index t 0 = (grid0.coords t 0).val ∧ win0_1.index t 1 = (grid0.coords t 1).val
    ∧ win0_1.index t 2 = 0 ∧ win0_1.index t 3 = (grid0.coords t 2).val := by decide +kernel
theorem index_2 : ∀ t : Fin grid0.N, win0_2.index t 0 = (grid0.coords t 0).val ∧ win0_2.index t 1 = 0
    ∧ win0_2.index t 2 = (grid0.coords t 1).val := by decide +kernel
theorem index_3 : ∀ t : Fin grid0.N, win0_3.index t 0 = (grid0.coords t 0).val ∧ win0_3.index t 1 = (grid0.coords t 1).val
    ∧ win0_3.index t 2 = 0 := by decide +kernel
theorem index_4 : ∀ t : Fin grid0.N, win0_4.index t 0 = (grid0.coords t 0).val ∧ win0_4.index t 1 = 0
    ∧ win0_4.index t 2 = 0 := by decide +kernel
theorem index_5 : ∀ t : Fin grid0.N, win0_5.index t 0 = (grid0.coords t 0).val ∧ win0_5.index t 1 = 0
    ∧ win0_5.index t 2 = 0 := by decide +kernel
theorem index_6 : ∀ t : Fin grid0.N, win0_6.index t 0 = (grid0.coords t 0).val ∧ win0_6.index t 1 = (grid0.coords t 2).val
    ∧ win0_6.index t 2 = (grid0.coords t 1).val := by decide +kernel

section
variable {F : FTy → Type} [FloatOps F] [Named F]
variable (m : (ℓ : Loc nD τ sig) → Buf (Elt F) ℓ) (c : Dev nD) (t : Fin cfg0.N)

theorem block_0 (r : Fin 256) (D : Fin 512) (b : Fin 8) (q : Fin 8192) (E : Fin 2048) (hb : b.val = (grid0.coords t 0).val) (hq : q.val = 256 * (grid0.coords t 2).val + r.val) (hE : E.val = 512 * (grid0.coords t 1).val + D.val) :
    (iblk m c 0 t : S1x256x512.Idx → Elt F .fp8e4m3) (ix3 0 r D) = m ((c.tc : Thread nD τ).loc main_arg0) (ix3 (n0 := 8) (n1 := 8192) (n2 := 2048) b q E) := by
  obtain ⟨i0, i1, i2⟩ := index_0 t
  unfold iblk
  rw [View.read_apply, V_main_arg0 m c]
  refine congrArg (m (c.tc.loc main_arg0)) (funext fun a => Fin.ext ?_)
  match a with
  | ⟨0, _⟩ => show win0_0.index t 0 * 1 + 1 * 0 = b.val; omega
  | ⟨1, _⟩ => show win0_0.index t 1 * 256 + 1 * r.val = q.val; omega
  | ⟨2, _⟩ => show win0_0.index t 2 * 512 + 1 * D.val = E.val; omega

theorem block_1 (g : Fin 4) (r : Fin 256) (b : Fin 8) (h : Fin 16) (q : Fin 8192) (hb : b.val = (grid0.coords t 0).val) (hh : h.val = 4 * (grid0.coords t 1).val + g.val) (hq : q.val = 256 * (grid0.coords t 2).val + r.val) :
    (iblk m c 1 t : S1x4x1x256.Idx → Elt F .f32) (ix4 0 g 0 r) = m ((c.tc : Thread nD τ).loc main_arg1) (ix4 (n0 := 8) (n1 := 16) (n2 := 1) (n3 := 8192) b h 0 q) := by
  obtain ⟨i0, i1, i2, i3⟩ := index_1 t
  unfold iblk
  rw [View.read_apply, V_main_arg1 m c]
  refine congrArg (m (c.tc.loc main_arg1)) (funext fun a => Fin.ext ?_)
  match a with
  | ⟨0, _⟩ => show win0_1.index t 0 * 1 + 1 * 0 = b.val; omega
  | ⟨1, _⟩ => show win0_1.index t 1 * 4 + 1 * g.val = h.val; omega
  | ⟨2, _⟩ => show win0_1.index t 2 * 1 + 1 * 0 = 0; omega
  | ⟨3, _⟩ => show win0_1.index t 3 * 256 + 1 * r.val = q.val; omega

theorem block_2 (R : Fin 8192) (d : Fin 128) (b : Fin 8) (E : Fin 512) (hb : b.val = (grid0.coords t 0).val) (hE : E.val = 128 * (grid0.coords t 1).val + d.val) :
    (iblk m c 2 t : S1x8192x128.Idx → Elt F .fp8e4m3) (ix3 0 R d) = m ((c.tc : Thread nD τ).loc main_arg2) (ix3 (n0 := 8) (n1 := 8192) (n2 := 512) b R E) := by
  obtain ⟨i0, i1, i2⟩ := index_2 t
  unfold iblk
  rw [View.read_apply, V_main_arg2 m c]
  refine congrArg (m (c.tc.loc main_arg2)) (funext fun a => Fin.ext ?_)
  match a with
  | ⟨0, _⟩ => show win0_2.index t 0 * 1 + 1 * 0 = b.val; omega
  | ⟨1, _⟩ => show win0_2.index t 1 * 8192 + 1 * R.val = R.val; omega
  | ⟨2, _⟩ => show win0_2.index t 2 * 128 + 1 * d.val = E.val; omega

theorem block_3 (d : Fin 128) (R : Fin 8192) (b : Fin 8) (E : Fin 512) (hb : b.val = (grid0.coords t 0).val) (hE : E.val = 128 * (grid0.coords t 1).val + d.val) :
    (iblk m c 3 t : S1x128x8192.Idx → Elt F .fp8e4m3) (ix3 0 d R) = m ((c.tc : Thread nD τ).loc main_arg3) (ix3 (n0 := 8) (n1 := 512) (n2 := 8192) b E R) := by
  obtain ⟨i0, i1, i2⟩ := index_3 t
  unfold iblk
  rw [View.read_apply, V_main_arg3 m c]
  refine congrArg (m (c.tc.loc main_arg3)) (funext fun a => Fin.ext ?_)
  match a with
  | ⟨0, _⟩ => show win0_3.index t 0 * 1 + 1 * 0 = b.val; omega
  | ⟨1, _⟩ => show win0_3.index t 1 * 128 + 1 * d.val = E.val; omega
  | ⟨2, _⟩ => show win0_3.index t 2 * 8192 + 1 * R.val = R.val; omega

theorem block_4 (R : Fin 8192) (k : Fin 4) (b : Fin 8) (hb : b.val = (grid0.coords t 0).val) :
    (iblk m c 4 t : S1x8192x4.Idx → Elt F .f32) (ix3 0 R k) = m ((c.tc : Thread nD τ).loc main_arg4) (ix3 (n0 := 8) (n1 := 8192) (n2 := 4) b R k) := by
  obtain ⟨i0, i1, i2⟩ := index_4 t
  unfold iblk
  rw [View.read_apply, V_main_arg4 m c]
  refine congrArg (m (c.tc.loc main_arg4)) (funext fun a => Fin.ext ?_)
  match a with
  | ⟨0, _⟩ => show win0_4.index t 0 * 1 + 1 * 0 = b.val; omega
  | ⟨1, _⟩ => show win0_4.index t 1 * 8192 + 1 * R.val = R.val; omega
  | ⟨2, _⟩ => show win0_4.index t 2 * 4 + 1 * k.val = k.val; omega

theorem block_5 (R : Fin 8192) (k : Fin 4) (b : Fin 8) (hb : b.val = (grid0.coords t 0).val) :
    (iblk m c 5 t : S1x8192x4.Idx → Elt F .f32) (ix3 0 R k) = m ((c.tc : Thread nD τ).loc main_arg5) (ix3 (n0 := 8) (n1 := 8192) (n2 := 4) b R k) := by
  obtain ⟨i0, i1, i2⟩ := index_5 t
  unfold iblk
  rw [View.read_apply, V_main_arg5 m c]
  refine congrArg (m (c.tc.loc main_arg5)) (funext fun a => Fin.ext ?_)
  match a with
  | ⟨0, _⟩ => show win0_5.index t 0 * 1 + 1 * 0 = b.val; omega
  | ⟨1, _⟩ => show win0_5.index t 1 * 8192 + 1 * R.val = R.val; omega
  | ⟨2, _⟩ => show win0_5.index t 2 * 4 + 1 * k.val = k.val; omega

theorem block_6_emb (r : Fin 256) (D : Fin 512) (b : Fin 8) (q : Fin 8192) (E : Fin 2048) (hb : b.val = (grid0.coords t 0).val) (hq : q.val = 256 * (grid0.coords t 2).val + r.val) (hE : E.val = 512 * (grid0.coords t 1).val + D.val) :
    ((cfg0.win 6).blk t).view.emb ((ix3 0 r D : S1x256x512.Idx)) = (ix3 (n0 := 8) (n1 := 8192) (n2 := 2048) b q E : S8x8192x2048.Idx) := by
  obtain ⟨i0, i1, i2⟩ := index_6 t
  refine funext fun a => Fin.ext ?_
  match a with
  | ⟨0, _⟩ => show win0_6.index t 0 * 1 + 1 * 0 = b.val; omega
  | ⟨1, _⟩ => show win0_6.index t 1 * 256 + 1 * r.val = q.val; omega
  | ⟨2, _⟩ => show win0_6.index t 2 * 512 + 1 * D.val = E.val; omega

end
end Cert.KernelIdeal.Hand
end
-- ==== Proof.KernelIdealValue.lean ====
/-
  Hand-written. The value of the kernel: over the extended reals the result's array ends holding, block by block, the formula of the body.
-/
module

public import proofs.«01_k».proof.Proof.KernelIdealFrame
public import proofs.«01_k».proof.Proof.BodyValue
public import proofs.«01_k».proof.Proof.Blocks
public import Idealize.ShloMosaic.Lib.Pipeline.ValueKit

@[expose] public section

set_option maxRecDepth 16384
set_option maxHeartbeats 1600000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The body from the eleven buffers owned, the two columns of scales known but at a head group's first tile. -/
theorem body_owned_value (c : Dev nD) (i : grid0.Coords) (arg3 : Memref sig .tc .vmem S1x256x512 .fp8e4m3) (harg3 : arg3.IsWhole) (arg4 : Memref sig .tc .vmem S1x4x1x256 .f32) (harg4 : arg4.IsWhole) (arg5 : Memref sig .tc .vmem S1x8192x128 .fp8e4m3) (harg5 : arg5.IsWhole) (arg6 : Memref sig .tc .vmem S1x128x8192 .fp8e4m3) (harg6 : arg6.IsWhole) (arg7 : Memref sig .tc .vmem S1x8192x4 .f32) (harg7 : arg7.IsWhole) (arg8 : Memref sig .tc .vmem S1x8192x4 .f32) (harg8 : arg8.IsWhole) (arg9 : Memref sig .tc .vmem S1x256x512 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S8192x256 .f32) (harg12 : arg12.IsWhole) (arg13 : Memref sig .tc .vmem S32x256 .f32) (harg13 : arg13.IsWhole)
    (B3 : S1x256x512.Idx → EReal) (B4 : S1x4x1x256.Idx → EReal) (B5 : S1x8192x128.Idx → EReal) (B6 : S1x128x8192.Idx → EReal) (B7 B8 : S1x8192x4.Idx → EReal) (d10 d11 : S8192x128.Idx → EReal) {C : ℝ} (hC : 0 ≤ C) (hC' : C ≤ 2 ^ 128)
    (hV : ∀ y, 0 ≤ B8 y ∧ B8 y ≤ (C : EReal)) (k10 : (i 2).val ≠ 0 → d10 = column i B7) (k11 : (i 2).val ≠ 0 → d11 = column i B8)
    (Q : PUnit → sProp 𝕄) :
    (iprop(owns (c : Thread nD τ) arg3 fullShare (B3 : _ → Elt Ideal .fp8e4m3) ∗ owns (c : Thread nD τ) arg4 fullShare (B4 : _ → Elt Ideal .f32) ∗ owns (c : Thread nD τ) arg5 fullShare (B5 : _ → Elt Ideal .fp8e4m3) ∗ owns (c : Thread nD τ) arg6 fullShare (B6 : _ → Elt Ideal .fp8e4m3) ∗ owns (c : Thread nD τ) arg7 fullShare (B7 : _ → Elt Ideal .f32) ∗ owns (c : Thread nD τ) arg8 fullShare (B8 : _ → Elt Ideal .f32)
      ∗ (∃ d, owns (c : Thread nD τ) arg9 fullShare d) ∗ owns (c : Thread nD τ) arg10 fullShare (d10 : _ → Elt Ideal .f32) ∗ owns (c : Thread nD τ) arg11 fullShare (d11 : _ → Elt Ideal .f32) ∗ (∃ d, owns (c : Thread nD τ) arg12 fullShare d) ∗ (∃ d, owns (c : Thread nD τ) arg13 fullShare d)
      ∗ (iprop(owns (c : Thread nD τ) arg3 fullShare (B3 : _ → Elt Ideal .fp8e4m3) ∗ owns (c : Thread nD τ) arg4 fullShare (B4 : _ → Elt Ideal .f32) ∗ owns (c : Thread nD τ) arg5 fullShare (B5 : _ → Elt Ideal .fp8e4m3) ∗ owns (c : Thread nD τ) arg6 fullShare (B6 : _ → Elt Ideal .fp8e4m3) ∗ owns (c : Thread nD τ) arg7 fullShare (B7 : _ → Elt Ideal .f32) ∗ owns (c : Thread nD τ) arg8 fullShare (B8 : _ → Elt Ideal .f32)
      ∗ owns (c : Thread nD τ) arg9 fullShare (outOf i B3 B4 B5 B6 B7 B8 : _ → Elt Ideal .bf16) ∗ owns (c : Thread nD τ) arg10 fullShare (column i B7 : _ → Elt Ideal .f32) ∗ owns (c : Thread nD τ) arg11 fullShare (column i B8 : _ → Elt Ideal .f32) ∗ (∃ d, owns (c : Thread nD τ) arg12 fullShare d) ∗ (∃ d, owns (c : Thread nD τ) arg13 fullShare d)) -∗ Q ⟨⟩)) : sProp 𝕄)
    ⊢ wp frame (wpE (defs₀ (F := Ideal)) Variants.none (c : Thread nD τ) none) Set.univ (cc0_attention (F := Ideal) i arg3 harg3 arg4 harg4 arg5 harg5 arg6 harg6 arg7 harg7 arg8 harg8 arg9 harg9 arg10 harg10 arg11 harg11 arg12 harg12 arg13 harg13) Q := by
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, %h9, H9⟩, ⟨%f10, %h10, H10⟩, ⟨%f11, %h11, H11⟩, ⟨%d12, %f12, %h12, H12⟩, ⟨%d13, %f13, %h13, H13⟩, Hk⟩
  have e10 := col10_value c i arg3 harg3 arg4 harg4 arg5 harg5 arg6 harg6 arg7 harg7 arg8 harg8 arg9 harg9 arg10 harg10 arg11 harg11 arg12 harg12 arg13 harg13 f3 f4 f5 f6 f7 f8 f9 f10 f11 f12 f13 (fun h => by rw [h10, k10 h, h7])
  have e11 := col11_value c i arg3 harg3 arg4 harg4 arg5 harg5 arg6 harg6 arg7 harg7 arg8 harg8 arg9 harg9 arg10 harg10 arg11 harg11 arg12 harg12 arg13 harg13 f3 f4 f5 f6 f7 f8 f9 f10 f11 f12 f13 (fun h => by rw [h11, k11 h, h8])
  have e9 := out_value c i arg3 harg3 arg4 harg4 arg5 harg5 arg6 harg6 arg7 harg7 arg8 harg8 arg9 harg9 arg10 harg10 arg11 harg11 arg12 harg12 arg13 harg13 f3 f4 f5 f6 f7 f8 f9 f10 f11 f12 f13 hC hC' (fun y => by rw [h8]; exact hV y) e10 e11
  rw [h7] at e10
  rw [h8] at e11
  rw [h3, h4, h5, h6, h7, h8] at e9
  have hrun := body_moves c i arg3 harg3 arg4 harg4 arg5 harg5 arg6 harg6 arg7 harg7 arg8 harg8 arg9 harg9 arg10 harg10 arg11 harg11 arg12 harg12 arg13 harg13 f3 f4 f5 f6 f7 f8 f9 f10 f11 f12 f13
  generalize out3 c i arg3 harg3 arg4 harg4 arg5 harg5 arg6 harg6 arg7 harg7 arg8 harg8 arg9 harg9 arg10 harg10 arg11 harg11 arg12 harg12 arg13 harg13 f3 f4 f5 f6 f7 f8 f9 f10 f11 f12 f13 = g9 at hrun e9
  generalize col10 c i arg3 harg3 arg4 harg4 arg5 harg5 arg6 harg6 arg7 harg7 arg8 harg8 arg9 harg9 arg10 harg10 arg11 harg11 arg12 harg12 arg13 harg13 f3 f4 f5 f6 f7 f8 f9 f10 f11 f12 f13 = g10 at hrun e10
  generalize col11 c i arg3 harg3 arg4 harg4 arg5 harg5 arg6 harg6 arg7 harg7 arg8 harg8 arg9 harg9 arg10 harg10 arg11 harg11 arg12 harg12 arg13 harg13 f3 f4 f5 f6 f7 f8 f9 f10 f11 f12 f13 = g11 at hrun e11
  generalize rows3 c i arg3 harg3 arg4 harg4 arg5 harg5 arg6 harg6 arg7 harg7 arg8 harg8 arg9 harg9 arg10 harg10 arg11 harg11 arg12 harg12 arg13 harg13 f3 f4 f5 f6 f7 f8 f9 f10 f11 f12 f13 = g12 at hrun
  generalize codes3 c i arg3 harg3 arg4 harg4 arg5 harg5 arg6 harg6 arg7 harg7 arg8 harg8 arg9 harg9 arg10 harg10 arg11 harg11 arg12 harg12 arg13 harg13 f3 f4 f5 f6 f7 f8 f9 f10 f11 f12 f13 = g13 at hrun
  iapply (hrun Q)
  unfold held
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro ⟨H3, H4, H5, H6, H7, H8, H9, H10, H11, H12, H13⟩
  iapply Hk
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists g9; isplitr; · ipureintro; exact e9
    iexact H9
  isplitl [H10]
  · iexists g10; isplitr; · ipureintro; exact e10
    iexact H10
  isplitl [H11]
  · iexists g11; isplitr; · ipureintro; exact e11
    iexact H11
  isplitl [H12]
  · iexists _, _; isplitr; swap; · iexact H12
    ipureintro; rfl
  iexists _, _; isplitr; swap; · iexact H13
  ipureintro; rfl

variable (m : (ℓ : Loc nD τ sig) → Buf (Elt Ideal) ℓ) (ρ : Dev nD → PrngReg)

/-- The block of the result the body leaves at point `t`. -/
def blockOut (c : Dev nD) (t : Fin cfg0.N) : S1x256x512.Idx → EReal :=
  outOf (grid0.coords t) (iblk m c 0 t) (iblk m c 1 t) (iblk m c 2 t) (iblk m c 3 t) (iblk m c 4 t) (iblk m c 5 t)

/-- Before point `n` the two columns of scales are known, but at a head group's first tile. -/
def keysKnown (c : Dev nD) (n : ℕ) (d : S8192x128.Idx → EReal) : Prop :=
  ∀ h : n < cfg0.N, (grid0.coords ⟨n, h⟩ 2).val ≠ 0 → d = column (grid0.coords ⟨n, h⟩) (iblk m c 4 ⟨n, h⟩)
def valuesKnown (c : Dev nD) (n : ℕ) (d : S8192x128.Idx → EReal) : Prop :=
  ∀ h : n < cfg0.N, (grid0.coords ⟨n, h⟩ 2).val ≠ 0 → d = column (grid0.coords ⟨n, h⟩) (iblk m c 5 ⟨n, h⟩)

/-- From a point to the next of the same head group nothing moves but the tile. -/
theorem next_point (t : Fin cfg0.N) (h : t.val + 1 < cfg0.N) (h2 : (grid0.coords ⟨t.val + 1, h⟩ 2).val ≠ 0) :
    (grid0.coords ⟨t.val + 1, h⟩ 0).val = (grid0.coords t 0).val ∧ grid0.coords ⟨t.val + 1, h⟩ 1 = grid0.coords t 1 := by
  obtain ⟨a0, a1, a2⟩ := point_coords t
  obtain ⟨b0, b1, b2⟩ := point_coords ⟨t.val + 1, h⟩
  dsimp only at b0 b1 b2
  refine ⟨by omega, Fin.ext ?_⟩
  omega

theorem keysKnown_next (c : Dev nD) (t : Fin cfg0.N) : keysKnown m c (t.val + 1) (column (grid0.coords t) (iblk m c 4 t)) := by
  intro h h2
  obtain ⟨n0, n1⟩ := next_point t h h2
  have hb : (grid0.coords t 0).val < 8 := (grid0.coords t 0).isLt
  funext y
  unfold column
  rw [n1]
  exact (block_4 m c t (y 0) (grid0.coords t 1) ⟨_, hb⟩ rfl).trans (block_4 m c ⟨t.val + 1, h⟩ (y 0) (grid0.coords t 1) ⟨_, hb⟩ n0.symm).symm

theorem valuesKnown_next (c : Dev nD) (t : Fin cfg0.N) : valuesKnown m c (t.val + 1) (column (grid0.coords t) (iblk m c 5 t)) := by
  intro h h2
  obtain ⟨n0, n1⟩ := next_point t h h2
  have hb : (grid0.coords t 0).val < 8 := (grid0.coords t 0).isLt
  funext y
  unfold column
  rw [n1]
  exact (block_5 m c t (y 0) (grid0.coords t 1) ⟨_, hb⟩ rfl).trans (block_5 m c ⟨t.val + 1, h⟩ (y 0) (grid0.coords t 1) ⟨_, hb⟩ n0.symm).symm

/-- The invariant before point `n`. -/
def between (c : Dev nD) (n : ℕ) (_ : n ≤ cfg0.N) : sProp 𝕄 :=
  iprop(((∃ d, ⌜keysKnown m c n d⌝ ∗ owns (c : Thread nD τ) sc0 fullShare d) ∗ (∃ d, ⌜valuesKnown m c n d⌝ ∗ owns (c : Thread nD τ) sc1 fullShare d)
    ∗ (∃ d, owns (c : Thread nD τ) sc2 fullShare d) ∗ (∃ d, owns (c : Thread nD τ) sc3 fullShare d)) ∗ (∃ r, prngReg c r))

/-- The proof data. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut m c t
  Φ t := between m c t.val (Nat.le_of_lt_succ t.isLt)
  q _ := fullShare
  owed _ := 0

theorem vA_eq (c : Dev nD) (w : Fin cfg0.W) : (vdats m 0 c).A w = V m c (Pipeline.arrRef spec0 w) := by dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = blockOut m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d

/-- What the body is called with at point `t`, and what it returns. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t))

/-- Between zero and `C`. -/
def Within (C : ℝ) (x : EReal) : Prop := 0 ≤ x ∧ x ≤ (C : EReal)

variable {C : ℝ} (hC : 0 ≤ C) (hC' : C ≤ 2 ^ 128) (hV : ∀ (c : Dev nD) y, Within C (m ((c.tc : Thread nD τ).loc main_arg5) y))

include hV in
theorem scale_bounds (c : Dev nD) (t : Fin cfg0.N) (y : S1x8192x4.Idx) :
    Within C (iblk m c 5 t y) := by
  have hb : (grid0.coords t 0).val < 8 := (grid0.coords t 0).isLt
  obtain ⟨R, k, rfl⟩ : ∃ (R : Fin 8192) (k : Fin 4), y = ix3 0 R k :=
    ⟨y 1, y 2, by funext a; fin_cases a; · exact Subsingleton.elim (α := Fin 1) _ _
                  · rfl
                  · rfl⟩
  exact (congrArg (Within C) (block_5 m c t R k ⟨_, hb⟩ rfl)).mpr (hV c _)

theorem vΦ_at (c : Dev nD) (t : Fin cfg0.N) : (vdats m 0 c).Φ t.castSucc = between m c t.val (Nat.le_of_lt t.isLt) := by
  dsimp only [vdats]; exact Pipeline.Dat.Φ_castSucc (between m c) t
theorem vΦ_next (c : Dev nD) (t : Fin cfg0.N) : (vdats m 0 c).Φ t.succ = between m c (t.val + 1) t.isLt := by
  dsimp only [vdats]; rfl

include hC hC' hV in
theorem sound_vbody (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore_0, vbefore_1, vbefore_2, vbefore_3, vbefore_4, vbefore_5]
  rw [vΦ_at, vΦ_next, show (vdats m 0 c).owesAt () t.succ = (vdats m 0 c).owesAt () t.castSucc from rfl,
    vafter_0, vafter_1, vafter_2, vafter_3, vafter_4, vafter_5, vafter_6]
  unfold between
  iintro ⟨⟨⟨⟨%d10, %k10, S0⟩, ⟨%d11, %k11, S1⟩, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (body_owned_value c (grid0.coords t) _ _ _ _ _ _ _ _ _ _ _ _ _ _ _ _ _ _ _ _ _ _ (iblk m c 0 t) (iblk m c 1 t) (iblk m c 2 t) (iblk m c 3 t)
    (iblk m c 4 t) (iblk m c 5 t) d10 d11 hC hC' (scale_bounds m hV c t) (k10 t.isLt) (k11 t.isLt) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]
      · iexists _; isplitr; swap; · iexact S0
        ipureintro; exact keysKnown_next m c t
      isplitl [S1]
      · iexists _; isplitr; swap; · iexact S1
        ipureintro; exact valuesKnown_next m c t
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold blockOut
  iexact H6

include hC hC' hV in
theorem vbody_obligation (c : Dev nD) : BodyObligation (vdats m 0 c) (defs₀ (F := Ideal)) Variants.none () Set.univ := fun t => by
  rw [bigSep_W0, bigSep_W0, fdefs₀_row]
  exact triple_restated (sound_vbody m hC hC' hV c t) rfl .rfl fun _ => .rfl

theorem between_first (c : Dev nD) : (Pipeline.ΦA spec0 c : sProp 𝕄) ⊢ (vdats m 0 c).Φ 0 := by
  rw [show (vdats m 0 c).Φ 0 = between m c 0 (Nat.zero_le _) from rfl, PhiA0_eq]
  have z : (grid0.coords ⟨0, by decide⟩ 2).val = 0 := (point_coords _).2.2.trans (Nat.zero_mod _)
  unfold between
  iintro ⟨⟨⟨%d0, S0⟩, ⟨%d1, S1⟩, S2, S3⟩, Hg⟩
  isplitl [S0 S1 S2 S3]
  · isplitl [S0]
    · iexists d0; isplitr; swap; · iexact S0
      ipureintro; exact fun h h2 => absurd z h2
    isplitl [S1]
    · iexists d1; isplitr; swap; · iexact S1
      ipureintro; exact fun h h2 => absurd z h2
    isplitl [S2]; · iexact S2
    iexact S3
  iexact Hg

theorem between_last (c : Dev nD) : (vdats m 0 c).Φ (Fin.last cfg0.N) ⊢ (Pipeline.ΦA spec0 c : sProp 𝕄) := by
  rw [show (vdats m 0 c).Φ (Fin.last cfg0.N) = between m c cfg0.N (le_refl _) from rfl, PhiA0_eq]
  unfold between
  iintro ⟨⟨⟨%d0, %k0, S0⟩, ⟨%d1, %k1, S1⟩, S2, S3⟩, Hg⟩
  isplitl [S0 S1 S2 S3]
  · isplitl [S0]; · iexists d0; iexact S0
    isplitl [S1]; · iexists d1; iexact S1
    isplitl [S2]; · iexact S2
    iexact S3
  iexact Hg

include hC hC' hV in
set_option backward.isDefEq.respectTransparency.types false in
/-- Every run of the call ends with every window's array as the proof data say. -/
theorem vrun_main : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => (vbody_obligation m hC hC' hV c).loose) (hshare := fun c => (vdats m 0 c).share_full fun _ => rfl)
    (howed := fun _ _ => rfl) (V := V m) (hmain := hmain m Variants.none) (hA := vA_eq m) (hin := between_first m) (hout := between_last m)

/-- The result's array, for any array that agrees with every point's block. -/
theorem result_eq (c : Dev nD) (G : S8x8192x2048.Idx → EReal)
    (hG : ∀ (t : Fin cfg0.N) (y : S1x256x512.Idx), blockOut m c t y = G (((cfg0.win 6).blk t).view.emb y)) :
    (vdats m 0 c).arrAt 6 cfg0.N = G := by
  refine (vdats m 0 c).arrAt_eq_of_covers 6 _ (by decide +kernel) fun t hf y => ?_
  blk_simp
  rw [vafter_6]
  exact hG t y

include hC hC' hV in
/-- The run read: the result at `G`, the six arguments unchanged. -/
theorem run_value (G : Dev nD → S8x8192x2048.Idx → EReal)
    (hG : ∀ c (t : Fin cfg0.N) (y : S1x256x512.Idx), blockOut m c t y = G c (((cfg0.win 6).blk t).view.emb y)) :
    θ_run defs (onTc (τ := τ) (main (F := Ideal))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (result_eq m c (G c) (hG c)),
     ((h c).1 0).trans ((vdats m 0 c).arrAt_in 0 rfl _),
     ((h c).1 1).trans ((vdats m 0 c).arrAt_in 1 rfl _),
     ((h c).1 2).trans ((vdats m 0 c).arrAt_in 2 rfl _),
     ((h c).1 3).trans ((vdats m 0 c).arrAt_in 3 rfl _),
     ((h c).1 4).trans ((vdats m 0 c).arrAt_in 4 rfl _),
     ((h c).1 5).trans ((vdats m 0 c).arrAt_in 5 rfl _)⟩) (vrun_main m ρ hC hC' hV)

end Cert.KernelIdeal.Hand

end
-- ==== Proof.Row.lean ====
/-
  The kernel's row and the reference's row are one number: the keys counted in blocks of 256 up to the diagonal one, with
  logits in units of two relative to the tile, against the keys counted one by one over the whole sequence, with natural
  logits of which those past the query are masked.
-/
module

public import proofs.«01_k».proof.Proof.Online

@[expose] public section

noncomputable section

namespace Cert.Online

open Idealize.ShloMosaic

/-- A sum over the first `256 n` keys, by blocks. -/
theorem sum_blocks (n : ℕ) (f : ℕ → EReal) :
    ∑ k ∈ Finset.range (256 * n), f k = ∑ j ∈ Finset.range n, ∑ r : Fin 256, f (256 * j + r) := by
  induction n with
  | zero => simp
  | succ n ih => rw [Nat.mul_succ, Finset.sum_range_add, ih, Finset.sum_range_succ _ n, Finset.sum_range (n := 256)]

/-- A sum over all 8192 keys of which those past the blocks `0 … t` count nothing, by those blocks. -/
theorem sum_keys {t : ℕ} (ht : t < 32) (f : ℕ → EReal) (h0 : ∀ k, 256 * (t + 1) ≤ k → f k = 0) :
    ∑ k : Fin 8192, f k = ∑ j ∈ Finset.range (t + 1), ∑ r : Fin 256, f (256 * j + r) := by
  rw [← sum_blocks, ← Finset.sum_range]
  refine (Finset.sum_subset (Finset.range_mono (by omega)) fun k _ hk => h0 k ?_).symm
  simpa using hk

/-- The largest over all 8192 keys of which those past the blocks `0 … t` are masked, by those blocks. -/
theorem sup_keys {t : ℕ} (ht : t < 32) (f : ℕ → EReal) (h0 : ∀ k, 256 * (t + 1) ≤ k → f k = ⊥) :
    (Finset.univ.sup fun k : Fin 8192 => f k)
      = (Finset.range (t + 1)).sup fun j => Finset.univ.sup fun r : Fin 256 => f (256 * j + r) := by
  refine le_antisymm (Finset.sup_le fun k _ => ?_) (Finset.sup_le fun j hj => Finset.sup_le fun r _ => ?_)
  · by_cases hk : 256 * (t + 1) ≤ k.val
    · rw [h0 _ hk]; exact bot_le
    · have hj : k.val / 256 ∈ Finset.range (t + 1) := by rw [Finset.mem_range]; omega
      refine le_trans ?_ (Finset.le_sup (f := fun j => Finset.univ.sup fun r : Fin 256 => f (256 * j + r)) hj)
      refine le_trans (le_of_eq ?_)
        (Finset.le_sup (f := fun r : Fin 256 => f (256 * (k.val / 256) + r)) (Finset.mem_univ ⟨k.val % 256, by omega⟩))
      exact congrArg f (by simp only []; omega)
  · have hj := Finset.mem_range.mp hj
    exact Finset.le_sup (f := fun k : Fin 8192 => f k) (Finset.mem_univ ⟨256 * j + r, by omega⟩)

variable (L : ℕ → EReal) (V v : ℕ → EReal) (κ d : ℝ)

/-- The kernel's logits of a row whose natural logits, masked, are `L`. -/
def unitsOfTwo (j : ℕ) (r : Fin 256) : EReal := L (256 * j + r) * (κ : EReal) + (d : EReal)

/-- The weight of key `k` in the reference. -/
def weight (k : ℕ) : EReal := Ideal.exp (L k - Finset.univ.sup fun k : Fin 8192 => L k)

theorem maxU_eq {t : ℕ} (ht : t < 32) (hκ : 0 < κ) (h0 : ∀ k, 256 * (t + 1) ≤ k → L k = ⊥) :
    maxU (unitsOfTwo L κ d) (Finset.range (t + 1)) = (Finset.univ.sup fun k : Fin 8192 => L k) * (κ : EReal) + (d : EReal) := by
  rw [← sup_affine _ ⟨0, Finset.mem_univ _⟩ hκ]
  rw [sup_keys ht (fun k => L k * (κ : EReal) + (d : EReal)) fun k hk => by
    rw [h0 k hk, EReal.bot_mul_coe_of_pos hκ, EReal.bot_add]]
  rfl

theorem weight_eq {t : ℕ} (ht : t < 32) (hκ : κ * Real.log 2 = 1) (hκ0 : 0 < κ) (h0 : ∀ k, 256 * (t + 1) ≤ k → L k = ⊥)
    (j : ℕ) (r : Fin 256) :
    E (unitsOfTwo L κ d j r) (maxU (unitsOfTwo L κ d) (Finset.range (t + 1))) = weight L (256 * j + r) :=
  E_affine hκ rfl (maxU_eq L κ d ht hκ0 h0)

theorem weight_masked {k : ℕ} (h : L k = ⊥) : weight L k = 0 := by
  unfold weight; rw [h, EReal.bot_sub]; rfl

theorem weight_nonneg (k : ℕ) : 0 ≤ weight L k := by
  unfold weight
  generalize (L k - _ : EReal) = x
  induction x with
  | bot => simp
  | top => simp
  | coe r => rw [Ideal.exp_coe]; exact_mod_cast (Real.exp_pos r).le

/-- A weight is at most one: the key is one of those the maximum is taken over. -/
theorem weight_ne_top (k : Fin 8192) : weight L k ≠ ⊤ := by
  have hl2 : (Real.log 2)⁻¹ * Real.log 2 = 1 := inv_mul_cancel₀ (Real.log_pos (by norm_num)).ne'
  have hk : 0 < (Real.log 2)⁻¹ := inv_pos.mpr (Real.log_pos (by norm_num))
  unfold weight
  rw [← E_affine (d := 0) hl2 rfl rfl]
  refine E_ne_top (add_le_add_left (mul_le_mul_of_nonneg_right ?_ (by exact_mod_cast hk.le)) _)
  exact Finset.le_sup (f := fun k : Fin 8192 => L k) (Finset.mem_univ k)

/-- The weighted sum of the values a row yields, as the reference counts it. -/
def rowValue : EReal :=
  ∑ k : Fin 8192, v k * A (weight L k) (V k) (∑ k : Fin 8192, weight L k)

/-- The kernel's count of a row is the reference's. -/
theorem kernel_rowValue {t : ℕ} (ht : t < 32) (hκ : κ * Real.log 2 = 1) (hκ0 : 0 < κ)
    (h0 : ∀ k, 256 * (t + 1) ≤ k → L k = ⊥) :
    (∑ j ∈ Finset.range (t + 1), ∑ r : Fin 256, v (256 * j + r) *
        A (E (unitsOfTwo L κ d j r) (maxU (unitsOfTwo L κ d) (Finset.range (t + 1)))) (V (256 * j + r))
          (sumE (unitsOfTwo L κ d) (Finset.range (t + 1)) (maxU (unitsOfTwo L κ d) (Finset.range (t + 1)))))
      = rowValue L V v := by
  unfold rowValue sumE
  simp only [weight_eq L κ d ht hκ hκ0 h0]
  rw [sum_keys ht (fun k => weight L k) fun k hk => weight_masked L (h0 k hk)]
  rw [sum_keys ht (fun k => v k * A (weight L k) (V k) _) fun k hk => by
    rw [weight_masked L (h0 k hk)]; unfold A; simp]

end Cert.Online
-- ==== Proof.Formula.lean ====
/-
  Hand-written. The attention layer as one formula in its six arrays over the extended reals, and the kernel's row of it:
  blocks of keys, logits in units of two relative to the tile, against the whole row of natural logits.
-/
module

public import proofs.«01_k».proof.Proof.Row
public import proofs.«01_k».proof.Proof.BodyValue

@[expose] public section

noncomputable section

namespace Cert.Attention

open Idealize.ShloMosaic Cert.Online Cert.KernelIdeal.Hand

/-- The slope of query head `h`. -/
def headSlope (h : ℕ) : ℝ := (2 : ℝ) ^ (-(1 / 2 : ℝ) * ((h : ℝ) + 1))

/-- The logit of key `k` at query `q`, masked when the key comes after the query: the dot product times both scales, less
    the slope times the distance. -/
def logit (Q : Fin 128 → EReal) (K : ℕ → Fin 128 → EReal) (a : EReal) (KC : ℕ → EReal) (sl : ℝ) (q k : ℕ) : EReal :=
  if k ≤ q then (∑ d : Fin 128, Q d * K k d) * (a * (((Real.sqrt 128)⁻¹ : ℝ) : EReal)) * KC k
    - (((sl * ((q : ℝ) - (k : ℝ))) : ℝ) : EReal) else ⊥

variable (x0 : (⟨3, ![8, 8192, 2048]⟩ : Shape).Idx → EReal) (x1 : (⟨4, ![8, 16, 1, 8192]⟩ : Shape).Idx → EReal)
  (x2 : (⟨3, ![8, 8192, 512]⟩ : Shape).Idx → EReal) (x3 : (⟨3, ![8, 512, 8192]⟩ : Shape).Idx → EReal)
  (x4 x5 : (⟨3, ![8, 8192, 4]⟩ : Shape).Idx → EReal)

/-- The logits of one row: sequence `b`, query head `g` of key/value head `kv`, query `q`. -/
def rowLogit (b : Fin 8) (kv g : Fin 4) (q : Fin 8192) : ℕ → EReal :=
  logit (fun d => x0 (ix3 b q ⟨512 * kv.val + 128 * g.val + d.val, by omega⟩))
    (ext fun k d => x2 (ix3 b k ⟨128 * kv.val + d.val, by omega⟩)) (x1 (ix4 b ⟨4 * kv.val + g.val, by omega⟩ 0 q))
    (ext fun k => x4 (ix3 b k kv)) (headSlope (4 * kv.val + g.val)) q.val

/-- One entry of the result. -/
def entry (b : Fin 8) (kv g : Fin 4) (q : Fin 8192) (d : Fin 128) : EReal :=
  rowValue (rowLogit x0 x1 x2 x4 b kv g q) (ext fun k => x5 (ix3 b k kv))
    (ext fun k => x3 (ix3 b ⟨128 * kv.val + d.val, by omega⟩ k))

/-- The result. -/
def attention : (⟨3, ![8, 8192, 2048]⟩ : Shape).Idx → EReal := fun y =>
  entry x0 x1 x2 x3 x4 x5 (y 0) ⟨(y 2).val / 512, by have : (y 2).val < 2048 := (y 2).isLt; omega⟩
    ⟨(y 2).val / 128 % 4, by omega⟩ (y 1) ⟨(y 2).val % 128, by omega⟩

/-! ### The kernel's row -/

theorem maxU_congr {U U' : ℕ → Fin 256 → EReal} {S : Finset ℕ} (h : ∀ j ∈ S, ∀ r, U j r = U' j r) : maxU U S = maxU U' S := by
  unfold maxU
  exact Finset.sup_congr rfl fun j hj => congrArg _ (funext (h j hj))

theorem sumE_congr {U U' : ℕ → Fin 256 → EReal} {S : Finset ℕ} (h : ∀ j ∈ S, ∀ r, U j r = U' j r) (m : EReal) :
    sumE U S m = sumE U' S m := by
  unfold sumE
  exact Finset.sum_congr rfl fun j hj => Finset.sum_congr rfl fun r _ => by rw [h j hj r]

/-- The kernel's logit is the formula's, in units of two and relative to the tile. -/
theorem logitOf_eq (t : ℕ) (Q : Fin 256 → Fin 128 → EReal) (K : ℕ → Fin 128 → EReal) (A a : Fin 256 → EReal) (KC : ℕ → EReal) (sl κ : ℝ)
    (hκ : 0 < κ) (hA : ∀ c, A c = a c * ((((Real.sqrt 128)⁻¹ * κ : ℝ)) : EReal)) (c : Fin 256) (j : ℕ) (hj : j ≤ t) (r : Fin 256) :
    logitOf t K Q A KC ((κ * sl : ℝ) : EReal) j r c
      = unitsOfTwo (logit (Q c) K (a c) KC sl (256 * t + c.val)) κ (κ * sl * (c.val : ℝ)) j r := by
  unfold logitOf unitsOfTwo logit
  by_cases h : j = t ∧ ¬ r.val ≤ c.val
  · rw [if_pos h, if_neg (by omega), EReal.bot_mul_coe_of_pos hκ, EReal.bot_add]
  · rw [if_neg h, if_pos (by omega), sub_mul_coe hκ]
    unfold rawOf
    rw [hA, add_assoc, ← EReal.coe_add, ← EReal.coe_add, ← EReal.coe_mul]
    congr 1
    · rw [EReal.coe_mul]
      simp only [mul_comm (Q c _)]
      ac_rfl
    · congr 1
      push_cast
      ring

/-- The kernel's row is the formula's row. -/
theorem rowOf_eq (t : ℕ) (ht : t < 32) (Q : Fin 256 → Fin 128 → EReal) (K : ℕ → Fin 128 → EReal) (A a : Fin 256 → EReal) (KC V : ℕ → EReal)
    (v : ℕ → Fin 128 → EReal) (sl κ : ℝ) (hκ : κ * Real.log 2 = 1) (hκ0 : 0 < κ)
    (hA : ∀ c, A c = a c * ((((Real.sqrt 128)⁻¹ * κ : ℝ)) : EReal)) (c : Fin 256) (d : Fin 128) :
    rowOf t (logitOf t K Q A KC ((κ * sl : ℝ) : EReal)) (fun j r => V (256 * j + r.val)) (fun j r => v (256 * j + r.val)) c d
      = rowValue (logit (Q c) K (a c) KC sl (256 * t + c.val)) V (fun k => v k d) := by
  have h0 : ∀ k, 256 * (t + 1) ≤ k → logit (Q c) K (a c) KC sl (256 * t + c.val) k = ⊥ := fun k hk => by
    unfold logit; rw [if_neg (by omega)]
  have hU : ∀ j ∈ Finset.range (t + 1), ∀ r, (fun j r => logitOf t K Q A KC ((κ * sl : ℝ) : EReal) j r c) j r
      = unitsOfTwo (logit (Q c) K (a c) KC sl (256 * t + c.val)) κ (κ * sl * (c.val : ℝ)) j r := fun j hj r =>
    logitOf_eq t Q K A a KC sl κ hκ0 hA c j (by have := Finset.mem_range.mp hj; omega) r
  rw [← kernel_rowValue (logit (Q c) K (a c) KC sl (256 * t + c.val)) V (fun k => v k d) κ (κ * sl * (c.val : ℝ)) ht hκ hκ0 h0]
  unfold rowOf
  rw [maxU_congr hU, sumE_congr hU]
  exact Finset.sum_congr rfl fun j hj => Finset.sum_congr rfl fun r _ => by rw [← hU j hj r]

end Cert.Attention
-- ==== Proof.KernelResult.lean ====
/-
  Hand-written. The kernel's result is the attention formula of its six arguments.
-/
module

public import proofs.«01_k».proof.Proof.KernelIdealValue
public import proofs.«01_k».proof.Proof.Formula

@[expose] public section

set_option maxRecDepth 16384
set_option maxHeartbeats 1600000

noncomputable section

namespace Cert.KernelIdeal.Hand

open Cert.KernelIdeal Cert.KernelIdeal.Gen Cert.Attention
open Idealize.ShloMosaic Idealize.ShloMosaic.TcCoe
open Idealize.SL.Sem

theorem logit_scale_named : Named.named (F := Ideal) (φ := .f32) κ "logit_scale" 0x3E0293EE#32
    = (((Real.sqrt 128)⁻¹ * (Real.log 2)⁻¹ : ℝ) : EReal) :=
  IdealRules.named_const.ideal_named_scalar _ _ _ _ rfl

theorem log_two_pos : 0 < Real.log 2 := Real.log_pos (by norm_num)

/-- An entry of the formula at a position given by its head and its place within the head. -/
theorem attention_at (x0 : (⟨3, ![8, 8192, 2048]⟩ : Shape).Idx → EReal) (x1 : (⟨4, ![8, 16, 1, 8192]⟩ : Shape).Idx → EReal)
    (x2 : (⟨3, ![8, 8192, 512]⟩ : Shape).Idx → EReal) (x3 : (⟨3, ![8, 512, 8192]⟩ : Shape).Idx → EReal)
    (x4 x5 : (⟨3, ![8, 8192, 4]⟩ : Shape).Idx → EReal) (b : Fin 8) (kv g : Fin 4) (q : Fin 8192) (d : Fin 128) (E : Fin 2048)
    (hE : E.val = 512 * kv.val + 128 * g.val + d.val) :
    attention x0 x1 x2 x3 x4 x5 (ix3 b q E) = entry x0 x1 x2 x3 x4 x5 b kv g q d := by
  unfold attention
  have h1 : (⟨E.val / 512, by omega⟩ : Fin 4) = kv := Fin.ext (by simp only []; omega)
  have h2 : (⟨E.val / 128 % 4, by omega⟩ : Fin 4) = g := Fin.ext (by simp only []; omega)
  have h3 : (⟨E.val % 128, by omega⟩ : Fin 128) = d := Fin.ext (by simp only []; omega)
  show entry x0 x1 x2 x3 x4 x5 b ⟨E.val / 512, _⟩ ⟨E.val / 128 % 4, _⟩ q ⟨E.val % 128, _⟩ = _
  rw [h1, h2, h3]

theorem row_congr {Q Q' : Fin 128 → EReal} {K K' : ℕ → Fin 128 → EReal} {a a' : EReal} {KC KC' : ℕ → EReal} {sl sl' : ℝ} {q q' : ℕ}
    {V V' v v' : ℕ → EReal} (h1 : Q = Q') (h2 : K = K') (h3 : a = a') (h4 : KC = KC') (h5 : sl = sl') (h6 : q = q') (h7 : V = V')
    (h8 : v = v') :
    Online.rowValue (logit Q K a KC sl q) V v = Online.rowValue (logit Q' K' a' KC' sl' q') V' v' := by
  subst h1 h2 h3 h4 h5 h6 h7 h8; rfl

variable (m : (ℓ : Loc nD τ sig) → Buf (Elt Ideal) ℓ)

theorem headOut_eq (c : Dev nD) (t : Fin cfg0.N) (b : Fin 8) (kv g : Fin 4) (q : Fin 8192) (r : Fin 256) (d : Fin 128)
    (hb : b.val = (grid0.coords t 0).val) (hkv : kv.val = (grid0.coords t 1).val)
    (hq : q.val = 256 * (grid0.coords t 2).val + r.val) :
    headOut (grid0.coords t) (iblk m c 0 t) (iblk m c 1 t) (iblk m c 2 t) (iblk m c 3 t) (iblk m c 4 t) (iblk m c 5 t) g r d
      = entry (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          b kv g q d := by
  have hkv' : (grid0.coords t 1 : Fin 4) = kv := Fin.ext hkv.symm
  have ht : (grid0.coords t 2).val < 32 := (grid0.coords t 2).isLt
  unfold headOut
  rw [logit_scale_named]
  refine (rowOf_eq _ ht _ _ _ (fun r => iblk m c 1 t (ix4 0 g 0 r)) _ (ext fun R => iblk m c 5 t (ix3 0 R (grid0.coords t 1)))
    (ext fun R d => iblk m c 3 t (ix3 0 d R)) (headSlope (4 * (grid0.coords t 1).val + g.val)) (Real.log 2)⁻¹
    (inv_mul_cancel₀ log_two_pos.ne') (inv_pos.mpr log_two_pos) (fun c => rfl) r d).trans ?_
  unfold entry rowLogit
  have e0 : (fun d : Fin 128 => (iblk m c 0 t : S1x256x512.Idx → EReal) (ix3 0 r ⟨128 * g.val + d.val, by omega⟩))
      = fun d : Fin 128 => m ((c.tc : Thread nD τ).loc main_arg0) (ix3 (n0 := 8) (n1 := 8192) (n2 := 2048) b q ⟨512 * kv.val + 128 * g.val + d.val, by omega⟩) :=
    funext fun d => block_0 m c t r _ b q _ hb hq (by simp only []; omega)
  have e1 := block_1 m c t g r b ⟨4 * kv.val + g.val, by omega⟩ q hb (by simp only []; omega) hq
  have e2 : (fun (R : Fin 8192) (d : Fin 128) => (iblk m c 2 t : S1x8192x128.Idx → EReal) (ix3 0 R d))
      = fun R d => m ((c.tc : Thread nD τ).loc main_arg2) (ix3 (n0 := 8) (n1 := 8192) (n2 := 512) b R ⟨128 * kv.val + d.val, by omega⟩) :=
    funext fun R => funext fun d => block_2 m c t R d b _ hb (by simp only []; omega)
  have e3 : (fun k => ext (α := Fin 128 → EReal) (fun (R : Fin 8192) (d : Fin 128) => ((iblk m c 3 t : S1x128x8192.Idx → EReal) (ix3 0 d R) : EReal)) k d)
      = ext (α := EReal) fun R => (m ((c.tc : Thread nD τ).loc main_arg3) (ix3 (n0 := 8) (n1 := 512) (n2 := 8192) b ⟨128 * kv.val + d.val, by omega⟩ R) : EReal) := by
    funext k
    unfold ext
    split
    · exact block_3 m c t d _ b _ hb (by simp only []; omega)
    · rfl
  have e4 : (fun R : Fin 8192 => (iblk m c 4 t : S1x8192x4.Idx → EReal) (ix3 0 R (grid0.coords t 1)))
      = fun R => m ((c.tc : Thread nD τ).loc main_arg4) (ix3 (n0 := 8) (n1 := 8192) (n2 := 4) b R kv) :=
    funext fun R => (block_4 m c t R _ b hb).trans (by rw [hkv'])
  have e5 : (fun R : Fin 8192 => (iblk m c 5 t : S1x8192x4.Idx → EReal) (ix3 0 R (grid0.coords t 1)))
      = fun R => m ((c.tc : Thread nD τ).loc main_arg5) (ix3 (n0 := 8) (n1 := 8192) (n2 := 4) b R kv) :=
    funext fun R => (block_5 m c t R _ b hb).trans (by rw [hkv'])
  have es : headSlope (4 * (grid0.coords t 1).val + g.val) = headSlope (4 * kv.val + g.val) := by rw [hkv]
  have hq' : q.val = 256 * (tileOf (grid0.coords t)).val + r.val := hq
  exact row_congr e0 (congrArg ext e2) e1 (congrArg ext e4) es hq'.symm (congrArg ext e5) e3

/-- The block written at a point is the formula's block there. -/
theorem blockOut_eq (c : Dev nD) (t : Fin cfg0.N) (y : S1x256x512.Idx) :
    blockOut m c t y = attention (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (((cfg0.win 6).blk t).view.emb y) := by
  obtain ⟨z, r, D, rfl⟩ : ∃ (z : Fin 1) (r : Fin 256) (D : Fin 512), y = ix3 z r D := ⟨y 0, y 1, y 2, eq_ix3 y⟩
  obtain rfl : z = 0 := Subsingleton.elim _ _
  have h0 : (grid0.coords t 0).val < 8 := (grid0.coords t 0).isLt
  have h1 : (grid0.coords t 1).val < 4 := (grid0.coords t 1).isLt
  have h2 : (grid0.coords t 2).val < 32 := (grid0.coords t 2).isLt
  rw [block_6_emb t r D ⟨(grid0.coords t 0).val, h0⟩ ⟨256 * (grid0.coords t 2).val + r.val, by omega⟩
    ⟨512 * (grid0.coords t 1).val + D.val, by omega⟩ rfl rfl rfl]
  rw [attention_at _ _ _ _ _ _ _ ⟨(grid0.coords t 1).val, h1⟩ ⟨D.val / 128, by omega⟩ _ ⟨D.val % 128, by omega⟩ _ (by simp only []; omega)]
  exact headOut_eq m c t _ _ ⟨D.val / 128, by omega⟩ _ r ⟨D.val % 128, by omega⟩ rfl rfl rfl

end Cert.KernelIdeal.Hand

end
-- ==== Proof.ReferenceValue.lean ====
/-
  Hand-written. The reference's result at one position is the attention formula's entry.
-/
module

public import proofs.«01_k».proof.Proof.Gen.ReferenceIdeal.Read
public import proofs.«01_k».proof.Proof.Formula
public import proofs.«01_k».proof.Proof.End

@[expose] public section

set_option maxRecDepth 16384
set_option maxHeartbeats 1600000

noncomputable section

namespace Cert.ReferenceIdeal.Hand

open Cert.ReferenceIdeal Cert.ReferenceIdeal.Gen Cert.ReferenceIdeal.Read Cert.Attention Cert.Online
open Cert.KernelIdeal.Hand (ext ext_val)
open Idealize.ShloMosaic

/-! ### Scalars -/

theorem bits_one : Ideal.ofBits .f32 0x3F800000#32 = ((1 : ℝ) : EReal) := by
  simp [Ideal.ofBits, Ideal.ieee]; rw [← EReal.coe_one, ← EReal.coe_mul]; norm_num

theorem bits_two : Ideal.ofBits .f32 0x40000000#32 = ((2 : ℝ) : EReal) := by
  simp [Ideal.ofBits, Ideal.ieee]; rw [← EReal.coe_mul]; norm_num

theorem bits_neg_eight : Ideal.ofBits .f32 0xC1000000#32 = ((-8 : ℝ) : EReal) := by
  simp [Ideal.ofBits, Ideal.ieee]; rw [← EReal.coe_mul]; norm_num

theorem bits_sixteen : Ideal.ofBits .f32 0x41800000#32 = ((16 : ℝ) : EReal) := by
  simp [Ideal.ofBits, Ideal.ieee]; rw [← EReal.coe_mul]; norm_num

theorem bits_128 : Ideal.ofBits .f32 0x43000000#32 = ((128 : ℝ) : EReal) := by
  simp [Ideal.ofBits, Ideal.ieee]; rw [← EReal.coe_mul]; norm_num

theorem bits_448 : Ideal.ofBits .f32 0x43E00000#32 = ((448 : ℝ) : EReal) := by
  simp [Ideal.ofBits, Ideal.ieee]; rw [← EReal.coe_mul]; norm_num

theorem bits_neg_448 : Ideal.ofBits .f32 0xC3E00000#32 = ((-448 : ℝ) : EReal) := by
  simp [Ideal.ofBits, Ideal.ieee]; rw [← EReal.coe_mul]; norm_num

theorem bits_zero : Ideal.ofBits .f32 0x00000000#32 = 0 := by simp [Ideal.ofBits, Ideal.ieee]

theorem bits_bot : Ideal.ofBits .f32 0xFF800000#32 = ⊥ := by simp [Ideal.ofBits, Ideal.ieee]

theorem log_two : Ideal.log (((2 : ℝ)) : EReal) = ((Real.log 2 : ℝ) : EReal) := by
  rw [Ideal.log_coe, if_neg (by norm_num)]

theorem log_two_pos : 0 < Real.log 2 := Real.log_pos (by norm_num)

/-- A power of two, as the exponential of a multiple of the logarithm of two. -/
theorem exp_mul_log_two (x : EReal) : Ideal.exp (x * ((Real.log 2 : ℝ) : EReal)) = Ideal.exp2 x := by
  induction x with
  | bot => rw [EReal.bot_mul_coe_of_pos log_two_pos]; simp
  | top => rw [EReal.top_mul_coe_of_pos log_two_pos]; simp
  | coe r =>
    rw [← EReal.coe_mul, Ideal.exp_coe, Ideal.exp2_coe]
    congr 1
    show Real.exp _ = (2 : ℝ) ^ r
    rw [Real.rpow_def_of_pos (by norm_num), mul_comm]

theorem sub_toInt (q k : Fin 8192) : (IntOp.subi (BitVec.ofNat 32 q.val) (BitVec.ofNat 32 k.val)).toInt = (q.val : ℤ) - k.val := by
  show (BitVec.ofNat 32 q.val - BitVec.ofNat 32 k.val).toInt = _
  have hq := q.isLt
  have hk := k.isLt
  have small : ∀ n : ℕ, n < 8192 → (BitVec.ofNat 32 n).toInt = (n : ℤ) := fun n hn => by
    rw [BitVec.toInt_eq_toNat_cond, BitVec.toNat_ofNat, Nat.mod_eq_of_lt (by omega), if_pos (by omega)]
  rw [BitVec.toInt_sub, small _ hq, small _ hk]
  simp only [Int.bmod_def]
  omega

/-! ### The arrays at a position -/

section
variable (x1 : S8x16x1x8192.Idx → EReal) (x4 x5 : S8x8192x4.Idx → EReal) (r0 : S8x8192x2048.Idx → EReal)
  (r1 : S8x8192x512.Idx → EReal) (r2 : S8x512x8192.Idx → EReal)
  (b : Fin 8) (kv g : Fin 4) (q k : Fin 8192) (d : Fin 128)

theorem q_at : val_main_v2 (F := Ideal) r0 (ix5 b kv g q d) = r0 (ix3 b q ⟨512 * kv.val + 128 * g.val + d.val, by omega⟩) := by
  rw [val_main_v2_apply, val_main_v1_apply]
  refine congrArg r0 (funext fun a => Fin.ext ?_)
  match a with
  | ⟨0, _⟩ => show ((((b.val * 8192 + q.val) * 4 + kv.val) * 4 + g.val) * 128 + d.val) / 16777216 = b.val; omega
  | ⟨1, _⟩ => show ((((b.val * 8192 + q.val) * 4 + kv.val) * 4 + g.val) * 128 + d.val) / 2048 % 8192 = q.val; omega
  | ⟨2, _⟩ => show ((((b.val * 8192 + q.val) * 4 + kv.val) * 4 + g.val) * 128 + d.val) % 2048 = 512 * kv.val + 128 * g.val + d.val; omega

theorem k_at : val_main_v5 (F := Ideal) r1 (ix4 b kv k d) = r1 (ix3 b k ⟨128 * kv.val + d.val, by omega⟩) := by
  rw [val_main_v5_apply, val_main_v4_apply]
  refine congrArg r1 (funext fun a => Fin.ext ?_)
  match a with
  | ⟨0, _⟩ => show (((b.val * 8192 + k.val) * 4 + kv.val) * 128 + d.val) / 4194304 = b.val; omega
  | ⟨1, _⟩ => show (((b.val * 8192 + k.val) * 4 + kv.val) * 128 + d.val) / 512 % 8192 = k.val; omega
  | ⟨2, _⟩ => show (((b.val * 8192 + k.val) * 4 + kv.val) * 128 + d.val) % 512 = 128 * kv.val + d.val; omega

theorem v_at : val_main_v7 (F := Ideal) r2 (ix4 b kv k d) = r2 (ix3 b ⟨128 * kv.val + d.val, by omega⟩ k) := by
  rw [val_main_v7_apply, val_main_v6_apply]
  refine congrArg r2 (funext fun a => Fin.ext ?_)
  match a with
  | ⟨0, _⟩ => show (((b.val * 4 + kv.val) * 128 + d.val) * 8192 + k.val) / 4194304 = b.val; omega
  | ⟨1, _⟩ => show (((b.val * 4 + kv.val) * 128 + d.val) * 8192 + k.val) / 8192 % 512 = 128 * kv.val + d.val; omega
  | ⟨2, _⟩ => show (((b.val * 4 + kv.val) * 128 + d.val) * 8192 + k.val) % 8192 = k.val; omega

theorem qs_at : val_main_v3 (F := Ideal) x1 (ix4 b kv g q) = x1 (ix4 b ⟨4 * kv.val + g.val, by omega⟩ 0 q) := by
  rw [val_main_v3_apply]
  refine congrArg x1 (funext fun a => Fin.ext ?_)
  match a with
  | ⟨0, _⟩ => show (((b.val * 4 + kv.val) * 4 + g.val) * 8192 + q.val) / 131072 = b.val; omega
  | ⟨1, _⟩ => show (((b.val * 4 + kv.val) * 4 + g.val) * 8192 + q.val) / 8192 % 16 = 4 * kv.val + g.val; omega
  | ⟨2, _⟩ => rfl
  | ⟨3, _⟩ => show (((b.val * 4 + kv.val) * 4 + g.val) * 8192 + q.val) % 8192 = q.val; omega

theorem ks_at : val_main_v40 (F := Ideal) x4 (ix5 b kv g q k) = x4 (ix3 b k kv) := by
  rw [val_main_v40_apply, val_main_v9_apply, val_main_v8_apply]
  exact congrArg x4 (funext fun a => by match a with | ⟨0, _⟩ => rfl | ⟨1, _⟩ => rfl | ⟨2, _⟩ => rfl)

theorem vs_at : val_main_v63 (F := Ideal) x5 (ix5 b kv g q k) = x5 (ix3 b k kv) := by
  rw [val_main_v63_apply, val_main_v11_apply, val_main_v10_apply]
  exact congrArg x5 (funext fun a => by match a with | ⟨0, _⟩ => rfl | ⟨1, _⟩ => rfl | ⟨2, _⟩ => rfl)

theorem dot_at : val_main_v25 (F := Ideal) r0 r1 (ix5 b kv g q k)
    = ∑ d : Fin 128, r0 (ix3 b q ⟨512 * kv.val + 128 * g.val + d.val, by omega⟩) * r1 (ix3 b k ⟨128 * kv.val + d.val, by omega⟩) := by
  rw [val_main_v25_apply]
  refine Finset.sum_congr rfl fun d _ => ?_
  rw [← q_at r0 b kv g q d, ← k_at r1 b kv k d]
  exact congrArg₂ (fun x y => val_main_v2 (F := Ideal) r0 x * val_main_v5 (F := Ideal) r1 y)
    (funext fun a => by match a with | ⟨0, _⟩ => rfl | ⟨1, _⟩ => rfl | ⟨2, _⟩ => rfl | ⟨3, _⟩ => rfl | ⟨4, _⟩ => rfl)
    (funext fun a => by match a with | ⟨0, _⟩ => rfl | ⟨1, _⟩ => rfl | ⟨2, _⟩ => rfl | ⟨3, _⟩ => rfl)

theorem dist_at (i : S8192x8192.Idx) : val_main_v33 (F := Ideal) i = ((((i 0 : Fin 8192).val : ℝ) - ((i 1 : Fin 8192).val : ℝ) : ℝ) : EReal) := by
  rw [val_main_v33_apply, val_main_v32_apply, val_main_v30_apply, val_main_v27_apply, val_main_v26_apply, val_main_v31_apply,
    val_main_v29_apply, val_main_v28_apply]
  show (((IntOp.subi (BitVec.ofNat 32 (i 0 : Fin 8192).val) (BitVec.ofNat 32 (i 1 : Fin 8192).val)).toInt : ℝ) : EReal) = _
  rw [sub_toInt (i 0) (i 1)]
  push_cast
  rfl

theorem headNo (h : Fin 16) : (BitVec.ofNat 32 h.val).toInt = (h.val : ℤ) := by revert h; decide +kernel

theorem slope_at (i : S16.Idx) : val_main_v22 (F := Ideal) i = (headSlope (i 0 : Fin 16).val : EReal) := by
  rw [val_main_v22_apply, val_main_v21_apply, val_main_v18_apply, val_main_v16_apply, val_main_v14_apply, val_main_v13_apply,
    val_main_cst_apply, val_main_v15_apply, val_main_cst_0_apply, val_main_v17_apply, val_main_cst_1_apply, val_main_v20_apply,
    val_main_v19_apply, val_main_cst_2_apply]
  show Ideal.exp (Ideal.div (Ideal.ofBits .f32 0xC1000000#32
    * ((((BitVec.ofNat 32 (i 0 : Fin 16).val).toInt : ℝ) : EReal) + Ideal.ofBits .f32 0x3F800000#32)) (Ideal.ofBits .f32 0x41800000#32)
      * Ideal.log (Ideal.ofBits .f32 0x40000000#32)) = _
  rw [headNo (i 0), bits_one, bits_two, bits_neg_eight, bits_sixteen, log_two, exp_mul_log_two, Ideal.div_coe (by norm_num),
    ← EReal.coe_add, ← EReal.coe_mul, ← EReal.coe_mul, Ideal.exp2_coe]
  unfold headSlope
  congr 1
  show Real.rpow 2 _ = Real.rpow 2 _
  congr 1
  push_cast
  ring

theorem bias_at : val_main_v47 (F := Ideal) (ix5 b kv g q k)
    = (((headSlope (4 * kv.val + g.val) * ((q.val : ℝ) - (k.val : ℝ))) : ℝ) : EReal) := by
  rw [val_main_v47_apply, val_main_v46_apply, val_main_v45_apply, val_main_v44_apply, val_main_v42_apply, val_main_v43_apply,
    val_main_v24_apply, val_main_v23_apply, dist_at, slope_at]
  show ((headSlope (kv.val * 4 + g.val) : ℝ) : EReal) * ((((q.val : ℝ) - (k.val : ℝ)) : ℝ) : EReal) = _
  rw [← EReal.coe_mul, mul_comm kv.val 4]

theorem qscale_at : val_main_v38 (F := Ideal) x1 (ix5 b kv g q k)
    = x1 (ix4 b ⟨4 * kv.val + g.val, by omega⟩ 0 q) * (((Real.sqrt 128)⁻¹ : ℝ) : EReal) := by
  rw [val_main_v38_apply, val_main_v37_apply, val_main_v36_apply, val_main_v35_apply, val_main_cst_3_apply, val_main_v34_apply,
    ← qs_at x1 b kv g q]
  show Ideal.div (val_main_v3 (F := Ideal) x1 _) (Ideal.sqrt (Ideal.ofBits .f32 0x43000000#32)) = _
  rw [bits_128, Ideal.sqrt_coe, if_neg (by norm_num), Ideal.div_coe (by positivity), one_div]
  exact congrArg (fun x => val_main_v3 (F := Ideal) x1 x * (((Real.sqrt 128)⁻¹ : ℝ) : EReal))
    (funext fun a => by match a with | ⟨0, _⟩ => rfl | ⟨1, _⟩ => rfl | ⟨2, _⟩ => rfl | ⟨3, _⟩ => rfl)

/-- The reference's masked logit is the formula's. -/
theorem logit_at : val_main_v51 (F := Ideal) x1 x4 r0 r1 (ix5 b kv g q k) = rowLogit r0 x1 r1 x4 b kv g q k.val := by
  rw [val_main_v51_apply, val_main_v48_apply, val_main_v41_apply, val_main_v39_apply, dot_at, qscale_at, ks_at, bias_at,
    val_main_call0_v1_apply, val_main_v50_apply, val_main_v49_apply, val_main_cst_4_apply, val_main_call0_v2_apply,
    val_main_call0_v0_apply, val_main_cst_5_apply, dist_at]
  unfold rowLogit logit
  rw [ext_val, ext_val]
  show (if Ideal.cmp .oge ((((q.val : ℝ) - (k.val : ℝ)) : ℝ) : EReal) (Ideal.ofBits .f32 0x00000000#32) = 1 then _
    else Ideal.ofBits .f32 0xFF800000#32) = _
  rw [bits_zero, bits_bot]
  have h : Ideal.cmp .oge ((((q.val : ℝ) - (k.val : ℝ)) : ℝ) : EReal) 0 = 1 ↔ k.val ≤ q.val := by
    rw [Ideal.cmp_oge_eq_one, EReal.coe_nonneg, sub_nonneg, Nat.cast_le]
  by_cases hk : k.val ≤ q.val
  · rw [if_pos (h.mpr hk), if_pos hk]; rfl
  · rw [if_neg (fun e => hk (h.mp e)), if_neg hk]

/-! ### The softmax of a row -/

theorem lift_at (h : S8x4x4x8192x8192.Reduces [4] S8x4x4x8192) :
    h.lift (ix4 b kv g q : S8x4x4x8192.Idx) k = (ix5 b kv g q k : S8x4x4x8192x8192.Idx) :=
  funext fun a => Fin.ext (by match a with | ⟨0, _⟩ => rfl | ⟨1, _⟩ => rfl | ⟨2, _⟩ => rfl | ⟨3, _⟩ => rfl | ⟨4, _⟩ => rfl)

/-- A maximum over the keys, started from minus infinity, is the supremum of the row. -/
theorem reduce_max (x : S8x4x4x8192x8192.Idx → EReal) (init : S_.Idx → EReal) (hi : ∀ i, init i = ⊥) :
    Host.reduce (FloatOps.maximumf (F := Ideal) (φ := .f32)) x init reducesTo_S8x4x4x8192x8192_S8x4x4x8192_d4 h_S_
      (ix4 b kv g q : S8x4x4x8192.Idx) = Finset.univ.sup fun k : Fin 8192 => x (ix5 b kv g q k) := by
  have h : S8x4x4x8192x8192.Reduces [4] S8x4x4x8192 := by decide
  refine (Host.reduce_eq_fold_single (FloatOps.maximumf (F := Ideal) (φ := .f32)) x init
    reducesTo_S8x4x4x8192x8192_S8x4x4x8192_d4 h h_S_ _).trans ?_
  rw [hi]
  have hf : (x ∘ h.lift (ix4 b kv g q : S8x4x4x8192.Idx)) = fun k : Fin 8192 => x (ix5 b kv g q k) :=
    funext fun k => congrArg x (lift_at b kv g q k h)
  rw [hf]
  rfl

theorem max_at : val_main_v56 (F := Ideal) x1 x4 r0 r1 (ix5 b kv g q k)
    = Finset.univ.sup fun k : Fin 8192 => rowLogit r0 x1 r1 x4 b kv g q k.val := by
  rw [val_main_v56_apply, val_main_v55_apply, val_main_v54_apply, val_main_v53_apply, val_main_cst_7_apply]
  show max (Ideal.ofBits .f32 0xFF800000#32) (val_main_v52 (F := Ideal) x1 x4 r0 r1 _) = _
  rw [bits_bot, max_eq_right bot_le]
  have e : (idx_main_v55 (idx_main_v56 (ix5 b kv g q k)) : S8x4x4x8192.Idx) = ix4 b kv g q :=
    funext fun a => by match a with | ⟨0, _⟩ => rfl | ⟨1, _⟩ => rfl | ⟨2, _⟩ => rfl | ⟨3, _⟩ => rfl
  rw [e]
  unfold val_main_v52
  refine (reduce_max b kv g q _ _ fun i => bits_bot).trans ?_
  exact Finset.sup_congr rfl fun k _ => logit_at x1 x4 r0 r1 b kv g q k

theorem weight_at : val_main_v58 (F := Ideal) x1 x4 r0 r1 (ix5 b kv g q k) = weight (rowLogit r0 x1 r1 x4 b kv g q) k.val := by
  rw [val_main_v58_apply, val_main_v57_apply, logit_at, max_at]
  rfl

theorem sum_at : val_main_v61 (F := Ideal) x1 x4 r0 r1 (ix5 b kv g q k)
    = ∑ k : Fin 8192, weight (rowLogit r0 x1 r1 x4 b kv g q) k.val := by
  rw [val_main_v61_apply, val_main_v60_apply, val_main_v59_apply, val_main_cst_8_apply]
  show Ideal.ofBits .f32 0x00000000#32 + _ = _
  rw [bits_zero, zero_add]
  refine Finset.sum_congr rfl fun k' _ => ?_
  rw [← weight_at]
  exact congrArg (val_main_v58 (F := Ideal) x1 x4 r0 r1)
    (funext fun a => by match a with | ⟨0, _⟩ => rfl | ⟨1, _⟩ => rfl | ⟨2, _⟩ => rfl | ⟨3, _⟩ => rfl | ⟨4, _⟩ => rfl)

/-- The weight of a key in its row. -/
abbrev weightOf (k : Fin 8192) : EReal := weight (rowLogit r0 x1 r1 x4 b kv g q) k.val

/-- A probability times its value scale. -/
abbrev scaled (k : Fin 8192) : EReal :=
  Ideal.div (weightOf x1 x4 r0 r1 b kv g q k) (∑ k : Fin 8192, weightOf x1 x4 r0 r1 b kv g q k) * x5 (ix3 b k kv)

/-- The largest magnitude of a row. -/
abbrev largest : EReal :=
  Finset.univ.sup fun k : Fin 8192 => max (scaled x1 x4 x5 r0 r1 b kv g q k) (-scaled x1 x4 x5 r0 r1 b kv g q k)

theorem scaled_at : val_main_v64 (F := Ideal) x1 x4 x5 r0 r1 (ix5 b kv g q k) = scaled x1 x4 x5 r0 r1 b kv g q k := by
  rw [val_main_v64_apply, val_main_v62_apply, weight_at, sum_at, vs_at]
  rfl

theorem largest_at : val_main_v66 (F := Ideal) x1 x4 x5 r0 r1 (ix4 b kv g q) = largest x1 x4 x5 r0 r1 b kv g q := by
  unfold val_main_v66
  refine (reduce_max b kv g q _ _ fun i => bits_bot).trans ?_
  refine Finset.sup_congr rfl fun k _ => ?_
  rw [val_main_v65_apply, scaled_at]
  rfl

theorem exponent_at : val_main_v78 (F := Ideal) x1 x4 x5 r0 r1 (ix4 b kv g q)
    = expo (Ideal.ofBits .f32 0x3B124925#32) (largest x1 x4 x5 r0 r1 b kv g q) := by
  rw [val_main_v78_apply, val_main_v77_apply, val_main_v76_apply, val_main_cst_13_apply, val_main_call1_v1_apply,
    val_main_call1_v0_apply, val_main_cst_14_apply, val_main_v75_apply, val_main_v74_apply, val_main_cst_12_apply,
    val_main_v73_apply, val_main_v72_apply, val_main_v71_apply, val_main_v70_apply, val_main_cst_11_apply,
    val_main_v69_apply, val_main_v68_apply, val_main_v67_apply, val_main_cst_10_apply, largest_at]
  generalize largest x1 x4 x5 r0 r1 b kv g q = a
  show (if Ideal.cmp .oeq a (Ideal.ofBits .f32 0x00000000#32) = 1 then Ideal.ofBits .f32 0x00000000#32
    else Ideal.liftRound Int.floor (Ideal.div (Ideal.log (a * Ideal.ofBits .f32 0x3B124925#32)) (Ideal.log (Ideal.ofBits .f32 0x40000000#32)))
      + Ideal.ofBits .f32 0x3F800000#32) = _
  rw [bits_zero, bits_two, bits_one]
  unfold expo
  have h : Ideal.cmp .oeq a 0 = 1 ↔ a = 0 := Ideal.cmp_oeq_eq_one _ _
  by_cases ha : a = 0
  · rw [if_pos (h.mpr ha), if_pos ha]
  · rw [if_neg (fun e => ha (h.mp e)), if_neg ha, EReal.coe_one]

theorem code_at : val_main_v87 (F := Ideal) x1 x4 x5 r0 r1 (ix5 b kv g q k)
    = clip (scaled x1 x4 x5 r0 r1 b kv g q k
        * Ideal.exp2 (-(expo (Ideal.ofBits .f32 0x3B124925#32) (largest x1 x4 x5 r0 r1 b kv g q)))) := by
  rw [val_main_v87_apply, val_main_call2_v4_apply, val_main_call2_v3_apply, val_main_cst_17_apply, val_main_call2_v2_apply,
    val_main_call2_v1_apply, val_main_call2_v0_apply, val_main_cst_16_apply, val_main_v86_apply, scaled_at, val_main_v85_apply,
    val_main_v84_apply, val_main_v83_apply, val_main_v82_apply, val_main_v81_apply, val_main_v80_apply, val_main_cst_15_apply,
    val_main_v79_apply]
  have e : (idx_main_v84 (idx_main_v85 (ix5 b kv g q k)) : S8x4x4x8192.Idx) = ix4 b kv g q :=
    funext fun a => by match a with | ⟨0, _⟩ => rfl | ⟨1, _⟩ => rfl | ⟨2, _⟩ => rfl | ⟨3, _⟩ => rfl
  rw [e, exponent_at]
  show min (Ideal.ofBits .f32 0x43E00000#32) (max (Ideal.ofBits .f32 0xC3E00000#32)
    (_ * Ideal.exp (-(expo (Ideal.ofBits .f32 0x3B124925#32) (largest x1 x4 x5 r0 r1 b kv g q)) * Ideal.log (Ideal.ofBits .f32 0x40000000#32)))) = _
  rw [bits_two, bits_448, bits_neg_448, log_two, exp_mul_log_two]
  rfl

theorem power_at : val_main_v94 (F := Ideal) x1 x4 x5 r0 r1 (ix5 b kv g q d)
    = Ideal.exp2 (expo (Ideal.ofBits .f32 0x3B124925#32) (largest x1 x4 x5 r0 r1 b kv g q)) := by
  rw [val_main_v94_apply, val_main_v93_apply, val_main_v91_apply, val_main_v90_apply, val_main_v89_apply, val_main_v88_apply,
    val_main_cst_18_apply]
  have e : (idx_main_v93 (idx_main_v94 (ix5 b kv g q d)) : S8x4x4x8192.Idx) = ix4 b kv g q :=
    funext fun a => by match a with | ⟨0, _⟩ => rfl | ⟨1, _⟩ => rfl | ⟨2, _⟩ => rfl | ⟨3, _⟩ => rfl
  rw [e, exponent_at]
  show Ideal.exp (expo (Ideal.ofBits .f32 0x3B124925#32) (largest x1 x4 x5 r0 r1 b kv g q) * Ideal.log (Ideal.ofBits .f32 0x40000000#32)) = _
  rw [bits_two, log_two, exp_mul_log_two]

/-- The reference's entry is the formula's, for value scales that are non-negative and not infinite. -/
theorem entry_at (h0 : ∀ i, 0 ≤ x5 i) (ht : ∀ i, x5 i ≠ ⊤) :
    val_main_v95 (F := Ideal) x1 x4 x5 r0 r1 r2 (ix5 b kv g q d) = entry r0 x1 r1 r2 x4 x5 b kv g q d := by
  rw [val_main_v95_apply, power_at, val_main_v92_apply]
  obtain ⟨c, hc, hc1, -⟩ := Cert.KernelIdeal.Hand.c448
  refine Eq.trans ?_ ((reference_row (fun k => weightOf x1 x4 r0 r1 b kv g q k) (fun k => x5 (ix3 b k kv))
    (fun k => r2 (ix3 b ⟨128 * kv.val + d.val, by omega⟩ k)) hc1 (fun k => weight_nonneg _ _) (fun k => weight_ne_top _ _)
    (fun k => h0 _) (fun k => ht _) rfl (rfl : largest x1 x4 x5 r0 r1 b kv g q = _) rfl).trans ?_)
  · rw [← hc]
    refine congrArg (· * _) (Finset.sum_congr rfl fun k _ => ?_)
    refine congrArg₂ (· * ·) ?_ ?_
    · rw [← code_at]
      exact congrArg (val_main_v87 (F := Ideal) x1 x4 x5 r0 r1)
        (funext fun a => by match a with | ⟨0, _⟩ => rfl | ⟨1, _⟩ => rfl | ⟨2, _⟩ => rfl | ⟨3, _⟩ => rfl | ⟨4, _⟩ => rfl)
    · rw [← v_at r2 b kv k d]
      exact congrArg (val_main_v7 (F := Ideal) r2)
        (funext fun a => by match a with | ⟨0, _⟩ => rfl | ⟨1, _⟩ => rfl | ⟨2, _⟩ => rfl | ⟨3, _⟩ => rfl)
  · unfold entry rowValue
    refine Finset.sum_congr rfl fun k _ => ?_
    rw [ext_val, ext_val]

/-- The reference's result is the formula. -/
theorem attention_eq (h0 : ∀ i, 0 ≤ x5 i) (ht : ∀ i, x5 i ≠ ⊤) :
    val_main_v98 (F := Ideal) x1 x4 x5 r0 r1 r2 = attention r0 x1 r1 r2 x4 x5 := by
  funext i
  obtain ⟨b, q, E, rfl⟩ : ∃ (b : Fin 8) (q : Fin 8192) (E : Fin 2048), i = ix3 b q E := ⟨i 0, i 1, i 2, eq_ix3 i⟩
  rw [val_main_v98_apply, val_main_v97_apply, val_main_v96_apply]
  refine Eq.trans ?_ (entry_at x1 x4 x5 r0 r1 r2 b ⟨E.val / 512, by omega⟩ ⟨E.val / 128 % 4, by omega⟩ q ⟨E.val % 128, by omega⟩ h0 ht)
  refine congrArg (val_main_v95 (F := Ideal) x1 x4 x5 r0 r1 r2) (funext fun a => Fin.ext ?_)
  match a with
  | ⟨0, _⟩ => show ((b.val * 8192 + q.val) * 2048 + E.val) / 16777216 = b.val; omega
  | ⟨1, _⟩ => show ((b.val * 8192 + q.val) * 2048 + E.val) / 512 % 4 = E.val / 512; omega
  | ⟨2, _⟩ => show ((b.val * 8192 + q.val) * 2048 + E.val) / 128 % 4 = E.val / 128 % 4; omega
  | ⟨3, _⟩ => show ((b.val * 8192 + q.val) * 2048 + E.val) / 2048 % 8192 = q.val; omega
  | ⟨4, _⟩ => show ((b.val * 8192 + q.val) * 2048 + E.val) % 128 = E.val % 128; omega

end

end Cert.ReferenceIdeal.Hand

end
-- ==== Proof.ReferenceResult.lean ====
/-
  Hand-written. The reference's run: the widened arrays are the arguments, and the result is the attention formula of them.
-/
module

public import proofs.«01_k».proof.Proof.ReferenceValue
public import Idealize.ShloMosaic.Lib.Pipeline.ValueKit

@[expose] public section

set_option maxRecDepth 16384
set_option maxHeartbeats 1600000

noncomputable section

namespace Cert.ReferenceIdeal.Hand

open Cert.ReferenceIdeal Cert.ReferenceIdeal.Gen Cert.Attention
open Idealize.ShloMosaic Idealize.ShloMosaic.TcCoe Idealize.ShloMosaic.Tactic
open Idealize.SL.Sem

variable (m : (ℓ : Loc nD τ sig) → Buf (Elt Ideal) ℓ) (ρ : Dev nD → PrngReg)

theorem widened_q (c : Dev nD) : Value.reg_main_v0_0 (F := Ideal) m c = m ((c.tc : Thread nD τ).loc main_arg0) := by
  unfold Value.reg_main_v0_0
  refine (dats m 0 c).arrAt_eq_of_covers 3 _ (by decide +kernel) fun t hf y => ?_
  rw [after0_3]
  frame_out
  show (iblk m c 0 t : S8x8192x2048.Idx → EReal) y = _
  unfold iblk
  blk_simp
  rfl

theorem widened_k (c : Dev nD) : Value.reg_main_v0_1 (F := Ideal) m c = m ((c.tc : Thread nD τ).loc main_arg2) := by
  unfold Value.reg_main_v0_1
  refine (dats m 0 c).arrAt_eq_of_covers 4 _ (by decide +kernel) fun t hf y => ?_
  rw [after0_4]
  frame_out
  show (iblk m c 1 t : S8x8192x512.Idx → EReal) y = _
  unfold iblk
  blk_simp
  rfl

theorem widened_v (c : Dev nD) : Value.reg_main_v0_2 (F := Ideal) m c = m ((c.tc : Thread nD τ).loc main_arg3) := by
  unfold Value.reg_main_v0_2
  refine (dats m 0 c).arrAt_eq_of_covers 5 _ (by decide +kernel) fun t hf y => ?_
  rw [after0_5]
  frame_out
  show (iblk m c 2 t : S8x512x8192.Idx → EReal) y = _
  unfold iblk
  blk_simp
  rfl

/-- A scale that is non-negative and not infinite. -/
def Fine (x : EReal) : Prop := 0 ≤ x ∧ x ≠ ⊤

/-- The run read: the result is the formula of the six arguments, which are unchanged. -/
theorem run_value (h : ∀ (c : Dev nD) i, Fine (m ((c.tc : Thread nD τ).loc main_arg5) i)) :
    θ_run defs (onTc (τ := τ) (main (F := Ideal))) ⟨m, fun _ => 0, ρ⟩ (fun r => ∀ c : Dev nD,
      r.2.mem ((c.tc : Thread nD τ).loc main_v98) = attention (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨(hr c).1.trans ((Read.val_main_v98_eq (F := Ideal) (Value.exitV m c)).trans (by
      rw [Value.exit_main_arg1, Value.exit_main_arg4, Value.exit_main_arg5, Value.exit_main_v0_0, Value.exit_main_v0_1,
        Value.exit_main_v0_2, widened_q, widened_k, widened_v]
      exact attention_eq _ _ _ _ _ _ (fun i => (h c i).1) (fun i => (h c i).2))), (hr c).2⟩) (Value.run m ρ)

end Cert.ReferenceIdeal.Hand

end
-- ==== Proof.Tame.lean ====
/-
  Hand-written. What the condition on the value scales says of them over the extended reals.
-/
module

public import proofs.«01_k».proof.Pre_tame
public import Idealize.ShloMosaic.Lib.ReduceAll
public import Idealize.ShloMosaic.Lib.Pointwise

@[expose] public section

set_option maxRecDepth 16384

noncomputable section

namespace Cert.Pre_tame.Hand

open Cert.Pre_tame Idealize.ShloMosaic

/-- The shape relations the condition takes. -/
theorem facts : Facts where
  bcast_S_S8x8192x4 := by decide
  reducesTo_S8x8192x4_S_d0_1_2 := by decide
  h_S_ := by decide

/-- The largest value scale the condition allows. -/
def largest : ℝ := (2 ^ 24 - 1) * 2 ^ 104

theorem largest_nonneg : 0 ≤ largest := by unfold largest; norm_num

theorem largest_le : largest ≤ 2 ^ 128 := by unfold largest; norm_num

theorem largest_bits : Ideal.ofBits .f32 0x7F7FFFFF#32 = (largest : EReal) := by
  unfold largest
  simp [Ideal.ofBits, Ideal.ieee, -EReal.coe_mul]
  norm_num

theorem zero_bits : Ideal.ofBits .f32 0x00000000#32 = 0 := by simp [Ideal.ofBits, Ideal.ieee]

theorem andi_one (a b : BitVec 1) (h : IntOp.andi a b = 1#1) : a = 1#1 ∧ b = 1#1 := by
  revert h; revert a b; decide

/-- Every value scale lies between zero and the largest finite number of its type. -/
theorem bounds (x0 : S8x8192x2048.Idx → EReal) (x1 : S8x16x1x8192.Idx → EReal) (x2 : S8x8192x512.Idx → EReal)
    (x3 : S8x512x8192.Idx → EReal) (x4 x5 : S8x8192x4.Idx → EReal)
    (h : (letI := facts; fn (F := Ideal) x0 x1 x2 x3 x4 x5) = fun _ => 1#1) (y : S8x8192x4.Idx) :
    0 ≤ x5 y ∧ x5 y ≤ (largest : EReal) := by
  have e := congrFun h (Shape.Idx.first facts.h_S_)
  dsimp only [fn] at e
  haveI : Subsingleton S_.Idx := ⟨fun a b => funext fun i => i.elim0⟩
  have e' := Host.reduce_andi_all _ _ _ _ _ e y
  obtain ⟨h1, h2⟩ := andi_one _ _ e'
  have h1' : Ideal.cmp .oge (x5 y) (Ideal.ofBits .f32 0x00000000#32) = 1 := h1
  have h2' : Ideal.cmp .ole (x5 y) (Ideal.ofBits .f32 0x7F7FFFFF#32) = 1 := h2
  rw [zero_bits, Ideal.cmp_oge_eq_one] at h1'
  rw [largest_bits, Ideal.cmp_ole_eq_one] at h2'
  exact ⟨h1', h2'⟩

end Cert.Pre_tame.Hand

end
-- ==== Proof.Algebraic.lean ====
/-
  Hand-written. The kernel and the reference leave the same result over the extended reals: the attention formula.
-/
module

public import proofs.«01_k».proof.Defs
public import proofs.«01_k».proof.Proof.KernelResult
public import proofs.«01_k».proof.Proof.ReferenceResult
public import proofs.«01_k».proof.Proof.Tame

@[expose] public section

set_option maxRecDepth 16384

noncomputable section

namespace Cert.Attention

open Idealize.ShloMosaic Idealize.SL.Sem

theorem algebraic : Cert.algebraic_KernelIdeal_ReferenceIdeal_pre_tame (hKernelIdeal := Cert.KernelIdeal.Gen.facts)
    (hReferenceIdeal := Cert.ReferenceIdeal.Gen.facts) (hPre_tame := Cert.Pre_tame.Hand.facts) := by
  intro m g m' g' hpre heq
  have hb : ∀ (c : Dev Cert.KernelIdeal.nD) y, Cert.KernelIdeal.Hand.Within Cert.Pre_tame.Hand.largest
      (m ((c.tc : Thread Cert.KernelIdeal.nD Cert.KernelIdeal.τ).loc Cert.KernelIdeal.main_arg5) y) :=
    fun c y => Cert.Pre_tame.Hand.bounds _ _ _ _ _ _ (hpre c) y
  have hf : ∀ (c : Dev Cert.ReferenceIdeal.nD) y, Cert.ReferenceIdeal.Hand.Fine
      (m' ((c.tc : Thread Cert.ReferenceIdeal.nD Cert.ReferenceIdeal.τ).loc Cert.ReferenceIdeal.main_arg5) y) := fun c y => by
    rw [(heq c).2.2.2.2.2]
    exact ⟨(hb c y).1, ne_top_of_le_ne_top (EReal.coe_ne_top _) (hb c y).2⟩
  refine ⟨_, Cert.KernelIdeal.Hand.run_value m g Cert.Pre_tame.Hand.largest_nonneg Cert.Pre_tame.Hand.largest_le hb _
    (fun c t y => Cert.KernelIdeal.Hand.blockOut_eq m c t y), ?_⟩
  refine (θ_run _ _ _).mono (fun _ h c => ⟨(h c).1.trans ?_, (h c).2⟩) (Cert.ReferenceIdeal.Hand.run_value m' g' hf)
  obtain ⟨e0, e1, e2, e3, e4, e5⟩ := heq c
  rw [e0, e1, e2, e3, e4, e5]

end Cert.Attention

end
-- ==== Proof.Quantiser.lean ====
/-
  The quantiser of a head, and the two powers of two of its scale.

  The reference takes the exponent of `a / 448`, `a` the largest magnitude of the head, as the floor of a base two logarithm
  and one more; the kernel reads it as the exponent field found by comparisons. Where `a` is zero, or finite with `a / 448` at
  least the smallest normal number, the two agree (`powers_exact`).
-/
module

public import proofs.«01_k».proof.Proof.Field
public import proofs.«01_k».proof.Proof.Online
public import Idealize.ShloMosaic.Lib.Pointwise
public import Idealize.ShloMosaic.Lib.ValueIdx

@[expose] public section

noncomputable section

namespace Cert.Quantiser

open Idealize.ShloMosaic
open Cert.Online (expo clip)

/-- The constant 1 / 448 as the programs round it. -/
def c : EReal := Ideal.ofBits .f32 0x3B124925#32

/-- The largest magnitude of a head. -/
def magnitude (f : Fin 128 → EReal) : EReal := Finset.univ.sup fun d => max (f d) (-(f d))

/-- The numbers of head `h` of a token: 128 of a row. -/
def headAt {w : ℕ} (x : (⟨3, ![8, 8192, w]⟩ : Shape).Idx → EReal) (b : Fin 8) (s : Fin 8192) (h : ℕ) : Fin 128 → EReal :=
  fun d => if hd : 128 * h + d.val < w then x (ix3 b s ⟨128 * h + d.val, hd⟩) else 0

/-- The codes, for `P` the inverse scale of a largest magnitude. -/
def codesWith (P : EReal → EReal) {w : ℕ} (x : (⟨3, ![8, 8192, w]⟩ : Shape).Idx → EReal) (b : Fin 8) (s : Fin 8192) (D : Fin w) : EReal :=
  clip (x (ix3 b s D) * P (magnitude (headAt x b s (D.val / 128))))

/-- The scales, for `P` the scale of a largest magnitude. -/
def scalesWith (P : EReal → EReal) {w : ℕ} (x : (⟨3, ![8, 8192, w]⟩ : Shape).Idx → EReal) (b : Fin 8) (s : Fin 8192) (h : ℕ) : EReal :=
  P (magnitude (headAt x b s h))

/-- The kernel's scale of a head whose largest magnitude is `a`. -/
def kscale (a : EReal) : EReal := Field.pow (Field.expo (Field.field (a * c)) + 127#32)

/-- The kernel's inverse of it. -/
def kinv (a : EReal) : EReal := Field.pow (0#32 - Field.expo (Field.field (a * c)) + 127#32)

/-- The scale of a head whose largest magnitude is `a`. -/
def scale (a : EReal) : EReal := Ideal.exp2 (expo c a)

/-- Its inverse. -/
def inv (a : EReal) : EReal := Ideal.exp2 (-(expo c a))

/-- The heads of which the two programs agree. -/
def Regular (a : EReal) : Prop :=
  a = 0 ∨ ((((2 : ℝ) ^ (-126 : ℤ) : ℝ) : EReal) ≤ a * c ∧ a ≤ (((2 ^ 128 : ℝ)) : EReal))

theorem c_real : ∃ x : ℝ, c = x ∧ 0 < x ∧ x < 1 / 256 := by
  refine ⟨(2 ^ 23 + 0x124925 : ℝ) * (2 : ℝ) ^ (-32 : ℤ), ?_, by positivity, by norm_num⟩
  unfold c
  simp [Ideal.ofBits, Ideal.ieee, -EReal.coe_mul]
  norm_num

/-- The field the search finds of a normal number below `2 ^ 120`. -/
theorem field_exact {z : EReal} (h0 : (((2 : ℝ) ^ (-126 : ℤ) : ℝ) : EReal) ≤ z) (hz : z < (((2 : ℝ) ^ (120 : ℤ) : ℝ) : EReal)) :
    ∃ n : ℕ, Field.field z = BitVec.ofNat 32 n ∧ 1 ≤ n ∧ n ≤ 246 ∧ (((2 : ℝ) ^ ((n : ℤ) - 127) : ℝ) : EReal) ≤ z
      ∧ z < (((2 : ℝ) ^ ((n : ℤ) - 126) : ℝ) : EReal) := by
  have h00 : 0 ≤ z := le_trans (by exact_mod_cast (by positivity : (0 : ℝ) ≤ (2 : ℝ) ^ (-126 : ℤ))) h0
  obtain ⟨n, hf, hn, hlt⟩ := Field.field_spec h00 hz
  have h1 : 1 ≤ n := by
    by_contra hc
    have : n = 0 := by omega
    subst this
    have := h0.trans_lt hlt
    norm_num at this
  refine ⟨n, hf, h1, hn, ?_, hlt⟩
  obtain ⟨n1, e1, l1, a1, b1⟩ := Field.next_spec (z := z) (n := 0) (b := 128) (by norm_num) (by rw [Field.pow_zero]; exact h00)
    (fun h => absurd h (by norm_num))
  obtain ⟨n2, e2, l2, a2, b2⟩ := Field.next_spec (b := 64) (by omega) a1 b1
  obtain ⟨n3, e3, l3, a3, b3⟩ := Field.next_spec (b := 32) (by omega) a2 b2
  obtain ⟨n4, e4, l4, a4, b4⟩ := Field.next_spec (b := 16) (by omega) a3 b3
  obtain ⟨n5, e5, l5, a5, b5⟩ := Field.next_spec (b := 8) (by omega) a4 b4
  obtain ⟨n6, e6, l6, a6, b6⟩ := Field.next_spec (b := 4) (by omega) a5 b5
  obtain ⟨n7, e7, l7, a7, b7⟩ := Field.next_spec (b := 2) (by omega) a6 b6
  obtain ⟨n8, e8, l8, a8, b8⟩ := Field.next_spec (b := 1) (by omega) a7 b7
  have hf8 : Field.field z = BitVec.ofNat 32 n8 := by
    unfold Field.field
    rw [show (0#32 : BitVec 32) = BitVec.ofNat 32 0 from rfl, e1, e2, e3, e4, e5, e6, e7, e8]
  rw [← hf8, hf, Field.pow_eq h1 (by omega)] at a8
  exact a8

theorem exp2_int (n : ℤ) : Ideal.exp2 (((n : ℝ)) : EReal) = (((2 : ℝ) ^ n : ℝ) : EReal) := by
  show ((Real.rpow 2 n : ℝ) : EReal) = _
  rw [Real.rpow_eq_pow, Real.rpow_intCast]

/-- THE SCALE AND ITS INVERSE, as the kernel forms them, are the reference's. -/
theorem powers_exact {a : EReal} (ha : 0 ≤ a) (h : Regular a) :
    kscale a = scale a ∧ kinv a = inv a := by
  unfold scale inv kscale kinv
  obtain ⟨y, hy, hy0, hy1⟩ := c_real
  rcases h with rfl | ⟨hlo, hhi⟩
  · have hz : Field.field (0 * c) = 0#32 := by
      obtain ⟨n, hf, -, -⟩ := Field.field_spec (z := 0) le_rfl (by exact_mod_cast (by positivity : (0 : ℝ) < (2 : ℝ) ^ (120 : ℤ)))
      rw [zero_mul]
      have step : ∀ b : Fin 256, b.val ≠ 0 → Field.next 0 0#32 (BitVec.ofNat 32 b.val) = 0#32 := by
        intro b hb
        unfold Field.next
        rw [if_neg]
        have hcmp : ∀ x : EReal, 0 < x → ¬ Ideal.cmp .oge 0 x = 1#1 := fun x hx => by simp [Ideal.cmp, not_le.mpr hx]
        refine hcmp _ ?_
        rw [show (0#32 + BitVec.ofNat 32 b.val) = BitVec.ofNat 32 b.val by simp]
        rcases Nat.lt_or_ge b.val 255 with h | h
        · rw [Field.pow_eq (by omega) (by omega)]
          exact_mod_cast (by positivity : (0 : ℝ) < (2 : ℝ) ^ ((b.val : ℤ) - 127))
        · rw [show b.val = 255 by omega, Field.pow_top]; simp
      unfold Field.field
      rw [step ⟨128, by norm_num⟩ (by norm_num), step ⟨64, by norm_num⟩ (by norm_num), step ⟨32, by norm_num⟩ (by norm_num),
        step ⟨16, by norm_num⟩ (by norm_num), step ⟨8, by norm_num⟩ (by norm_num), step ⟨4, by norm_num⟩ (by norm_num),
        step ⟨2, by norm_num⟩ (by norm_num), step ⟨1, by norm_num⟩ (by norm_num)]
    have he : Field.expo 0#32 = 0#32 := by decide
    have hx : expo c 0 = 0 := by unfold expo; rw [if_pos rfl]
    have h1 : Ideal.exp2 0 = 1 := by
      have := exp2_int 0
      simpa using this
    rw [hz, he, hx, neg_zero, h1, show (0#32 + 127#32 : BitVec 32) = BitVec.ofNat 32 127 from rfl,
      show (0#32 - 0#32 + 127#32 : BitVec 32) = BitVec.ofNat 32 127 from rfl, Field.pow_eq (by norm_num) (by norm_num)]
    norm_num
  · obtain ⟨r, rfl⟩ : ∃ r : ℝ, a = r := by
      refine ⟨a.toReal, (EReal.coe_toReal ?_ ?_).symm⟩
      · rintro rfl; exact absurd (top_le_iff.mp hhi) (EReal.coe_ne_top _)
      · rintro rfl; simp at ha
    have hr0 : 0 ≤ r := by exact_mod_cast ha
    have hr1 : r ≤ 2 ^ 128 := by exact_mod_cast hhi
    rw [hy] at hlo ⊢
    have hlo' : (2 : ℝ) ^ (-126 : ℤ) ≤ r * y := by exact_mod_cast hlo
    have hz : r * y < (2 : ℝ) ^ (120 : ℤ) := by
      have : r * y ≤ 2 ^ 128 * y := mul_le_mul_of_nonneg_right hr1 hy0.le
      have h2 : (2 : ℝ) ^ 128 * y < 2 ^ 128 * (1 / 256) := by gcongr
      have h3 : (2 : ℝ) ^ 128 * (1 / 256) = (2 : ℝ) ^ (120 : ℤ) := by norm_num
      linarith
    obtain ⟨n, hf, h1, hn, hl, hu⟩ := field_exact (z := ((r * y : ℝ) : EReal)) (by exact_mod_cast hlo') (by exact_mod_cast hz)
    have hl : (2 : ℝ) ^ ((n : ℤ) - 127) ≤ r * y := by exact_mod_cast hl
    have hu : r * y < (2 : ℝ) ^ ((n : ℤ) - 126) := by exact_mod_cast hu
    have hpos : 0 < r * y := lt_of_lt_of_le (by positivity) hl
    have hlog : (0 : ℝ) < Real.log 2 := Real.log_pos (by norm_num)
    have hfl : ⌊Real.log (r * y) * (Real.log 2)⁻¹⌋ = (n : ℤ) - 127 := by
      rw [Int.floor_eq_iff, ← div_eq_mul_inv]
      have hl' := Real.log_le_log (by positivity) hl
      have hu' := Real.log_lt_log hpos hu
      rw [Real.log_zpow] at hl' hu'
      constructor
      · rw [le_div_iff₀ hlog]; exact hl'
      · rw [div_lt_iff₀ hlog]
        refine hu'.trans_eq ?_
        push_cast; ring
    have hr : r ≠ 0 := by rintro rfl; simp at hpos
    have hx : expo (y : EReal) (r : EReal) = ((((n : ℤ) - 126 : ℤ) : ℝ) : EReal) := by
      unfold expo
      rw [if_neg (by exact_mod_cast hr), ← EReal.coe_mul]
      show Ideal.liftRound Int.floor (Ideal.div (if r * y ≤ 0 then ⊥ else ((Real.log (r * y) : ℝ) : EReal))
        (if (2 : ℝ) ≤ 0 then ⊥ else ((Real.log 2 : ℝ) : EReal))) + 1 = _
      rw [if_neg (not_le.mpr hpos), if_neg (by norm_num)]
      unfold Ideal.div
      rw [if_neg (by exact_mod_cast hlog.ne'), ← EReal.coe_inv, ← EReal.coe_mul]
      show (((⌊Real.log (r * y) * (Real.log 2)⁻¹⌋ : ℤ) : ℝ) : EReal) + 1 = _
      rw [hfl, ← EReal.coe_one, ← EReal.coe_add]
      congr 1; push_cast; ring
    have hex : ∀ n : Fin 247, 0 < n.val → Field.expo (BitVec.ofNat 32 n.val) + 127#32 = BitVec.ofNat 32 (n.val + 1)
        ∧ 0#32 - Field.expo (BitVec.ofNat 32 n.val) + 127#32 = BitVec.ofNat 32 (253 - n.val) := by decide +kernel
    obtain ⟨e1, e2⟩ := hex ⟨n, by omega⟩ h1
    simp only [] at e1 e2
    rw [hx, ← EReal.coe_mul, hf, e1, e2, Field.pow_eq (by omega) (by omega), Field.pow_eq (by omega) (by omega), exp2_int]
    constructor
    · congr 2; push_cast; ring
    · rw [← EReal.coe_neg, ← Int.cast_neg, exp2_int]
      congr 2
      rw [Nat.cast_sub (by omega)]; push_cast; ring

/-- A magnitude is not negative. -/
theorem magnitude_nonneg (f : Fin 128 → EReal) : 0 ≤ magnitude f := by
  refine le_trans ?_ (Finset.le_sup (f := fun d => max (f d) (-(f d))) (Finset.mem_univ (0 : Fin 128)))
  rcases le_total 0 (f 0) with h | h
  · exact le_max_of_le_left h
  · exact le_max_of_le_right (by simpa using h)

/-- The maximum of the absolute values, started from minus infinity. -/
theorem fold_abs (f : Fin 128 → EReal) (b : EReal) (hb : b = ⊥) :
    (Finset.univ : Finset (Fin 128)).fold max b (fun d => max (f d) (-(f d))) = magnitude f := by
  subst hb; rfl

/-- Two arrays of codes of regular heads. -/
theorem codes_eq {w : ℕ} (x : (⟨3, ![8, 8192, w]⟩ : Shape).Idx → EReal) (b : Fin 8) (s : Fin 8192) (D : Fin w)
    (h : Regular (magnitude (headAt x b s (D.val / 128)))) : codesWith kinv x b s D = codesWith inv x b s D := by
  unfold codesWith
  rw [(powers_exact (magnitude_nonneg _) h).2]

/-- Two arrays of scales of regular heads. -/
theorem scales_eq {w : ℕ} (x : (⟨3, ![8, 8192, w]⟩ : Shape).Idx → EReal) (b : Fin 8) (s : Fin 8192) (n : ℕ)
    (h : Regular (magnitude (headAt x b s n))) : scalesWith kscale x b s n = scalesWith scale x b s n :=
  (powers_exact (magnitude_nonneg _) h).1

end Cert.Quantiser
-- ==== Proof.QuantiseTerms.lean ====
/-
  Hand-written. What the quantise kernel's body computes of one head's load, as terms over a block of 256 tokens, and their entries.
-/
module

public import proofs.«01_k».proof.Proof.Gen.QuantiseIdeal
public import proofs.«01_k».proof.Proof.Quantiser

@[expose] public section

set_option maxRecDepth 16384

noncomputable section

namespace Cert.QuantiseIdeal.Hand

open Cert.QuantiseIdeal Cert.QuantiseIdeal.Gen
open Idealize.ShloMosaic
open Cert.Online (clip)
open Cert.Quantiser (magnitude kscale kinv)

section terms

variable {F : FTy → Type} [FloatOps F]

/-- A load, widened. -/
def wideT (v : Vec F S1x256x128 .bf16) : FVec F S256x128 .f32 :=
  extf .f32 (shapeCast S256x128 (v : FVec F S1x256x128 .bf16) shapeCasts_S1x256x128_S256x128) bitsLt_bf16_f32

/-- The largest magnitude of every token, times 1 / 448. -/
def zT (v : Vec F S1x256x128 .bf16) : FVec F S256x1 .f32 :=
  mulf (shapeCast S256x1 (multiReduction .maximumf [1] S256 (absf (wideT v)) 0xFF800000#32 reduces_S256x128_S256 (.inl rfl) rfl)
    shapeCasts_S256_S256x1) (broadcast S256x1 (Scalar.ofBits .f32 0x3B124925#32))

/-- The pattern of a power of two, from its exponent field. -/
def powT (n : IVec S256x1 32) : FVec F S256x1 .f32 := bitcastToFloat .f32 (shli n (broadcast S256x1 23#32))

/-- One comparison of the search for an exponent field. -/
def nextT (z : FVec F S256x1 .f32) (f : IVec S256x1 32) (b : BitVec 32) : IVec S256x1 32 :=
  select (cmpf .oge z (powT (addi f (broadcast S256x1 b)))) (addi f (broadcast S256x1 b)) f

/-- The exponent field. -/
def fieldT (z : FVec F S256x1 .f32) : IVec S256x1 32 :=
  nextT z (nextT z (nextT z (nextT z (nextT z (nextT z (nextT z (nextT z (broadcast S256x1 0#32) 128#32) 64#32) 32#32) 16#32) 8#32) 4#32) 2#32) 1#32

/-- The exponent. -/
def expoT (f : IVec S256x1 32) : IVec S256x1 32 :=
  select (ori (cmpi .eq f (broadcast S256x1 0#32)) (cmpi .eq f (broadcast S256x1 255#32))) (broadcast S256x1 0#32) (subi f (broadcast S256x1 126#32))

/-- The codes of a head. -/
def codeT (v : Vec F S1x256x128 .bf16) : FVec F S1x256x128 .fp8e4m3 :=
  shapeCast S1x256x128 (truncf .fp8e4m3 (minimumf (broadcast S256x128 (Scalar.ofBits .f32 0x43E00000#32))
    (maximumf (broadcast S256x128 (Scalar.ofBits .f32 0xC3E00000#32)) (mulf (wideT v)
      (broadcastTo S256x128 (powT (addi (subi (broadcast S256x1 0#32) (expoT (fieldT (zT v)))) (broadcast S256x1 127#32))) broadcasts_S256x1_S256x128))))
    bitsLt_fp8e4m3_f32) shapeCasts_S256x128_S1x256x128

/-- The scales so far, with those of head `h` put into column `h`. -/
def scaleT (h : BitVec 32) (old : FVec F S256x128 .f32) (v : Vec F S1x256x128 .bf16) : FVec F S256x128 .f32 :=
  select (cmpi .eq (iota .tc S256x128 32 [1] iota_S256x128_d1_w32) (broadcast S256x128 h))
    (broadcastTo S256x128 (shapeCast S256x1 (powT (addi (expoT (fieldT (zT v))) (broadcast S256x1 127#32))) shapeCasts_S256x1_S256x1)
      broadcasts_S256x1_S256x128) old

/-- The scales before the first head. -/
def noScaleT : FVec F S256x128 .f32 := broadcast S256x128 (Scalar.ofBits .f32 0x00000000#32)

/-- The codes of a head, transposed. -/
def turnT (w : Vec F S1x256x128 .fp8e4m3) : FVec F S1x128x256 .fp8e4m3 :=
  shapeCast S1x128x256 (truncf .fp8e4m3 (transpose S128x256 [1, 0] (extf .f32 (shapeCast S256x128 (w : FVec F S1x256x128 .fp8e4m3)
    shapeCasts_S1x256x128_S256x128) bitsLt_fp8e4m3_f32) transposes_S256x128_p1_0_S128x256) bitsLt_fp8e4m3_f32) shapeCasts_S128x256_S1x128x256

end terms

/-- A token's numbers in a load. -/
def row (v : Vec Ideal S1x256x128 .bf16) (r : Fin 256) : Fin 128 → EReal := fun d => v (ix3 0 r d)

theorem wideT_apply (v : Vec Ideal S1x256x128 .bf16) (r : Fin 256) (d : Fin 128) : wideT (F := Ideal) v (ix2 r d) = row v r d := by
  unfold wideT row
  pointwise

theorem bits_bot : Ideal.ofBits .f32 0xFF800000#32 = ⊥ := by simp [Ideal.ofBits, Ideal.ieee]

theorem lift_at (r : Fin 256) (k : Fin 128) (h : S256x128.Reduces [1] S256) :
    h.lift (ix1 r : S256.Idx) k = (ix2 r k : S256x128.Idx) :=
  funext fun a => Fin.ext (by match a with | ⟨0, _⟩ => rfl | ⟨1, _⟩ => rfl)

theorem zT_apply (v : Vec Ideal S1x256x128 .bf16) (r : Fin 256) :
    zT (F := Ideal) v (ix2 r 0) = magnitude (row v r) * Quantiser.c := by
  have h : multiReduction (F := Ideal) .maximumf [1] S256 (absf (wideT v)) 0xFF800000#32 reduces_S256x128_S256 (.inl rfl) rfl (ix1 r)
      = magnitude (row v r) := by
    refine (Ideal.multiReduction_maximumf_single _ _ reduces_S256x128_S256 _ rfl _).trans ?_
    rw [← Quantiser.fold_abs _ _ bits_bot]
    congr 1
    funext d
    exact congrArg (fun z : EReal => max z (-z)) ((congrArg (wideT (F := Ideal) v) (lift_at r d reduces_S256x128_S256)).trans (wideT_apply v r d))
  rw [← h]
  unfold zT Quantiser.c
  pointwise

theorem nextT_apply (z : FVec Ideal S256x1 .f32) (f : IVec S256x1 32) (b : BitVec 32) (i : S256x1.Idx) :
    nextT z f b i = Field.next (z i) (f i) b := rfl

theorem fieldT_apply (z : FVec Ideal S256x1 .f32) (i : S256x1.Idx) : fieldT z i = Field.field (z i) := by
  unfold fieldT Field.field
  simp only [nextT_apply, broadcast]

theorem expoT_apply (f : IVec S256x1 32) (i : S256x1.Idx) : expoT f i = Field.expo (f i) := rfl

theorem kscale_apply (v : Vec Ideal S1x256x128 .bf16) (r : Fin 256) :
    powT (F := Ideal) (addi (expoT (fieldT (zT v))) (broadcast S256x1 127#32)) (ix2 r 0) = kscale (magnitude (row v r)) := by
  unfold kscale
  rw [← zT_apply, ← fieldT_apply, ← expoT_apply]
  rfl

theorem kinv_apply (v : Vec Ideal S1x256x128 .bf16) (r : Fin 256) :
    powT (F := Ideal) (addi (subi (broadcast S256x1 0#32) (expoT (fieldT (zT v)))) (broadcast S256x1 127#32)) (ix2 r 0)
      = kinv (magnitude (row v r)) := by
  unfold kinv
  rw [← zT_apply, ← fieldT_apply, ← expoT_apply]
  rfl

theorem c448_neg : Ideal.ofBits FTy.f32 0xC3E00000#32 = ((-448 : ℝ) : EReal) := by
  simp [Ideal.ofBits, Ideal.ieee]; rw [← EReal.coe_mul]; norm_num

theorem c448_pos : Ideal.ofBits FTy.f32 0x43E00000#32 = ((448 : ℝ) : EReal) := by
  simp [Ideal.ofBits, Ideal.ieee]; rw [← EReal.coe_mul]; norm_num

/-- An entry of the codes. -/
theorem codeT_apply (v : Vec Ideal S1x256x128 .bf16) (r : Fin 256) (d : Fin 128) :
    codeT (F := Ideal) v (ix3 0 r d) = clip (v (ix3 0 r d) * kinv (magnitude (row v r))) := by
  unfold clip
  rw [← c448_neg, ← c448_pos, ← kinv_apply]
  show _ = min _ (max _ (row v r d * _))
  rw [← wideT_apply]
  unfold codeT
  pointwise

/-- An entry of the scales. -/
theorem scaleT_apply (h : BitVec 32) (old : FVec Ideal S256x128 .f32) (v : Vec Ideal S1x256x128 .bf16) (r : Fin 256) (l : Fin 128) :
    scaleT (F := Ideal) h old v (ix2 r l) = if BitVec.ofNat 32 l.val = h then kscale (magnitude (row v r)) else old (ix2 r l) := by
  rw [← kscale_apply]
  unfold scaleT
  pointwise
  by_cases e : BitVec.ofNat 32 l.val = h
  · simp [Scalar.select, IntOp.cmpi, e]
  · have e' : (BitVec.ofNat 32 l.val == h) = false := by simpa using e
    simp only [Scalar.select, IntOp.cmpi, e']
    rw [if_neg (by decide), if_neg e]

/-- An entry of the transposed codes. -/
theorem turnT_apply (w : Vec Ideal S1x256x128 .fp8e4m3) (r : Fin 256) (d : Fin 128) :
    turnT (F := Ideal) w (ix3 0 d r) = w (ix3 0 r d) := by
  unfold turnT
  pointwise

end Cert.QuantiseIdeal.Hand
end
-- ==== Proof.QuantiseBody.lean ====
/-
  Hand-written. What one grid point of the quantise kernel leaves in each of its eight result blocks, from the three input blocks.
-/
module

public import proofs.«01_k».proof.Proof.Gen.QuantiseIdeal.Frame
public import proofs.«01_k».proof.Proof.QuantiseTerms
public import proofs.«01_k».proof.Proof.Core

@[expose] public section

set_option maxRecDepth 16384

noncomputable section

namespace Cert.QuantiseIdeal.Hand

open Cert.QuantiseIdeal Cert.QuantiseIdeal.Gen
open Idealize.ShloMosaic Idealize.ShloMosaic.TcCoe
open Cert.Online (clip)
open Cert.Quantiser (magnitude kscale kinv)
open Cert.KernelIdeal.Hand (read_unit)

/-- A block of 256 tokens. -/
abbrev Blk (w : ℕ) : Shape := ⟨3, ![1, 256, w]⟩

/-- The numbers of head `h` of token `r` in a block. -/
def blockHead {w : ℕ} (x : (Blk w).Idx → EReal) (r : Fin 256) (h : ℕ) : Fin 128 → EReal :=
  fun d => if hd : 128 * h + d.val < w then x (ix3 0 r ⟨128 * h + d.val, hd⟩) else 0

/-- A code of a block. -/
def blockCode {w : ℕ} (x : (Blk w).Idx → EReal) (r : Fin 256) (D : Fin w) : EReal :=
  clip (x (ix3 0 r D) * kinv (magnitude (blockHead x r (D.val / 128))))

/-- A scale of a block. -/
def blockScale {w : ℕ} (x : (Blk w).Idx → EReal) (r : Fin 256) (h : ℕ) : EReal := kscale (magnitude (blockHead x r h))

section loads

variable {F : FTy → Type} [FloatOps F] {w : ℕ}

/-- The load of 128 columns from column `o`. -/
def load (arg : Memref sig .tc .vmem (Blk w) .bf16) (harg : arg.IsWhole) (x : Vec F (Blk w) .bf16) (o : ℕ)
    (inb : ∀ a, (![0, 0, o] : Fin 3 → ℕ) a + S1x256x128.size a ≤ (Blk w).size a) : Vec F S1x256x128 .bf16 :=
  arg.view.readAt (Elt F) (Rect.unit (s := Blk w) ![0, 0, o] S1x256x128.size inb).toLoadRect (harg.unread x)

/-- The array of scales after one more head, the one of the columns from `o`. -/
def addT (h : BitVec 32) (o : ℕ) (inb : ∀ a, (![0, 0, o] : Fin 3 → ℕ) a + S1x256x128.size a ≤ (Blk w).size a)
    (arg : Memref sig .tc .vmem (Blk w) .bf16) (harg : arg.IsWhole) (x : Vec F (Blk w) .bf16) (S : FVec F S256x128 .f32) : FVec F S256x128 .f32 :=
  scaleT h S (load arg harg x o inb)

/-- The array of scales after the four heads of the keys or the values. -/
def fourT (arg : Memref sig .tc .vmem (Blk 512) .bf16) (harg : arg.IsWhole) (x : Vec F (Blk 512) .bf16) : FVec F S256x128 .f32 :=
  addT 3#32 384 (by decide) arg harg x <| addT 2#32 256 (by decide) arg harg x <| addT 1#32 128 (by decide) arg harg x <|
    addT 0#32 0 (by decide) arg harg x <| noScaleT

/-- The array of scales after the sixteen heads of the queries. -/
def sixteenT (arg : Memref sig .tc .vmem (Blk 2048) .bf16) (harg : arg.IsWhole) (x : Vec F (Blk 2048) .bf16) : FVec F S256x128 .f32 :=
  addT 15#32 1920 (by decide) arg harg x <| addT 14#32 1792 (by decide) arg harg x <| addT 13#32 1664 (by decide) arg harg x <|
    addT 12#32 1536 (by decide) arg harg x <| addT 11#32 1408 (by decide) arg harg x <| addT 10#32 1280 (by decide) arg harg x <|
    addT 9#32 1152 (by decide) arg harg x <| addT 8#32 1024 (by decide) arg harg x <| addT 7#32 896 (by decide) arg harg x <|
    addT 6#32 768 (by decide) arg harg x <| addT 5#32 640 (by decide) arg harg x <| addT 4#32 512 (by decide) arg harg x <|
    addT 3#32 384 (by decide) arg harg x <| addT 2#32 256 (by decide) arg harg x <| addT 1#32 128 (by decide) arg harg x <|
    addT 0#32 0 (by decide) arg harg x <| noScaleT

end loads

section values

variable {w : ℕ} (arg : Memref sig .tc .vmem (Blk w) .bf16) (harg : arg.IsWhole) (x : Vec Ideal (Blk w) .bf16)

theorem load_apply (o : ℕ) (inb) (r : Fin 256) (d : Fin 128) (D : Fin w) (hD : D.val = o + d.val) :
    (load (F := Ideal) arg harg x o inb (ix3 0 r d) : EReal) = x (ix3 0 r D) := by
  unfold load
  refine (read_unit arg.view (harg.unread x) _ _ _ _ (ix3 (n0 := 1) (n1 := 256) (n2 := w) 0 r D) fun a => ?_).trans
    (congrFun (harg.read_unread x) _)
  match a with
  | ⟨0, _⟩ => rfl
  | ⟨1, _⟩ => show r.val = 0 + r.val; omega
  | ⟨2, _⟩ => exact hD

theorem row_load (o : ℕ) (inb) (h : ℕ) (ho : o = 128 * h) (r : Fin 256) : row (load (F := Ideal) arg harg x o inb) r = blockHead x r h := by
  funext d
  have h2 : o + 128 ≤ w := inb 2
  unfold row blockHead
  rw [dif_pos (show 128 * h + d.val < w by omega)]
  exact load_apply arg harg x o inb r d _ (by simp [ho])

/-- A store of a head's codes agrees with the block's codes. -/
theorem codes_piece (o : ℕ) (ho : o % 128 = 0) (inb : ∀ a, (![0, 0, o] : Fin 3 → ℕ) a + S1x256x128.size a ≤ (Blk w).size a)
    (val : (Rect.unit (s := Blk w) ![0, 0, o] S1x256x128.size inb).shape.Idx → Elt Ideal .fp8e4m3)
    (hv : val = codeT (F := Ideal) (load arg harg x o inb)) (z : (Rect.unit (s := Blk w) ![0, 0, o] S1x256x128.size inb).shape.Idx) :
    val z = blockCode x ((Rect.unit (s := Blk w) ![0, 0, o] S1x256x128.size inb).emb z 1)
      ((Rect.unit (s := Blk w) ![0, 0, o] S1x256x128.size inb).emb z 2) := by
  subst hv
  obtain ⟨u, r, d, rfl⟩ : ∃ (u : Fin 1) (r : Fin 256) (d : Fin 128), z = ix3 u r d := ⟨z 0, z 1, z 2, eq_ix3 z⟩
  obtain rfl : u = 0 := Subsingleton.elim _ _
  have h2 : o + 128 ≤ w := inb 2
  have e1 : (Rect.unit (s := Blk w) ![0, 0, o] S1x256x128.size inb).emb (ix3 0 r d) 1 = r :=
    Fin.ext (by show 0 + 1 * r.val = r.val; omega)
  have e2 : (Rect.unit (s := Blk w) ![0, 0, o] S1x256x128.size inb).emb (ix3 0 r d) 2 = (⟨o + d.val, by omega⟩ : Fin w) :=
    Fin.ext (by show o + 1 * d.val = o + d.val; omega)
  rw [e1, e2]
  unfold blockCode
  refine (codeT_apply (load (F := Ideal) arg harg x o inb) r d).trans ?_
  rw [load_apply arg harg x o inb r d ⟨o + d.val, by omega⟩ rfl,
    row_load arg harg x o inb ((o + d.val) / 128) (by omega) r]

/-- The first `n` columns are the scales of the first `n` heads. -/
def Scales {w : ℕ} (x : (Blk w).Idx → EReal) (n : ℕ) (S : FVec Ideal S256x128 .f32) : Prop :=
  ∀ (r : Fin 256) (l : Fin 128), l.val < n → S (ix2 r l) = blockScale x r l.val

theorem scales_add (n o : ℕ) (inb) (S : FVec Ideal S256x128 .f32) (ho : o = 128 * n) (hn : n < 128) (hS : Scales x n S) :
    Scales x (n + 1) (addT (F := Ideal) (BitVec.ofNat 32 n) o inb arg harg x S) := by
  intro r l hl
  refine (scaleT_apply _ _ _ r l).trans ?_
  by_cases h : l.val = n
  · rw [if_pos (by rw [h])]
    unfold blockScale
    rw [row_load arg harg x o inb l.val (by omega) r]
  · rw [if_neg]
    · exact hS r l (by omega)
    · intro e
      have := congrArg BitVec.toNat e
      simp only [BitVec.toNat_ofNat] at this
      omega

theorem scales_four (arg : Memref sig .tc .vmem (Blk 512) .bf16) (harg : arg.IsWhole) (x : Vec Ideal (Blk 512) .bf16) :
    Scales x 4 (fourT (F := Ideal) arg harg x) := by
  unfold fourT
  iterate 4 refine scales_add arg harg x _ _ _ _ rfl (by norm_num) ?_
  exact fun r l hl => absurd hl (Nat.not_lt_zero _)

theorem scales_sixteen (arg : Memref sig .tc .vmem (Blk 2048) .bf16) (harg : arg.IsWhole) (x : Vec Ideal (Blk 2048) .bf16) :
    Scales x 16 (sixteenT (F := Ideal) arg harg x) := by
  unfold sixteenT
  iterate 16 refine scales_add arg harg x _ _ _ _ rfl (by norm_num) ?_
  exact fun r l hl => absurd hl (Nat.not_lt_zero _)

/-- The store of the scales of 16 heads. -/
theorem scales_piece16 {w : ℕ} (x : Vec Ideal (Blk w) .bf16) (S : FVec Ideal S256x128 .f32) (hS : Scales x 16 S) (inb : ∀ a, (![0, 0, 0] : Fin 3 → ℕ) a + S1x256x16.size a ≤ S1x256x16.size a)
    (val : (Rect.unit (s := S1x256x16) ![0, 0, 0] S1x256x16.size inb).shape.Idx → Elt Ideal .f32)
    (hv : val = shapeCast S1x256x16 (extractStridedSlice S256x16 ![0, 0] S slices_S256x128_o0_0_S256x16)
      shapeCasts_S256x16_S1x256x16) (z : (Rect.unit (s := S1x256x16) ![0, 0, 0] S1x256x16.size inb).shape.Idx) :
    val z = blockScale x ((Rect.unit (s := S1x256x16) ![0, 0, 0] S1x256x16.size inb).emb z 1)
      ((Rect.unit (s := S1x256x16) ![0, 0, 0] S1x256x16.size inb).emb z 2 : Fin 16).val := by
  subst hv
  obtain ⟨u, r, h, rfl⟩ : ∃ (u : Fin 1) (r : Fin 256) (h : Fin 16), z = ix3 u r h := ⟨z 0, z 1, z 2, eq_ix3 z⟩
  obtain rfl : u = 0 := Subsingleton.elim _ _
  have e1 : (Rect.unit (s := S1x256x16) ![0, 0, 0] S1x256x16.size inb).emb (ix3 0 r h) 1 = r :=
    Fin.ext (by show 0 + 1 * r.val = r.val; omega)
  have e2 : (Rect.unit (s := S1x256x16) ![0, 0, 0] S1x256x16.size inb).emb (ix3 0 r h) 2 = h :=
    Fin.ext (by show 0 + 1 * h.val = h.val; omega)
  rw [e1, e2, ← hS r ⟨h.val, by omega⟩ h.isLt]
  pointwise
  all_goals rfl

/-- The store of the scales of 4 heads. -/
theorem scales_piece4 {w : ℕ} (x : Vec Ideal (Blk w) .bf16) (S : FVec Ideal S256x128 .f32) (hS : Scales x 4 S) (inb : ∀ a, (![0, 0, 0] : Fin 3 → ℕ) a + S1x256x4.size a ≤ S1x256x4.size a)
    (val : (Rect.unit (s := S1x256x4) ![0, 0, 0] S1x256x4.size inb).shape.Idx → Elt Ideal .f32)
    (hv : val = shapeCast S1x256x4 (extractStridedSlice S256x4 ![0, 0] S slices_S256x128_o0_0_S256x4)
      shapeCasts_S256x4_S1x256x4) (z : (Rect.unit (s := S1x256x4) ![0, 0, 0] S1x256x4.size inb).shape.Idx) :
    val z = blockScale x ((Rect.unit (s := S1x256x4) ![0, 0, 0] S1x256x4.size inb).emb z 1)
      ((Rect.unit (s := S1x256x4) ![0, 0, 0] S1x256x4.size inb).emb z 2 : Fin 4).val := by
  subst hv
  obtain ⟨u, r, h, rfl⟩ : ∃ (u : Fin 1) (r : Fin 256) (h : Fin 4), z = ix3 u r h := ⟨z 0, z 1, z 2, eq_ix3 z⟩
  obtain rfl : u = 0 := Subsingleton.elim _ _
  have e1 : (Rect.unit (s := S1x256x4) ![0, 0, 0] S1x256x4.size inb).emb (ix3 0 r h) 1 = r :=
    Fin.ext (by show 0 + 1 * r.val = r.val; omega)
  have e2 : (Rect.unit (s := S1x256x4) ![0, 0, 0] S1x256x4.size inb).emb (ix3 0 r h) 2 = h :=
    Fin.ext (by show 0 + 1 * h.val = h.val; omega)
  rw [e1, e2, ← hS r ⟨h.val, by omega⟩ h.isLt]
  pointwise
  all_goals rfl

/-- The store of the transposed scales. -/
theorem turned_piece {w : ℕ} (x : Vec Ideal (Blk w) .bf16) (S : FVec Ideal S256x128 .f32) (hS : Scales x 16 S) (inb : ∀ a, (![0, 0, 0] : Fin 3 → ℕ) a + S1x16x256.size a ≤ S1x16x256.size a)
    (val : (Rect.unit (s := S1x16x256) ![0, 0, 0] S1x16x256.size inb).shape.Idx → Elt Ideal .f32)
    (hv : val = shapeCast S1x16x256 (extractStridedSlice S16x256 ![0, 0] (transpose S128x256 [1, 0] S
      transposes_S256x128_p1_0_S128x256) slices_S128x256_o0_0_S16x256) shapeCasts_S16x256_S1x16x256)
    (z : (Rect.unit (s := S1x16x256) ![0, 0, 0] S1x16x256.size inb).shape.Idx) :
    val z = blockScale x ((Rect.unit (s := S1x16x256) ![0, 0, 0] S1x16x256.size inb).emb z 2)
      ((Rect.unit (s := S1x16x256) ![0, 0, 0] S1x16x256.size inb).emb z 1 : Fin 16).val := by
  subst hv
  obtain ⟨u, h, r, rfl⟩ : ∃ (u : Fin 1) (h : Fin 16) (r : Fin 256), z = ix3 u h r := ⟨z 0, z 1, z 2, eq_ix3 z⟩
  obtain rfl : u = 0 := Subsingleton.elim _ _
  have e1 : (Rect.unit (s := S1x16x256) ![0, 0, 0] S1x16x256.size inb).emb (ix3 0 h r) 2 = r :=
    Fin.ext (by show 0 + 1 * r.val = r.val; omega)
  have e2 : (Rect.unit (s := S1x16x256) ![0, 0, 0] S1x16x256.size inb).emb (ix3 0 h r) 1 = h :=
    Fin.ext (by show 0 + 1 * h.val = h.val; omega)
  rw [e1, e2, ← hS r ⟨h.val, by omega⟩ h.isLt]
  pointwise
  all_goals rfl

/-- The store of a head's transposed codes, read from the block of codes. -/
theorem turn_piece (cx : (Blk 512).Idx → EReal) (arg' : Memref sig .tc .vmem S1x256x512 .fp8e4m3) (L : List (View.Piece (Elt Ideal) S1x256x512 .fp8e4m3))
    (hL : ∀ y, arg'.view.read (Elt Ideal) (arg'.view.writes (Elt Ideal) arg'.view.junk L) y = cx y) (o : ℕ)
    (inb : ∀ a, (![0, 0, o] : Fin 3 → ℕ) a + S1x256x128.size a ≤ S1x256x512.size a)
    (inb' : ∀ a, (![0, o, 0] : Fin 3 → ℕ) a + S1x128x256.size a ≤ S1x512x256.size a)
    (val : (Rect.unit (s := S1x512x256) ![0, o, 0] S1x128x256.size inb').shape.Idx → Elt Ideal .fp8e4m3)
    (hv : val = turnT (F := Ideal) (arg'.view.readCov L (Rect.unit (s := S1x256x512) ![0, 0, o] S1x256x128.size inb).toLoadRect))
    (z : (Rect.unit (s := S1x512x256) ![0, o, 0] S1x128x256.size inb').shape.Idx) :
    val z = cx (ix3 0 ((Rect.unit (s := S1x512x256) ![0, o, 0] S1x128x256.size inb').emb z 2)
      ((Rect.unit (s := S1x512x256) ![0, o, 0] S1x128x256.size inb').emb z 1)) := by
  subst hv
  obtain ⟨u, d, r, rfl⟩ : ∃ (u : Fin 1) (d : Fin 128) (r : Fin 256), z = ix3 u d r := ⟨z 0, z 1, z 2, eq_ix3 z⟩
  obtain rfl : u = 0 := Subsingleton.elim _ _
  have h2 : o + 128 ≤ 512 := inb 2
  have e1 : (Rect.unit (s := S1x512x256) ![0, o, 0] S1x128x256.size inb').emb (ix3 0 d r) 2 = r :=
    Fin.ext (by show 0 + 1 * r.val = r.val; omega)
  have e2 : (Rect.unit (s := S1x512x256) ![0, o, 0] S1x128x256.size inb').emb (ix3 0 d r) 1 = (⟨o + d.val, by omega⟩ : Fin 512) :=
    Fin.ext (by show o + 1 * d.val = o + d.val; omega)
  rw [e1, e2, ← hL]
  refine (turnT_apply _ r d).trans ?_
  refine read_unit arg'.view _ _ _ _ _ _ fun a => ?_
  match a with
  | ⟨0, _⟩ => rfl
  | ⟨1, _⟩ => show r.val = 0 + r.val; omega
  | ⟨2, _⟩ => rfl

end values

section outputs

variable (c : Dev nD) (i : grid0.Coords)
  (arg2 : Memref sig .tc .vmem S1x256x2048 .bf16) (harg2 : arg2.IsWhole)
  (arg3 : Memref sig .tc .vmem S1x256x512 .bf16) (harg3 : arg3.IsWhole)
  (arg4 : Memref sig .tc .vmem S1x256x512 .bf16) (harg4 : arg4.IsWhole)
  (arg5 : Memref sig .tc .vmem S1x256x2048 .fp8e4m3) (harg5 : arg5.IsWhole)
  (arg6 : Memref sig .tc .vmem S1x256x16 .f32) (harg6 : arg6.IsWhole)
  (arg7 : Memref sig .tc .vmem S1x16x256 .f32) (harg7 : arg7.IsWhole)
  (arg8 : Memref sig .tc .vmem S1x256x512 .fp8e4m3) (harg8 : arg8.IsWhole)
  (arg9 : Memref sig .tc .vmem S1x256x4 .f32) (harg9 : arg9.IsWhole)
  (arg10 : Memref sig .tc .vmem S1x256x512 .fp8e4m3) (harg10 : arg10.IsWhole)
  (arg11 : Memref sig .tc .vmem S1x256x4 .f32) (harg11 : arg11.IsWhole)
  (arg12 : Memref sig .tc .vmem S1x512x256 .fp8e4m3) (harg12 : arg12.IsWhole)
  (x0 : Vec Ideal S1x256x2048 .bf16) (x1 x2 : Vec Ideal S1x256x512 .bf16)

/-- The three blocks of codes. -/
theorem out_q (r : Fin 256) (D : Fin 2048) :
    (out0_A_3 (F := Ideal) c i arg2 harg2 arg3 harg3 arg4 harg4 arg5 harg5 arg6 harg6 arg7 harg7 arg8 harg8 arg9 harg9 arg10 harg10 arg11 harg11 arg12 harg12 x0 x1 x2 (ix3 0 r D) : EReal) = blockCode x0 r D := by
  unfold out0_A_3
  dsimp only [kernelRun0_A]
  refine View.read_writes_apply_of_pieces (Val := Elt Ideal) VO0_3 _ (fun y => blockCode (w := 2048) x0 (y 1) (y 2)) _ ?_ (ix3 0 r D) ?_
  rotate_left
  · exact View.cover_of_tiled (s := S1x256x2048) _ ![1, 256, 128] (by rfl) _
  iterate 16
    refine List.forall_mem_cons.2 ⟨?_, ?_⟩
    · exact codes_piece (w := 2048) arg2 harg2 x0 _ (by decide) _ _ rfl
  exact fun p hp => absurd hp List.not_mem_nil

theorem out_k (r : Fin 256) (D : Fin 512) :
    (out0_A_6 (F := Ideal) c i arg2 harg2 arg3 harg3 arg4 harg4 arg5 harg5 arg6 harg6 arg7 harg7 arg8 harg8 arg9 harg9 arg10 harg10 arg11 harg11 arg12 harg12 x0 x1 x2 (ix3 0 r D) : EReal) = blockCode x1 r D := by
  unfold out0_A_6
  dsimp only [kernelRun0_A]
  refine View.read_writes_apply_of_pieces (Val := Elt Ideal) VO0_6 _ (fun y => blockCode (w := 512) x1 (y 1) (y 2)) _ ?_ (ix3 0 r D) ?_
  rotate_left
  · exact View.cover_of_tiled (s := S1x256x512) _ ![1, 256, 128] (by rfl) _
  iterate 4
    refine List.forall_mem_cons.2 ⟨?_, ?_⟩
    · exact codes_piece (w := 512) arg3 harg3 x1 _ (by decide) _ _ rfl
  exact fun p hp => absurd hp List.not_mem_nil

theorem out_v (r : Fin 256) (D : Fin 512) :
    (out0_A_8 (F := Ideal) c i arg2 harg2 arg3 harg3 arg4 harg4 arg5 harg5 arg6 harg6 arg7 harg7 arg8 harg8 arg9 harg9 arg10 harg10 arg11 harg11 arg12 harg12 x0 x1 x2 (ix3 0 r D) : EReal) = blockCode x2 r D := by
  unfold out0_A_8
  dsimp only [kernelRun0_A, kernelRun0_A.sl.H8_4]
  refine View.read_writes_apply_of_pieces (Val := Elt Ideal) VO0_8 _ (fun y => blockCode (w := 512) x2 (y 1) (y 2)) _ ?_ (ix3 0 r D) ?_
  rotate_left
  · exact View.cover_of_tiled (s := S1x256x512) _ ![1, 256, 128] (by rfl) _
  iterate 4
    refine List.forall_mem_cons.2 ⟨?_, ?_⟩
    · exact codes_piece (w := 512) arg4 harg4 x2 _ (by decide) _ _ rfl
  exact fun p hp => absurd hp List.not_mem_nil

/-- The three blocks of scales. -/
theorem out_qs (r : Fin 256) (h : Fin 16) :
    (out0_A_4 (F := Ideal) c i arg2 harg2 arg3 harg3 arg4 harg4 arg5 harg5 arg6 harg6 arg7 harg7 arg8 harg8 arg9 harg9 arg10 harg10 arg11 harg11 arg12 harg12 x0 x1 x2 (ix3 0 r h) : EReal) = blockScale (w := 2048) x0 r h.val := by
  unfold out0_A_4
  dsimp only [kernelRun0_A]
  refine View.read_writes_apply_of_pieces (Val := Elt Ideal) VO0_4 _ (fun y => blockScale (w := 2048) x0 (y 1) (y 2 : Fin 16).val) _ ?_ (ix3 0 r h) ?_
  rotate_left
  · exact View.cover_of_tiled (s := S1x256x16) _ ![1, 256, 16] (by rfl) _
  refine List.forall_mem_cons.2 ⟨?_, fun p hp => absurd hp List.not_mem_nil⟩
  exact scales_piece16 (w := 2048) x0 _ (scales_sixteen arg2 harg2 x0) (by decide) _ rfl

theorem out_ks (r : Fin 256) (h : Fin 4) :
    (out0_A_7 (F := Ideal) c i arg2 harg2 arg3 harg3 arg4 harg4 arg5 harg5 arg6 harg6 arg7 harg7 arg8 harg8 arg9 harg9 arg10 harg10 arg11 harg11 arg12 harg12 x0 x1 x2 (ix3 0 r h) : EReal) = blockScale (w := 512) x1 r h.val := by
  unfold out0_A_7
  dsimp only [kernelRun0_A]
  refine View.read_writes_apply_of_pieces (Val := Elt Ideal) VO0_7 _ (fun y => blockScale (w := 512) x1 (y 1) (y 2 : Fin 4).val) _ ?_ (ix3 0 r h) ?_
  rotate_left
  · exact View.cover_of_tiled (s := S1x256x4) _ ![1, 256, 4] (by rfl) _
  refine List.forall_mem_cons.2 ⟨?_, fun p hp => absurd hp List.not_mem_nil⟩
  exact scales_piece4 (w := 512) x1 _ (scales_four arg3 harg3 x1) (by decide) _ rfl

theorem out_vs (r : Fin 256) (h : Fin 4) :
    (out0_A_9 (F := Ideal) c i arg2 harg2 arg3 harg3 arg4 harg4 arg5 harg5 arg6 harg6 arg7 harg7 arg8 harg8 arg9 harg9 arg10 harg10 arg11 harg11 arg12 harg12 x0 x1 x2 (ix3 0 r h) : EReal) = blockScale (w := 512) x2 r h.val := by
  unfold out0_A_9
  dsimp only [kernelRun0_A]
  refine View.read_writes_apply_of_pieces (Val := Elt Ideal) VO0_9 _ (fun y => blockScale (w := 512) x2 (y 1) (y 2 : Fin 4).val) _ ?_ (ix3 0 r h) ?_
  rotate_left
  · exact View.cover_of_tiled (s := S1x256x4) _ ![1, 256, 4] (by rfl) _
  refine List.forall_mem_cons.2 ⟨?_, fun p hp => absurd hp List.not_mem_nil⟩
  exact scales_piece4 (w := 512) x2 _ (scales_four arg4 harg4 x2) (by decide) _ rfl

/-- The block of transposed scales. -/
theorem out_qst (r : Fin 256) (h : Fin 16) :
    (out0_A_5 (F := Ideal) c i arg2 harg2 arg3 harg3 arg4 harg4 arg5 harg5 arg6 harg6 arg7 harg7 arg8 harg8 arg9 harg9 arg10 harg10 arg11 harg11 arg12 harg12 x0 x1 x2 (ix3 0 h r) : EReal) = blockScale (w := 2048) x0 r h.val := by
  unfold out0_A_5
  dsimp only [kernelRun0_A]
  refine View.read_writes_apply_of_pieces (Val := Elt Ideal) VO0_5 _ (fun y => blockScale (w := 2048) x0 (y 2) (y 1 : Fin 16).val) _ ?_ (ix3 0 h r) ?_
  rotate_left
  · exact View.cover_of_tiled (s := S1x16x256) _ ![1, 16, 256] (by rfl) _
  refine List.forall_mem_cons.2 ⟨?_, fun p hp => absurd hp List.not_mem_nil⟩
  exact turned_piece (w := 2048) x0 _ (scales_sixteen arg2 harg2 x0) (by decide) _ rfl

/-- The codes of the values, as the body reads them back. -/
theorem back_v (y : S1x256x512.Idx) :
    (arg10.view.read (Elt Ideal) (arg10.view.writes (Elt Ideal) arg10.view.junk (kernelRun0_A.sl.H8_4 (F := Ideal) c arg4 harg4 x2)) y : EReal)
      = blockCode (w := 512) x2 (y 1) (y 2) := by
  dsimp only [kernelRun0_A.sl.H8_4]
  refine View.read_writes_apply_of_pieces (Val := Elt Ideal) arg10.view _ (fun y => blockCode (w := 512) x2 (y 1) (y 2)) _ ?_ y ?_
  rotate_left
  · exact View.cover_of_tiled (s := S1x256x512) _ ![1, 256, 128] (by rfl) _
  iterate 4
    refine List.forall_mem_cons.2 ⟨?_, ?_⟩
    · exact codes_piece (w := 512) arg4 harg4 x2 _ (by decide) _ _ rfl
  exact fun p hp => absurd hp List.not_mem_nil

/-- The block of transposed codes. -/
theorem out_vt (r : Fin 256) (D : Fin 512) :
    (out0_A_10 (F := Ideal) c i arg2 harg2 arg3 harg3 arg4 harg4 arg5 harg5 arg6 harg6 arg7 harg7 arg8 harg8 arg9 harg9 arg10 harg10 arg11 harg11 arg12 harg12 x0 x1 x2 (ix3 0 D r) : EReal) = blockCode (w := 512) x2 r D := by
  unfold out0_A_10
  dsimp only [kernelRun0_A]
  refine View.read_writes_apply_of_pieces (Val := Elt Ideal) VO0_10 _ (fun y => blockCode (w := 512) x2 (y 2) (y 1)) _ ?_ (ix3 0 D r) ?_
  rotate_left
  · exact View.cover_of_tiled (s := S1x512x256) _ ![1, 128, 256] (by rfl) _
  iterate 4
    refine List.forall_mem_cons.2 ⟨?_, ?_⟩
    · exact turn_piece (fun y => blockCode (w := 512) x2 (y 1) (y 2)) arg10 _ (back_v c arg4 harg4 arg10 x2) _
        (by decide) (by decide) _ rfl
  exact fun p hp => absurd hp List.not_mem_nil

end outputs

end Cert.QuantiseIdeal.Hand
end
-- ==== Proof.QuantiseArrays.lean ====
/-
  Hand-written. The blocks of the quantise kernel as entries of the arrays, and each of its eight result arrays as one function of the arguments.
-/
module

public import proofs.«01_k».proof.Proof.Gen.QuantiseIdeal.Frame
public import proofs.«01_k».proof.Proof.Gen.QuantiseIdeal.Value
public import proofs.«01_k».proof.Proof.QuantiseBody
public import Idealize.ShloMosaic.Lib.Pipeline.ValueKit

@[expose] public section

set_option maxRecDepth 16384

noncomputable section

namespace Cert.QuantiseIdeal.Hand

open Cert.QuantiseIdeal Cert.QuantiseIdeal.Gen
open Idealize.ShloMosaic Idealize.ShloMosaic.TcCoe Idealize.ShloMosaic.Tactic
open Idealize.SL.Sem
open Cert.Online (clip)
open Cert.Quantiser (magnitude kscale kinv headAt codesWith scalesWith)

theorem index_0 : ∀ t : Fin grid0.N, win0_0.index t 0 = (grid0.coords t 0).val ∧ win0_0.index t 1 = (grid0.coords t 1).val
    ∧ win0_0.index t 2 = 0 := by decide +kernel
theorem index_1 : ∀ t : Fin grid0.N, win0_1.index t 0 = (grid0.coords t 0).val ∧ win0_1.index t 1 = (grid0.coords t 1).val
    ∧ win0_1.index t 2 = 0 := by decide +kernel
theorem index_2 : ∀ t : Fin grid0.N, win0_2.index t 0 = (grid0.coords t 0).val ∧ win0_2.index t 1 = (grid0.coords t 1).val
    ∧ win0_2.index t 2 = 0 := by decide +kernel
theorem index_3 : ∀ t : Fin grid0.N, win0_3.index t 0 = (grid0.coords t 0).val ∧ win0_3.index t 1 = (grid0.coords t 1).val
    ∧ win0_3.index t 2 = 0 := by decide +kernel
theorem index_4 : ∀ t : Fin grid0.N, win0_4.index t 0 = (grid0.coords t 0).val ∧ win0_4.index t 1 = (grid0.coords t 1).val
    ∧ win0_4.index t 2 = 0 := by decide +kernel
theorem index_5 : ∀ t : Fin grid0.N, win0_5.index t 0 = (grid0.coords t 0).val ∧ win0_5.index t 1 = 0
    ∧ win0_5.index t 2 = (grid0.coords t 1).val := by decide +kernel
theorem index_6 : ∀ t : Fin grid0.N, win0_6.index t 0 = (grid0.coords t 0).val ∧ win0_6.index t 1 = (grid0.coords t 1).val
    ∧ win0_6.index t 2 = 0 := by decide +kernel
theorem index_7 : ∀ t : Fin grid0.N, win0_7.index t 0 = (grid0.coords t 0).val ∧ win0_7.index t 1 = (grid0.coords t 1).val
    ∧ win0_7.index t 2 = 0 := by decide +kernel
theorem index_8 : ∀ t : Fin grid0.N, win0_8.index t 0 = (grid0.coords t 0).val ∧ win0_8.index t 1 = (grid0.coords t 1).val
    ∧ win0_8.index t 2 = 0 := by decide +kernel
theorem index_9 : ∀ t : Fin grid0.N, win0_9.index t 0 = (grid0.coords t 0).val ∧ win0_9.index t 1 = (grid0.coords t 1).val
    ∧ win0_9.index t 2 = 0 := by decide +kernel
theorem index_10 : ∀ t : Fin grid0.N, win0_10.index t 0 = (grid0.coords t 0).val ∧ win0_10.index t 1 = 0
    ∧ win0_10.index t 2 = (grid0.coords t 1).val := by decide +kernel

/-- The batch and the token of a row of a point's block. -/
def batchOf (t : Fin grid0.N) : Fin 8 := grid0.coords t 0
def tokenOf (t : Fin grid0.N) (r : Fin 256) : Fin 8192 :=
  ⟨256 * (grid0.coords t 1).val + r.val, by have : (grid0.coords t 1).val < 32 := (grid0.coords t 1).isLt; omega⟩

section
variable (m : (ℓ : Loc nD τ sig) → Buf (Elt Ideal) ℓ) (c : Dev nD) (t : Fin cfg0.N)

/-! ### The input blocks -/

theorem block_0 (r : Fin 256) (D : Fin 2048) :
    (iblk m c 0 t : S1x256x2048.Idx → EReal) (ix3 0 r D)
      = m ((c.tc : Thread nD τ).loc main_arg0) (ix3 (n0 := 8) (n1 := 8192) (n2 := 2048) (batchOf t) (tokenOf t r) D) := by
  obtain ⟨i0, i1, i2⟩ := index_0 t
  unfold iblk
  rw [View.read_apply, V_main_arg0 m c]
  refine congrArg (m (c.tc.loc main_arg0)) (funext fun a => Fin.ext ?_)
  match a with
  | ⟨0, _⟩ => show win0_0.index t 0 * 1 + 1 * 0 = (grid0.coords t 0).val; omega
  | ⟨1, _⟩ => show win0_0.index t 1 * 256 + 1 * r.val = 256 * (grid0.coords t 1).val + r.val; omega
  | ⟨2, _⟩ => show win0_0.index t 2 * 2048 + 1 * D.val = D.val; omega

theorem block_1 (r : Fin 256) (D : Fin 512) :
    (iblk m c 1 t : S1x256x512.Idx → EReal) (ix3 0 r D)
      = m ((c.tc : Thread nD τ).loc main_arg1) (ix3 (n0 := 8) (n1 := 8192) (n2 := 512) (batchOf t) (tokenOf t r) D) := by
  obtain ⟨i0, i1, i2⟩ := index_1 t
  unfold iblk
  rw [View.read_apply, V_main_arg1 m c]
  refine congrArg (m (c.tc.loc main_arg1)) (funext fun a => Fin.ext ?_)
  match a with
  | ⟨0, _⟩ => show win0_1.index t 0 * 1 + 1 * 0 = (grid0.coords t 0).val; omega
  | ⟨1, _⟩ => show win0_1.index t 1 * 256 + 1 * r.val = 256 * (grid0.coords t 1).val + r.val; omega
  | ⟨2, _⟩ => show win0_1.index t 2 * 512 + 1 * D.val = D.val; omega

theorem block_2 (r : Fin 256) (D : Fin 512) :
    (iblk m c 2 t : S1x256x512.Idx → EReal) (ix3 0 r D)
      = m ((c.tc : Thread nD τ).loc main_arg2) (ix3 (n0 := 8) (n1 := 8192) (n2 := 512) (batchOf t) (tokenOf t r) D) := by
  obtain ⟨i0, i1, i2⟩ := index_2 t
  unfold iblk
  rw [View.read_apply, V_main_arg2 m c]
  refine congrArg (m (c.tc.loc main_arg2)) (funext fun a => Fin.ext ?_)
  match a with
  | ⟨0, _⟩ => show win0_2.index t 0 * 1 + 1 * 0 = (grid0.coords t 0).val; omega
  | ⟨1, _⟩ => show win0_2.index t 1 * 256 + 1 * r.val = 256 * (grid0.coords t 1).val + r.val; omega
  | ⟨2, _⟩ => show win0_2.index t 2 * 512 + 1 * D.val = D.val; omega

/-! ### Codes and scales of a block are those of the array -/

section
variable {w : ℕ} (B : (Blk w).Idx → EReal) (x : (⟨3, ![8, 8192, w]⟩ : Shape).Idx → EReal) (r : Fin 256)
  (h : ∀ D : Fin w, B (ix3 0 r D) = x (ix3 (batchOf t) (tokenOf t r) D))
include h

theorem head_eq (n : ℕ) : blockHead B r n = headAt x (batchOf t) (tokenOf t r) n := by
  funext d
  unfold blockHead headAt
  split
  · exact h _
  · rfl

theorem code_eq (D : Fin w) : blockCode B r D = codesWith kinv x (batchOf t) (tokenOf t r) D := by
  unfold blockCode codesWith
  rw [head_eq t B x r h, h]

theorem scale_eq (n : ℕ) : blockScale B r n = scalesWith kscale x (batchOf t) (tokenOf t r) n := by
  unfold blockScale scalesWith
  rw [head_eq t B x r h]

end

/-! ### The result arrays -/

theorem emb_3 (r : Fin 256) (D : Fin 2048) :
    ((cfg0.win 3).blk t).view.emb ((ix3 0 r D : S1x256x2048.Idx)) = (ix3 (n0 := 8) (n1 := 8192) (n2 := 2048) (batchOf t) (tokenOf t r) D : S8x8192x2048.Idx) := by
  obtain ⟨i0, i1, i2⟩ := index_3 t
  refine funext fun a => Fin.ext ?_
  match a with
  | ⟨0, _⟩ => show win0_3.index t 0 * 1 + 1 * 0 = (grid0.coords t 0).val; omega
  | ⟨1, _⟩ => show win0_3.index t 1 * 256 + 1 * r.val = 256 * (grid0.coords t 1).val + r.val; omega
  | ⟨2, _⟩ => show win0_3.index t 2 * 2048 + 1 * D.val = D.val; omega

theorem array_3 (G : S8x8192x2048.Idx → EReal)
    (hG : ∀ (t : Fin cfg0.N) (y : S1x256x2048.Idx), ((dats m 0 c).after 3 t : S1x256x2048.Idx → EReal) y = G (((cfg0.win 3).blk t).view.emb y)) :
    (dats m 0 c).arrAt 3 cfg0.N = G := by
  refine (dats m 0 c).arrAt_eq_of_covers 3 _ (by decide +kernel) fun t hf y => ?_
  blk_simp
  exact hG t y

theorem q_codes : (dats m 0 c).arrAt 3 cfg0.N = fun i : S8x8192x2048.Idx => (codesWith kinv (w := 2048) (m ((c.tc : Thread nD τ).loc main_arg0)) (i 0) (i 1) (i 2) : EReal) := by
  refine array_3 m c _ fun t y => ?_
  rw [after0_3]
  dsimp only [outsAt0]
  obtain ⟨u, r, D, rfl⟩ : ∃ (u : Fin 1) (r : Fin 256) (D : Fin 2048), y = ix3 u r D := ⟨y 0, y 1, y 2, eq_ix3 y⟩
  obtain rfl : u = 0 := Subsingleton.elim _ _
  rw [emb_3]
  refine (out_q c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact code_eq t (iblk m c 0 t : S1x256x2048.Idx → EReal) _ r (block_0 m c t r) D

theorem emb_4 (r : Fin 256) (D : Fin 16) :
    ((cfg0.win 4).blk t).view.emb ((ix3 0 r D : S1x256x16.Idx)) = (ix3 (n0 := 8) (n1 := 8192) (n2 := 16) (batchOf t) (tokenOf t r) D : S8x8192x16.Idx) := by
  obtain ⟨i0, i1, i2⟩ := index_4 t
  refine funext fun a => Fin.ext ?_
  match a with
  | ⟨0, _⟩ => show win0_4.index t 0 * 1 + 1 * 0 = (grid0.coords t 0).val; omega
  | ⟨1, _⟩ => show win0_4.index t 1 * 256 + 1 * r.val = 256 * (grid0.coords t 1).val + r.val; omega
  | ⟨2, _⟩ => show win0_4.index t 2 * 16 + 1 * D.val = D.val; omega

theorem array_4 (G : S8x8192x16.Idx → EReal)
    (hG : ∀ (t : Fin cfg0.N) (y : S1x256x16.Idx), ((dats m 0 c).after 4 t : S1x256x16.Idx → EReal) y = G (((cfg0.win 4).blk t).view.emb y)) :
    (dats m 0 c).arrAt 4 cfg0.N = G := by
  refine (dats m 0 c).arrAt_eq_of_covers 4 _ (by decide +kernel) fun t hf y => ?_
  blk_simp
  exact hG t y

theorem q_scale : (dats m 0 c).arrAt 4 cfg0.N = fun i : S8x8192x16.Idx => (scalesWith kscale (w := 2048) (m ((c.tc : Thread nD τ).loc main_arg0)) (i 0) (i 1) (i 2 : Fin 16).val : EReal) := by
  refine array_4 m c _ fun t y => ?_
  rw [after0_4]
  dsimp only [outsAt0]
  obtain ⟨u, r, D, rfl⟩ : ∃ (u : Fin 1) (r : Fin 256) (D : Fin 16), y = ix3 u r D := ⟨y 0, y 1, y 2, eq_ix3 y⟩
  obtain rfl : u = 0 := Subsingleton.elim _ _
  rw [emb_4]
  refine (out_qs c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact scale_eq t (iblk m c 0 t : S1x256x2048.Idx → EReal) _ r (block_0 m c t r) D.val

theorem emb_5 (r : Fin 256) (D : Fin 16) :
    ((cfg0.win 5).blk t).view.emb ((ix3 0 D r : S1x16x256.Idx)) = (ix3 (n0 := 8) (n1 := 16) (n2 := 8192) (batchOf t) D (tokenOf t r) : S8x16x8192.Idx) := by
  obtain ⟨i0, i1, i2⟩ := index_5 t
  refine funext fun a => Fin.ext ?_
  match a with
  | ⟨0, _⟩ => show win0_5.index t 0 * 1 + 1 * 0 = (grid0.coords t 0).val; omega
  | ⟨1, _⟩ => show win0_5.index t 1 * 16 + 1 * D.val = D.val; omega
  | ⟨2, _⟩ => show win0_5.index t 2 * 256 + 1 * r.val = 256 * (grid0.coords t 1).val + r.val; omega

theorem array_5 (G : S8x16x8192.Idx → EReal)
    (hG : ∀ (t : Fin cfg0.N) (y : S1x16x256.Idx), ((dats m 0 c).after 5 t : S1x16x256.Idx → EReal) y = G (((cfg0.win 5).blk t).view.emb y)) :
    (dats m 0 c).arrAt 5 cfg0.N = G := by
  refine (dats m 0 c).arrAt_eq_of_covers 5 _ (by decide +kernel) fun t hf y => ?_
  blk_simp
  exact hG t y

theorem q_scale_t : (dats m 0 c).arrAt 5 cfg0.N = fun i : S8x16x8192.Idx => (scalesWith kscale (w := 2048) (m ((c.tc : Thread nD τ).loc main_arg0)) (i 0) (i 2) (i 1 : Fin 16).val : EReal) := by
  refine array_5 m c _ fun t y => ?_
  rw [after0_5]
  dsimp only [outsAt0]
  obtain ⟨u, D, r, rfl⟩ : ∃ (u : Fin 1) (D : Fin 16) (r : Fin 256), y = ix3 u D r := ⟨y 0, y 1, y 2, eq_ix3 y⟩
  obtain rfl : u = 0 := Subsingleton.elim _ _
  rw [emb_5]
  refine (out_qst c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact scale_eq t (iblk m c 0 t : S1x256x2048.Idx → EReal) _ r (block_0 m c t r) D.val

theorem emb_6 (r : Fin 256) (D : Fin 512) :
    ((cfg0.win 6).blk t).view.emb ((ix3 0 r D : S1x256x512.Idx)) = (ix3 (n0 := 8) (n1 := 8192) (n2 := 512) (batchOf t) (tokenOf t r) D : S8x8192x512.Idx) := by
  obtain ⟨i0, i1, i2⟩ := index_6 t
  refine funext fun a => Fin.ext ?_
  match a with
  | ⟨0, _⟩ => show win0_6.index t 0 * 1 + 1 * 0 = (grid0.coords t 0).val; omega
  | ⟨1, _⟩ => show win0_6.index t 1 * 256 + 1 * r.val = 256 * (grid0.coords t 1).val + r.val; omega
  | ⟨2, _⟩ => show win0_6.index t 2 * 512 + 1 * D.val = D.val; omega

theorem array_6 (G : S8x8192x512.Idx → EReal)
    (hG : ∀ (t : Fin cfg0.N) (y : S1x256x512.Idx), ((dats m 0 c).after 6 t : S1x256x512.Idx → EReal) y = G (((cfg0.win 6).blk t).view.emb y)) :
    (dats m 0 c).arrAt 6 cfg0.N = G := by
  refine (dats m 0 c).arrAt_eq_of_covers 6 _ (by decide +kernel) fun t hf y => ?_
  blk_simp
  exact hG t y

theorem k_codes : (dats m 0 c).arrAt 6 cfg0.N = fun i : S8x8192x512.Idx => (codesWith kinv (w := 512) (m ((c.tc : Thread nD τ).loc main_arg1)) (i 0) (i 1) (i 2) : EReal) := by
  refine array_6 m c _ fun t y => ?_
  rw [after0_6]
  dsimp only [outsAt0]
  obtain ⟨u, r, D, rfl⟩ : ∃ (u : Fin 1) (r : Fin 256) (D : Fin 512), y = ix3 u r D := ⟨y 0, y 1, y 2, eq_ix3 y⟩
  obtain rfl : u = 0 := Subsingleton.elim _ _
  rw [emb_6]
  refine (out_k c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact code_eq t (iblk m c 1 t : S1x256x512.Idx → EReal) _ r (block_1 m c t r) D

theorem emb_7 (r : Fin 256) (D : Fin 4) :
    ((cfg0.win 7).blk t).view.emb ((ix3 0 r D : S1x256x4.Idx)) = (ix3 (n0 := 8) (n1 := 8192) (n2 := 4) (batchOf t) (tokenOf t r) D : S8x8192x4.Idx) := by
  obtain ⟨i0, i1, i2⟩ := index_7 t
  refine funext fun a => Fin.ext ?_
  match a with
  | ⟨0, _⟩ => show win0_7.index t 0 * 1 + 1 * 0 = (grid0.coords t 0).val; omega
  | ⟨1, _⟩ => show win0_7.index t 1 * 256 + 1 * r.val = 256 * (grid0.coords t 1).val + r.val; omega
  | ⟨2, _⟩ => show win0_7.index t 2 * 4 + 1 * D.val = D.val; omega

theorem array_7 (G : S8x8192x4.Idx → EReal)
    (hG : ∀ (t : Fin cfg0.N) (y : S1x256x4.Idx), ((dats m 0 c).after 7 t : S1x256x4.Idx → EReal) y = G (((cfg0.win 7).blk t).view.emb y)) :
    (dats m 0 c).arrAt 7 cfg0.N = G := by
  refine (dats m 0 c).arrAt_eq_of_covers 7 _ (by decide +kernel) fun t hf y => ?_
  blk_simp
  exact hG t y

theorem k_scale : (dats m 0 c).arrAt 7 cfg0.N = fun i : S8x8192x4.Idx => (scalesWith kscale (w := 512) (m ((c.tc : Thread nD τ).loc main_arg1)) (i 0) (i 1) (i 2 : Fin 4).val : EReal) := by
  refine array_7 m c _ fun t y => ?_
  rw [after0_7]
  dsimp only [outsAt0]
  obtain ⟨u, r, D, rfl⟩ : ∃ (u : Fin 1) (r : Fin 256) (D : Fin 4), y = ix3 u r D := ⟨y 0, y 1, y 2, eq_ix3 y⟩
  obtain rfl : u = 0 := Subsingleton.elim _ _
  rw [emb_7]
  refine (out_ks c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact scale_eq t (iblk m c 1 t : S1x256x512.Idx → EReal) _ r (block_1 m c t r) D.val

theorem emb_8 (r : Fin 256) (D : Fin 512) :
    ((cfg0.win 8).blk t).view.emb ((ix3 0 r D : S1x256x512.Idx)) = (ix3 (n0 := 8) (n1 := 8192) (n2 := 512) (batchOf t) (tokenOf t r) D : S8x8192x512.Idx) := by
  obtain ⟨i0, i1, i2⟩ := index_8 t
  refine funext fun a => Fin.ext ?_
  match a with
  | ⟨0, _⟩ => show win0_8.index t 0 * 1 + 1 * 0 = (grid0.coords t 0).val; omega
  | ⟨1, _⟩ => show win0_8.index t 1 * 256 + 1 * r.val = 256 * (grid0.coords t 1).val + r.val; omega
  | ⟨2, _⟩ => show win0_8.index t 2 * 512 + 1 * D.val = D.val; omega

theorem array_8 (G : S8x8192x512.Idx → EReal)
    (hG : ∀ (t : Fin cfg0.N) (y : S1x256x512.Idx), ((dats m 0 c).after 8 t : S1x256x512.Idx → EReal) y = G (((cfg0.win 8).blk t).view.emb y)) :
    (dats m 0 c).arrAt 8 cfg0.N = G := by
  refine (dats m 0 c).arrAt_eq_of_covers 8 _ (by decide +kernel) fun t hf y => ?_
  blk_simp
  exact hG t y

theorem v_codes : (dats m 0 c).arrAt 8 cfg0.N = fun i : S8x8192x512.Idx => (codesWith kinv (w := 512) (m ((c.tc : Thread nD τ).loc main_arg2)) (i 0) (i 1) (i 2) : EReal) := by
  refine array_8 m c _ fun t y => ?_
  rw [after0_8]
  dsimp only [outsAt0]
  obtain ⟨u, r, D, rfl⟩ : ∃ (u : Fin 1) (r : Fin 256) (D : Fin 512), y = ix3 u r D := ⟨y 0, y 1, y 2, eq_ix3 y⟩
  obtain rfl : u = 0 := Subsingleton.elim _ _
  rw [emb_8]
  refine (out_v c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact code_eq t (iblk m c 2 t : S1x256x512.Idx → EReal) _ r (block_2 m c t r) D

theorem emb_9 (r : Fin 256) (D : Fin 4) :
    ((cfg0.win 9).blk t).view.emb ((ix3 0 r D : S1x256x4.Idx)) = (ix3 (n0 := 8) (n1 := 8192) (n2 := 4) (batchOf t) (tokenOf t r) D : S8x8192x4.Idx) := by
  obtain ⟨i0, i1, i2⟩ := index_9 t
  refine funext fun a => Fin.ext ?_
  match a with
  | ⟨0, _⟩ => show win0_9.index t 0 * 1 + 1 * 0 = (grid0.coords t 0).val; omega
  | ⟨1, _⟩ => show win0_9.index t 1 * 256 + 1 * r.val = 256 * (grid0.coords t 1).val + r.val; omega
  | ⟨2, _⟩ => show win0_9.index t 2 * 4 + 1 * D.val = D.val; omega

theorem array_9 (G : S8x8192x4.Idx → EReal)
    (hG : ∀ (t : Fin cfg0.N) (y : S1x256x4.Idx), ((dats m 0 c).after 9 t : S1x256x4.Idx → EReal) y = G (((cfg0.win 9).blk t).view.emb y)) :
    (dats m 0 c).arrAt 9 cfg0.N = G := by
  refine (dats m 0 c).arrAt_eq_of_covers 9 _ (by decide +kernel) fun t hf y => ?_
  blk_simp
  exact hG t y

theorem v_scale : (dats m 0 c).arrAt 9 cfg0.N = fun i : S8x8192x4.Idx => (scalesWith kscale (w := 512) (m ((c.tc : Thread nD τ).loc main_arg2)) (i 0) (i 1) (i 2 : Fin 4).val : EReal) := by
  refine array_9 m c _ fun t y => ?_
  rw [after0_9]
  dsimp only [outsAt0]
  obtain ⟨u, r, D, rfl⟩ : ∃ (u : Fin 1) (r : Fin 256) (D : Fin 4), y = ix3 u r D := ⟨y 0, y 1, y 2, eq_ix3 y⟩
  obtain rfl : u = 0 := Subsingleton.elim _ _
  rw [emb_9]
  refine (out_vs c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact scale_eq t (iblk m c 2 t : S1x256x512.Idx → EReal) _ r (block_2 m c t r) D.val

theorem emb_10 (r : Fin 256) (D : Fin 512) :
    ((cfg0.win 10).blk t).view.emb ((ix3 0 D r : S1x512x256.Idx)) = (ix3 (n0 := 8) (n1 := 512) (n2 := 8192) (batchOf t) D (tokenOf t r) : S8x512x8192.Idx) := by
  obtain ⟨i0, i1, i2⟩ := index_10 t
  refine funext fun a => Fin.ext ?_
  match a with
  | ⟨0, _⟩ => show win0_10.index t 0 * 1 + 1 * 0 = (grid0.coords t 0).val; omega
  | ⟨1, _⟩ => show win0_10.index t 1 * 512 + 1 * D.val = D.val; omega
  | ⟨2, _⟩ => show win0_10.index t 2 * 256 + 1 * r.val = 256 * (grid0.coords t 1).val + r.val; omega

theorem array_10 (G : S8x512x8192.Idx → EReal)
    (hG : ∀ (t : Fin cfg0.N) (y : S1x512x256.Idx), ((dats m 0 c).after 10 t : S1x512x256.Idx → EReal) y = G (((cfg0.win 10).blk t).view.emb y)) :
    (dats m 0 c).arrAt 10 cfg0.N = G := by
  refine (dats m 0 c).arrAt_eq_of_covers 10 _ (by decide +kernel) fun t hf y => ?_
  blk_simp
  exact hG t y

theorem v_codes_t : (dats m 0 c).arrAt 10 cfg0.N = fun i : S8x512x8192.Idx => (codesWith kinv (w := 512) (m ((c.tc : Thread nD τ).loc main_arg2)) (i 0) (i 2) (i 1) : EReal) := by
  refine array_10 m c _ fun t y => ?_
  rw [after0_10]
  dsimp only [outsAt0]
  obtain ⟨u, D, r, rfl⟩ : ∃ (u : Fin 1) (D : Fin 512) (r : Fin 256), y = ix3 u D r := ⟨y 0, y 1, y 2, eq_ix3 y⟩
  obtain rfl : u = 0 := Subsingleton.elim _ _
  rw [emb_10]
  refine (out_vt c (grid0.coords t) _ (hs0_0 t) _ (hs0_1 t) _ (hs0_2 t) _ (hs0_3 t) _ (hs0_4 t) _ (hs0_5 t) _ (hs0_6 t) _ (hs0_7 t) _ (hs0_8 t) _ (hs0_9 t) _
    (hs0_10 t) _ _ _ r D).trans ?_
  exact code_eq t (iblk m c 2 t : S1x256x512.Idx → EReal) _ r (block_2 m c t r) D

end

end Cert.QuantiseIdeal.Hand

end
-- ==== Proof.QuantiseReferenceValue.lean ====
/-
  Hand-written. The reference of the quantise call: each of its eight arrays as one function of the arguments.
-/
module

public import proofs.«01_k».proof.Proof.Gen.QuantiseReferenceIdeal.Value
public import proofs.«01_k».proof.Proof.Quantiser
public import proofs.«01_k».proof.Proof.QuantiseTerms
public import Idealize.ShloMosaic.Lib.Pointwise
public import Idealize.ShloMosaic.Lib.ValueIdx

@[expose] public section

set_option maxRecDepth 16384

noncomputable section

namespace Cert.QuantiseReferenceIdeal.Hand

open Cert.QuantiseReferenceIdeal Cert.QuantiseReferenceIdeal.Gen
open Idealize.ShloMosaic Idealize.ShloMosaic.TcCoe
open Idealize.SL.Sem
open Cert.Online (expo clip)
open Cert.Quantiser (magnitude scale headAt codesWith scalesWith)
open Cert.QuantiseIdeal.Hand (bits_bot c448_neg c448_pos)

theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee]; rw [← EReal.coe_one, ← EReal.coe_mul]; norm_num
theorem bits_two : Ideal.ofBits .f32 0x40000000#32 = ((2 : ℝ) : EReal) := by
  simp [Ideal.ofBits, Ideal.ieee]; rw [← EReal.coe_mul]; norm_num

/-- The exponent the reference takes of a largest magnitude. -/
def exponent (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) (Ideal.log (Ideal.ofBits .f32 0x40000000#32)))
      + Ideal.ofBits .f32 0x3F800000#32)

theorem exponent_eq (a : EReal) : exponent a = expo Quantiser.c a := by
  unfold exponent expo
  rw [bits_zero, bits_two, bits_one]
  have h : Ideal.cmp .oeq a 0 = 1 ↔ a = 0 := Ideal.cmp_oeq_eq_one _ _
  by_cases ha : a = 0
  · rw [if_pos ha, h.mpr ha]; rfl
  · rw [if_neg ha]
    have h0 : Ideal.cmp .oeq a 0 = 0#1 := (BitVec.eq_zero_or_eq_one _).resolve_right fun e => ha (h.mp e)
    rw [h0, EReal.coe_one]; rfl

/-- The exponents of an array of largest magnitudes. -/
theorem exponents_at {S : Shape} (M : FVec Ideal S .f32) (i : S.Idx) :
    select (cmpf .oeq M (broadcast S (Scalar.ofBits .f32 0x00000000#32))) (broadcast S (Scalar.ofBits .f32 0x00000000#32))
      (addf (floor (divf (log (mulf M (broadcast S (Scalar.ofBits .f32 0x3B124925#32)))) (broadcast S (Scalar.log (Scalar.ofBits .f32 0x40000000#32)))))
        (broadcast S (Scalar.ofBits .f32 0x3F800000#32))) i = exponent (M i) := rfl

theorem powers_at {S : Shape} (E : FVec Ideal S .f32) (i : S.Idx) : exp2 E i = Ideal.exp2 (E i) := rfl

theorem clip_bits (z : EReal) : clip z = min (Ideal.ofBits .f32 0x43E00000#32) (max (Ideal.ofBits .f32 0xC3E00000#32) z) := by
  rw [c448_neg, c448_pos]
  rfl

theorem neg_bits (z : EReal) : -z = Ideal.ofBits .f32 0x00000000#32 - z := by
  rw [bits_zero, zero_sub]

/-! ### Sixteen heads -/

section
variable (x : Vec Ideal S8x8192x2048 .bf16) (b : Fin 8) (s : Fin 8192)

theorem view_16 (h : Fin 16) (d : Fin 128) : (k0_pay6 (F := Ideal) x (ix4 b s h d) : EReal) = headAt (w := 2048) x b s h.val d := by
  unfold headAt
  rw [dif_pos (show 128 * h.val + d.val < 2048 by omega)]
  unfold k0_pay6
  pointwise
  refine congrArg x (funext fun a => Fin.ext ?_)
  match a with
  | ⟨0, _⟩ => simp
  | ⟨1, _⟩ => simp
  | ⟨2, _⟩ => simp; omega

theorem lift_16 (h : Fin 16) (d : Fin 128) (hr : S8x8192x16x128.Reduces [3] S8x8192x16) : hr.lift (ix3 b s h : S8x8192x16.Idx) d = (ix4 b s h d : S8x8192x16x128.Idx) :=
  funext fun a => Fin.ext (by match a with | ⟨0, _⟩ => rfl | ⟨1, _⟩ => rfl | ⟨2, _⟩ => rfl | ⟨3, _⟩ => rfl)

/-- The largest magnitude of a head. -/
theorem largest_16 (h : Fin 16) :
    multiReduction (F := Ideal) .maximumf [3] S8x8192x16 (absf (k0_pay6 x)) 0xFF800000#32 reduces_S8x8192x16x128_S8x8192x16 (.inl rfl) rfl (ix3 b s h)
      = magnitude (headAt (w := 2048) x b s h.val) := by
  refine (Ideal.multiReduction_maximumf_single _ _ reduces_S8x8192x16x128_S8x8192x16 _ rfl _).trans ?_
  rw [← Quantiser.fold_abs _ _ bits_bot]
  congr 1
  funext d
  exact congrArg (fun z : EReal => max z (-z)) ((congrArg (k0_pay6 (F := Ideal) x) (lift_16 b s h d reduces_S8x8192x16x128_S8x8192x16)).trans (view_16 x b s h d))

theorem exponent_16 (h : Fin 16) : (k0_pay7 (F := Ideal) x (ix3 b s h) : EReal) = expo Quantiser.c (magnitude (headAt (w := 2048) x b s h.val)) := by
  unfold k0_pay7
  exact (exponents_at _ _).trans ((congrArg exponent (largest_16 x b s h)).trans (exponent_eq _))

/-- A scale. -/
theorem scale_16 (h : Fin 16) : (k0_pay8 (F := Ideal) x (ix3 b s h) : EReal) = scalesWith scale (w := 2048) x b s h.val := by
  unfold k0_pay8
  exact (powers_at _ _).trans (congrArg Ideal.exp2 (exponent_16 x b s h))

/-- The scaled and clipped view, laid out again. -/
theorem codes_at_16 (V : FVec Ideal S8x8192x16x128 .f32) (E : FVec Ideal S8x8192x16 .f32) (D : Fin 2048) :
    (shapeCast S8x8192x2048 (minimumf (broadcast S8x8192x16x128 (Scalar.ofBits .f32 0x43E00000#32)) (maximumf (broadcast S8x8192x16x128 (Scalar.ofBits .f32 0xC3E00000#32))
      (mulf V (broadcastTo S8x8192x16x128 (shapeCast S8x8192x16x1 (exp2 (subf (broadcast S8x8192x16 (Scalar.ofBits .f32 0x00000000#32)) E)) shapeCasts_S8x8192x16_S8x8192x16x1)
        broadcasts_S8x8192x16x1_S8x8192x16x128)))) shapeCasts_S8x8192x16x128_S8x8192x2048 (ix3 b s D) : EReal)
      = clip (V (ix4 b s ⟨D.val / 128, by omega⟩ ⟨D.val % 128, by omega⟩) * Ideal.exp2 (-(E (ix3 b s ⟨D.val / 128, by omega⟩)))) := by
  rw [clip_bits, neg_bits]
  pointwise
  rfl

/-- A code. -/
theorem code_16 (D : Fin 2048) : (k0_pay9 (F := Ideal) x (ix3 b s D) : EReal) = codesWith Quantiser.inv (w := 2048) x b s D := by
  have hv := view_16 x b s ⟨D.val / 128, by omega⟩ ⟨D.val % 128, by omega⟩
  have hx : headAt (w := 2048) x b s (D.val / 128) ⟨D.val % 128, by omega⟩ = x (ix3 b s D) := by
    unfold headAt
    rw [dif_pos (show 128 * (D.val / 128) + D.val % 128 < 2048 by omega)]
    exact congrArg (fun D => x (ix3 (n0 := 8) (n1 := 8192) (n2 := 2048) b s D)) (Fin.ext (Nat.div_add_mod _ _))
  have he := exponent_16 x b s ⟨D.val / 128, by omega⟩
  unfold codesWith Quantiser.inv
  rw [← hx, ← hv, ← he]
  exact codes_at_16 b s (k0_pay6 x) (k0_pay7 x) D

end

/-! ### Four heads -/

section
variable (x : Vec Ideal S8x8192x512 .bf16) (b : Fin 8) (s : Fin 8192)

theorem view_4 (h : Fin 4) (d : Fin 128) : (k0_pay11 (F := Ideal) x (ix4 b s h d) : EReal) = headAt (w := 512) x b s h.val d := by
  unfold headAt
  rw [dif_pos (show 128 * h.val + d.val < 512 by omega)]
  unfold k0_pay11
  pointwise
  refine congrArg x (funext fun a => Fin.ext ?_)
  match a with
  | ⟨0, _⟩ => simp
  | ⟨1, _⟩ => simp
  | ⟨2, _⟩ => simp; omega

theorem lift_4 (h : Fin 4) (d : Fin 128) (hr : S8x8192x4x128.Reduces [3] S8x8192x4) : hr.lift (ix3 b s h : S8x8192x4.Idx) d = (ix4 b s h d : S8x8192x4x128.Idx) :=
  funext fun a => Fin.ext (by match a with | ⟨0, _⟩ => rfl | ⟨1, _⟩ => rfl | ⟨2, _⟩ => rfl | ⟨3, _⟩ => rfl)

/-- The largest magnitude of a head. -/
theorem largest_4 (h : Fin 4) :
    multiReduction (F := Ideal) .maximumf [3] S8x8192x4 (absf (k0_pay11 x)) 0xFF800000#32 reduces_S8x8192x4x128_S8x8192x4 (.inl rfl) rfl (ix3 b s h)
      = magnitude (headAt (w := 512) x b s h.val) := by
  refine (Ideal.multiReduction_maximumf_single _ _ reduces_S8x8192x4x128_S8x8192x4 _ rfl _).trans ?_
  rw [← Quantiser.fold_abs _ _ bits_bot]
  congr 1
  funext d
  exact congrArg (fun z : EReal => max z (-z)) ((congrArg (k0_pay11 (F := Ideal) x) (lift_4 b s h d reduces_S8x8192x4x128_S8x8192x4)).trans (view_4 x b s h d))

theorem exponent_4 (h : Fin 4) : (k0_pay12 (F := Ideal) x (ix3 b s h) : EReal) = expo Quantiser.c (magnitude (headAt (w := 512) x b s h.val)) := by
  unfold k0_pay12
  exact (exponents_at _ _).trans ((congrArg exponent (largest_4 x b s h)).trans (exponent_eq _))

/-- A scale. -/
theorem scale_4 (h : Fin 4) : (k0_pay13 (F := Ideal) x (ix3 b s h) : EReal) = scalesWith scale (w := 512) x b s h.val := by
  unfold k0_pay13
  exact (powers_at _ _).trans (congrArg Ideal.exp2 (exponent_4 x b s h))

/-- The scaled and clipped view, laid out again. -/
theorem codes_at_4 (V : FVec Ideal S8x8192x4x128 .f32) (E : FVec Ideal S8x8192x4 .f32) (D : Fin 512) :
    (shapeCast S8x8192x512 (minimumf (broadcast S8x8192x4x128 (Scalar.ofBits .f32 0x43E00000#32)) (maximumf (broadcast S8x8192x4x128 (Scalar.ofBits .f32 0xC3E00000#32))
      (mulf V (broadcastTo S8x8192x4x128 (shapeCast S8x8192x4x1 (exp2 (subf (broadcast S8x8192x4 (Scalar.ofBits .f32 0x00000000#32)) E)) shapeCasts_S8x8192x4_S8x8192x4x1)
        broadcasts_S8x8192x4x1_S8x8192x4x128)))) shapeCasts_S8x8192x4x128_S8x8192x512 (ix3 b s D) : EReal)
      = clip (V (ix4 b s ⟨D.val / 128, by omega⟩ ⟨D.val % 128, by omega⟩) * Ideal.exp2 (-(E (ix3 b s ⟨D.val / 128, by omega⟩)))) := by
  rw [clip_bits, neg_bits]
  pointwise
  rfl

/-- A code. -/
theorem code_4 (D : Fin 512) : (k0_pay14 (F := Ideal) x (ix3 b s D) : EReal) = codesWith Quantiser.inv (w := 512) x b s D := by
  have hv := view_4 x b s ⟨D.val / 128, by omega⟩ ⟨D.val % 128, by omega⟩
  have hx : headAt (w := 512) x b s (D.val / 128) ⟨D.val % 128, by omega⟩ = x (ix3 b s D) := by
    unfold headAt
    rw [dif_pos (show 128 * (D.val / 128) + D.val % 128 < 512 by omega)]
    exact congrArg (fun D => x (ix3 (n0 := 8) (n1 := 8192) (n2 := 512) b s D)) (Fin.ext (Nat.div_add_mod _ _))
  have he := exponent_4 x b s ⟨D.val / 128, by omega⟩
  unfold codesWith Quantiser.inv
  rw [← hx, ← hv, ← he]
  exact codes_at_4 b s (k0_pay11 x) (k0_pay12 x) D

end

/-! ### The transposed arrays and the values -/

theorem scale_t (x : Vec Ideal S8x8192x2048 .bf16) (b : Fin 8) (s : Fin 8192) (h : Fin 16) :
    (k0_pay10 (F := Ideal) x (ix3 b h s) : EReal) = scalesWith scale (w := 2048) x b s h.val := by
  rw [← scale_16]
  unfold k0_pay10
  pointwise

theorem code_t (x : Vec Ideal S8x8192x512 .bf16) (b : Fin 8) (s : Fin 8192) (D : Fin 512) :
    (k0_pay5 (F := Ideal) (k0_pay15 x) (k0_pay16 x) (ix3 b D s) : EReal) = codesWith Quantiser.inv (w := 512) x b s D := by
  rw [← code_4]
  show transpose S8x512x8192 [0, 2, 1] (k0_pay14 (F := Ideal) x) transposes_S8x8192x512_p0_2_1_S8x512x8192 (ix3 b D s) = _
  pointwise

end Cert.QuantiseReferenceIdeal.Hand

end
-- ==== Proof.Regular.lean ====
/-
  Hand-written. What the condition on the arguments of the quantise call says of their heads over the extended reals.
-/
module

public import proofs.«01_k».proof.Pre_regular
public import proofs.«01_k».proof.Proof.Tame
public import proofs.«01_k».proof.Proof.Quantiser
public import proofs.«01_k».proof.Proof.QuantiseTerms
public import Idealize.ShloMosaic.Lib.ReduceAll
public import Idealize.ShloMosaic.Lib.Pointwise
public import Idealize.ShloMosaic.Lib.ValueIdx

@[expose] public section

set_option maxRecDepth 16384

noncomputable section

namespace Cert.Pre_regular.Hand

open Cert.Pre_regular Idealize.ShloMosaic
open Cert.Quantiser (magnitude headAt Regular)
open Cert.Pre_tame.Hand (andi_one largest largest_bits largest_le zero_bits)
open Cert.QuantiseIdeal.Hand (bits_bot)

/-- The shape relations the condition takes. -/
theorem facts : Facts where
  bitsLt_bf16_f32 := by decide
  shapeCasts_S8x8192x2048_S8x8192x16x128 := by decide
  reducesTo_S8x8192x16x128_S8x8192x16_d3 := by decide
  h_S_ := by decide
  bcast_S_S8x8192x16 := by decide
  reducesTo_S8x8192x16_S_d0_1_2 := by decide
  shapeCasts_S8x8192x512_S8x8192x4x128 := by decide
  reducesTo_S8x8192x4x128_S8x8192x4_d3 := by decide
  bcast_S_S8x8192x4 := by decide
  reducesTo_S8x8192x4_S_d0_1_2 := by decide

theorem least_bits : Ideal.ofBits .f32 0x00800000#32 = (((2 : ℝ) ^ (-126 : ℤ) : ℝ) : EReal) := by
  simp [Ideal.ofBits, Ideal.ieee, -EReal.coe_mul]
  norm_num

theorem ori_one (a b : BitVec 1) (h : IntOp.ori a b = 1#1) : a = 1#1 ∨ b = 1#1 := by
  revert h; revert a b; decide

/-- The word the condition takes of one largest magnitude. -/
def word (a : EReal) : BitVec 1 :=
  IntOp.ori (Ideal.cmp .oeq a (Ideal.ofBits .f32 0x00000000#32))
    (IntOp.andi (Ideal.cmp .oge (a * Ideal.ofBits .f32 0x3B124925#32) (Ideal.ofBits .f32 0x00800000#32))
      (Ideal.cmp .ole a (Ideal.ofBits .f32 0x7F7FFFFF#32)))

theorem regular_of_word {a : EReal} (h : word a = 1#1) : Regular a := by
  unfold word at h
  rw [zero_bits, largest_bits, least_bits] at h
  rcases ori_one _ _ h with h | h
  · exact .inl ((Ideal.cmp_oeq_eq_one _ _).mp h)
  · obtain ⟨h1, h2⟩ := andi_one _ _ h
    exact .inr ⟨(Ideal.cmp_oge_eq_one _ _).mp h1, ((Ideal.cmp_ole_eq_one _ _).mp h2).trans (EReal.coe_le_coe_iff.mpr largest_le)⟩

section
variable [Facts]
open Facts

/-- The words of an array of largest magnitudes. -/
theorem words_at {S : Shape} (M : FVec Ideal S .f32) (hb : S_.BroadcastsInDim S (![] : Fin 0 → Fin S.rank)) (i : S.Idx) :
    ori (cmpf .oeq M (broadcastInDim S ![] hb (constant S_ .f32 0x00000000#32)))
      (andi (cmpf .oge (mulf M (broadcastInDim S ![] hb (constant S_ .f32 0x3B124925#32))) (broadcastInDim S ![] hb (constant S_ .f32 0x00800000#32)))
        (cmpf .ole M (broadcastInDim S ![] hb (constant S_ .f32 0x7F7FFFFF#32)))) i = word (M i) := rfl

theorem view_16 (x : FVec Ideal S8x8192x2048 .bf16) (b : Fin 8) (s : Fin 8192) (h : Fin 16) (d : Fin 128) :
    shapeCast S8x8192x16x128 (extf .f32 x bitsLt_bf16_f32) shapeCasts_S8x8192x2048_S8x8192x16x128 (ix4 b s h d) = headAt (w := 2048) x b s h.val d := by
  unfold headAt
  rw [dif_pos (show 128 * h.val + d.val < 2048 by omega)]
  pointwise
  refine congrArg x (funext fun a => Fin.ext ?_)
  match a with
  | ⟨0, _⟩ => simp
  | ⟨1, _⟩ => simp
  | ⟨2, _⟩ => simp; omega

/-- The largest magnitudes of the heads. -/
abbrev most_16 (x : FVec Ideal S8x8192x2048 .bf16) : FVec Ideal S8x8192x16 .f32 :=
  Host.reduce FloatOps.maximumf (Host.absf (shapeCast S8x8192x16x128 (extf .f32 x bitsLt_bf16_f32) shapeCasts_S8x8192x2048_S8x8192x16x128)) (constant S_ .f32 0xFF800000#32)
    reducesTo_S8x8192x16x128_S8x8192x16_d3 h_S_

theorem most_16_at (x : FVec Ideal S8x8192x2048 .bf16) (b : Fin 8) (s : Fin 8192) (h : Fin 16) :
    most_16 x (ix3 b s h) = magnitude (headAt (w := 2048) x b s h.val) := by
  have hr : S8x8192x16x128.Reduces [3] S8x8192x16 := by decide
  refine (Host.reduce_eq_fold_single (FloatOps.maximumf (F := Ideal) (φ := .f32)) _ _ reducesTo_S8x8192x16x128_S8x8192x16_d3 hr h_S_ _).trans ?_
  rw [← Quantiser.fold_abs _ _ bits_bot]
  congr 1
  funext d
  have e : hr.lift (ix3 b s h : S8x8192x16.Idx) d = (ix4 b s h d : S8x8192x16x128.Idx) :=
    funext fun a => Fin.ext (by match a with | ⟨0, _⟩ => rfl | ⟨1, _⟩ => rfl | ⟨2, _⟩ => rfl | ⟨3, _⟩ => rfl)
  exact congrArg (fun z : EReal => max z (-z)) ((congrArg (shapeCast S8x8192x16x128 (extf .f32 x bitsLt_bf16_f32) shapeCasts_S8x8192x2048_S8x8192x16x128) e).trans (view_16 x b s h d))

/-- The condition on one argument. -/
abbrev all_16 (x : FVec Ideal S8x8192x2048 .bf16) : IVec S_ 1 :=
  Host.reduce IntOp.andi (ori (cmpf .oeq (most_16 x) (broadcastInDim S8x8192x16 ![] bcast_S_S8x8192x16 (constant S_ .f32 0x00000000#32)))
    (andi (cmpf .oge (mulf (most_16 x) (broadcastInDim S8x8192x16 ![] bcast_S_S8x8192x16 (constant S_ .f32 0x3B124925#32)))
        (broadcastInDim S8x8192x16 ![] bcast_S_S8x8192x16 (constant S_ .f32 0x00800000#32)))
      (cmpf .ole (most_16 x) (broadcastInDim S8x8192x16 ![] bcast_S_S8x8192x16 (constant S_ .f32 0x7F7FFFFF#32))))) (constantI S_ 1 1#1)
    reducesTo_S8x8192x16_S_d0_1_2 h_S_

theorem all_16_at (x : FVec Ideal S8x8192x2048 .bf16) (i : S_.Idx) (e : all_16 x i = 1#1) (b : Fin 8) (s : Fin 8192) (h : Fin 16) :
    Regular (magnitude (headAt (w := 2048) x b s h.val)) := by
  haveI : Subsingleton S_.Idx := ⟨fun a b => funext fun i => i.elim0⟩
  have e' := Host.reduce_andi_all _ _ _ _ _ e (ix3 b s h)
  rw [← most_16_at]
  exact regular_of_word ((words_at (most_16 x) bcast_S_S8x8192x16 (ix3 b s h)).symm.trans e')

theorem view_4 (x : FVec Ideal S8x8192x512 .bf16) (b : Fin 8) (s : Fin 8192) (h : Fin 4) (d : Fin 128) :
    shapeCast S8x8192x4x128 (extf .f32 x bitsLt_bf16_f32) shapeCasts_S8x8192x512_S8x8192x4x128 (ix4 b s h d) = headAt (w := 512) x b s h.val d := by
  unfold headAt
  rw [dif_pos (show 128 * h.val + d.val < 512 by omega)]
  pointwise
  refine congrArg x (funext fun a => Fin.ext ?_)
  match a with
  | ⟨0, _⟩ => simp
  | ⟨1, _⟩ => simp
  | ⟨2, _⟩ => simp; omega

/-- The largest magnitudes of the heads. -/
abbrev most_4 (x : FVec Ideal S8x8192x512 .bf16) : FVec Ideal S8x8192x4 .f32 :=
  Host.reduce FloatOps.maximumf (Host.absf (shapeCast S8x8192x4x128 (extf .f32 x bitsLt_bf16_f32) shapeCasts_S8x8192x512_S8x8192x4x128)) (constant S_ .f32 0xFF800000#32)
    reducesTo_S8x8192x4x128_S8x8192x4_d3 h_S_

theorem most_4_at (x : FVec Ideal S8x8192x512 .bf16) (b : Fin 8) (s : Fin 8192) (h : Fin 4) :
    most_4 x (ix3 b s h) = magnitude (headAt (w := 512) x b s h.val) := by
  have hr : S8x8192x4x128.Reduces [3] S8x8192x4 := by decide
  refine (Host.reduce_eq_fold_single (FloatOps.maximumf (F := Ideal) (φ := .f32)) _ _ reducesTo_S8x8192x4x128_S8x8192x4_d3 hr h_S_ _).trans ?_
  rw [← Quantiser.fold_abs _ _ bits_bot]
  congr 1
  funext d
  have e : hr.lift (ix3 b s h : S8x8192x4.Idx) d = (ix4 b s h d : S8x8192x4x128.Idx) :=
    funext fun a => Fin.ext (by match a with | ⟨0, _⟩ => rfl | ⟨1, _⟩ => rfl | ⟨2, _⟩ => rfl | ⟨3, _⟩ => rfl)
  exact congrArg (fun z : EReal => max z (-z)) ((congrArg (shapeCast S8x8192x4x128 (extf .f32 x bitsLt_bf16_f32) shapeCasts_S8x8192x512_S8x8192x4x128) e).trans (view_4 x b s h d))

/-- The condition on one argument. -/
abbrev all_4 (x : FVec Ideal S8x8192x512 .bf16) : IVec S_ 1 :=
  Host.reduce IntOp.andi (ori (cmpf .oeq (most_4 x) (broadcastInDim S8x8192x4 ![] bcast_S_S8x8192x4 (constant S_ .f32 0x00000000#32)))
    (andi (cmpf .oge (mulf (most_4 x) (broadcastInDim S8x8192x4 ![] bcast_S_S8x8192x4 (constant S_ .f32 0x3B124925#32)))
        (broadcastInDim S8x8192x4 ![] bcast_S_S8x8192x4 (constant S_ .f32 0x00800000#32)))
      (cmpf .ole (most_4 x) (broadcastInDim S8x8192x4 ![] bcast_S_S8x8192x4 (constant S_ .f32 0x7F7FFFFF#32))))) (constantI S_ 1 1#1)
    reducesTo_S8x8192x4_S_d0_1_2 h_S_

theorem all_4_at (x : FVec Ideal S8x8192x512 .bf16) (i : S_.Idx) (e : all_4 x i = 1#1) (b : Fin 8) (s : Fin 8192) (h : Fin 4) :
    Regular (magnitude (headAt (w := 512) x b s h.val)) := by
  haveI : Subsingleton S_.Idx := ⟨fun a b => funext fun i => i.elim0⟩
  have e' := Host.reduce_andi_all _ _ _ _ _ e (ix3 b s h)
  rw [← most_4_at]
  exact regular_of_word ((words_at (most_4 x) bcast_S_S8x8192x4 (ix3 b s h)).symm.trans e')

theorem fn_eq (x : FVec Ideal S8x8192x2048 .bf16) (k v : FVec Ideal S8x8192x512 .bf16) :
    fn (F := Ideal) x k v = andi (andi (all_16 x) (all_4 k)) (all_4 v) := rfl

/-- Under the condition every head is regular. -/
theorem heads (x : FVec Ideal S8x8192x2048 .bf16) (k v : FVec Ideal S8x8192x512 .bf16) (h : fn (F := Ideal) x k v = fun _ => 1#1)
    (b : Fin 8) (s : Fin 8192) :
    (∀ n : Fin 16, Regular (magnitude (headAt (w := 2048) x b s n.val))) ∧ (∀ n : Fin 4, Regular (magnitude (headAt (w := 512) k b s n.val)))
      ∧ (∀ n : Fin 4, Regular (magnitude (headAt (w := 512) v b s n.val))) := by
  rw [fn_eq] at h
  have e := congrFun h (Shape.Idx.first h_S_)
  obtain ⟨e1, e2⟩ := andi_one _ _ e
  obtain ⟨e0, e1⟩ := andi_one _ _ e1
  exact ⟨all_16_at x _ e0 b s, all_4_at k _ e1 b s, all_4_at v _ e2 b s⟩

end

end Cert.Pre_regular.Hand

end
-- ==== Proof.QuantiseAlgebraic.lean ====
/-
  Hand-written. The quantise kernel and its reference leave the same codes and scales over the extended reals.
-/
module

public import proofs.«01_k».proof.Defs
public import proofs.«01_k».proof.Proof.QuantiseArrays
public import proofs.«01_k».proof.Proof.QuantiseReferenceValue
public import proofs.«01_k».proof.Proof.Regular

@[expose] public section

set_option maxRecDepth 16384

noncomputable section

namespace Cert.Quantiser

open Idealize.ShloMosaic Idealize.SL.Sem
open Cert.QuantiseReferenceIdeal.Hand

/-! ### Codes of regular heads, and their scales: the formula of the kernel is the array of the reference -/

section
variable (x : (⟨3, ![8, 8192, 2048]⟩ : Shape).Idx → EReal) (v : (⟨3, ![8, 8192, 512]⟩ : Shape).Idx → EReal)

/-- Every head is regular. -/
def Heads {w : ℕ} (n : ℕ) (x : (⟨3, ![8, 8192, w]⟩ : Shape).Idx → EReal) : Prop :=
  ∀ (b : Fin 8) (s : Fin 8192) (h : Fin n), Regular (magnitude (headAt x b s h.val))

theorem same_codes_16 (h : Heads 16 x) :
    QuantiseReferenceIdeal.Gen.k0_pay9 (F := Ideal) x = fun i => (codesWith kinv (w := 2048) x (i 0) (i 1) (i 2) : EReal) := by
  funext i
  obtain ⟨b, s, D, rfl⟩ : ∃ (b : Fin 8) (s : Fin 8192) (D : Fin 2048), i = ix3 b s D := ⟨i 0, i 1, i 2, eq_ix3 i⟩
  exact (code_16 x b s D).trans (codes_eq x b s D (h b s ⟨D.val / 128, by omega⟩)).symm

theorem same_scales_16 (h : Heads 16 x) :
    QuantiseReferenceIdeal.Gen.k0_pay8 (F := Ideal) x = fun i => (scalesWith kscale (w := 2048) x (i 0) (i 1) (i 2 : Fin 16).val : EReal) := by
  funext i
  obtain ⟨b, s, n, rfl⟩ : ∃ (b : Fin 8) (s : Fin 8192) (n : Fin 16), i = ix3 b s n := ⟨i 0, i 1, i 2, eq_ix3 i⟩
  exact (scale_16 x b s n).trans (scales_eq x b s n.val (h b s n)).symm

theorem same_codes_4 (h : Heads 4 v) :
    QuantiseReferenceIdeal.Gen.k0_pay14 (F := Ideal) v = fun i => (codesWith kinv (w := 512) v (i 0) (i 1) (i 2) : EReal) := by
  funext i
  obtain ⟨b, s, D, rfl⟩ : ∃ (b : Fin 8) (s : Fin 8192) (D : Fin 512), i = ix3 b s D := ⟨i 0, i 1, i 2, eq_ix3 i⟩
  exact (code_4 v b s D).trans (codes_eq v b s D (h b s ⟨D.val / 128, by omega⟩)).symm

theorem same_scales_4 (h : Heads 4 v) :
    QuantiseReferenceIdeal.Gen.k0_pay13 (F := Ideal) v = fun i => (scalesWith kscale (w := 512) v (i 0) (i 1) (i 2 : Fin 4).val : EReal) := by
  funext i
  obtain ⟨b, s, n, rfl⟩ : ∃ (b : Fin 8) (s : Fin 8192) (n : Fin 4), i = ix3 b s n := ⟨i 0, i 1, i 2, eq_ix3 i⟩
  exact (scale_4 v b s n).trans (scales_eq v b s n.val (h b s n)).symm

theorem same_scales_t (h : Heads 16 x) :
    QuantiseReferenceIdeal.Gen.k0_pay10 (F := Ideal) x = fun i => (scalesWith kscale (w := 2048) x (i 0) (i 2) (i 1 : Fin 16).val : EReal) := by
  funext i
  obtain ⟨b, n, s, rfl⟩ : ∃ (b : Fin 8) (n : Fin 16) (s : Fin 8192), i = ix3 b n s := ⟨i 0, i 1, i 2, eq_ix3 i⟩
  exact (scale_t x b s n).trans (scales_eq x b s n.val (h b s n)).symm

theorem same_codes_t (h : Heads 4 v) :
    QuantiseReferenceIdeal.Gen.k0_pay5 (F := Ideal) (QuantiseReferenceIdeal.Gen.k0_pay15 v) (QuantiseReferenceIdeal.Gen.k0_pay16 v)
      = fun i => (codesWith kinv (w := 512) v (i 0) (i 2) (i 1) : EReal) := by
  funext i
  obtain ⟨b, D, s, rfl⟩ : ∃ (b : Fin 8) (D : Fin 512) (s : Fin 8192), i = ix3 b D s := ⟨i 0, i 1, i 2, eq_ix3 i⟩
  exact (code_t v b s D).trans (codes_eq v b s D (h b s ⟨D.val / 128, by omega⟩)).symm

/-- A load of the whole of an argument is the argument. -/
theorem loaded_v (x : Vec Ideal Cert.QuantiseReferenceIdeal.S8x8192x2048 .bf16) (k v : Vec Ideal Cert.QuantiseReferenceIdeal.S8x8192x512 .bf16) :
    QuantiseReferenceIdeal.Gen.k0_pay17 (F := Ideal) x k v = QuantiseReferenceIdeal.Gen.k0_pay15 v
      ∧ QuantiseReferenceIdeal.Gen.k0_pay18 (F := Ideal) x k v = QuantiseReferenceIdeal.Gen.k0_pay16 v := by
  have h : View.ld v QuantiseReferenceIdeal.Gen.r0_3 = v :=
    View.ld_unit_zero (S := Cert.QuantiseReferenceIdeal.S8x8192x512) QuantiseReferenceIdeal.Value.hz0 _ v
  unfold QuantiseReferenceIdeal.Gen.k0_pay17 QuantiseReferenceIdeal.Gen.k0_pay18
  rw [h]
  exact ⟨rfl, rfl⟩

end

theorem algebraic : Cert.algebraic_QuantiseIdeal_QuantiseReferenceIdeal_pre_regular (hQuantiseIdeal := Cert.QuantiseIdeal.Gen.facts)
    (hQuantiseReferenceIdeal := Cert.QuantiseReferenceIdeal.Gen.facts) (hPre_regular := Cert.Pre_regular.Hand.facts) := by
  intro m g m' g' hpre heq
  refine ⟨_, _, _, _, _, _, _, _, Cert.QuantiseIdeal.Value.run_blocks m g, ?_⟩
  refine (θ_run _ _ _).mono (fun _ h c => ?_) (Cert.QuantiseReferenceIdeal.Value.run m' g')
  obtain ⟨h3, h4, h5, h6, h7, h8, h9, h10, hk⟩ := h c
  obtain ⟨e0, e1, e2⟩ := heq c
  have hr := letI := Cert.Pre_regular.Hand.facts; Cert.Pre_regular.Hand.heads _ _ _ (hpre c)
  have hx := fun b s => (hr b s).1
  have hkk := fun b s => (hr b s).2.1
  have hv := fun b s => (hr b s).2.2
  obtain ⟨l1, l2⟩ := loaded_v (m' ((c.tc : Thread Cert.QuantiseReferenceIdeal.nD Cert.QuantiseReferenceIdeal.τ).loc Cert.QuantiseReferenceIdeal.main_arg0))
    (m' ((c.tc : Thread Cert.QuantiseReferenceIdeal.nD Cert.QuantiseReferenceIdeal.τ).loc Cert.QuantiseReferenceIdeal.main_arg1))
    (m' ((c.tc : Thread Cert.QuantiseReferenceIdeal.nD Cert.QuantiseReferenceIdeal.τ).loc Cert.QuantiseReferenceIdeal.main_arg2))
  rw [e2] at l1 l2
  refine ⟨h3.trans ?_, h4.trans ?_, h5.trans ?_, h6.trans ?_, h7.trans ?_, h8.trans ?_, h9.trans ?_, h10.trans ?_, hk⟩
  · rw [e0]; exact (same_codes_16 _ hx).trans (QuantiseIdeal.Hand.q_codes m c).symm
  · rw [e0]; exact (same_scales_16 _ hx).trans (QuantiseIdeal.Hand.q_scale m c).symm
  · rw [e0]; exact (same_scales_t _ hx).trans (QuantiseIdeal.Hand.q_scale_t m c).symm
  · rw [e1]; exact (same_codes_4 _ hkk).trans (QuantiseIdeal.Hand.k_codes m c).symm
  · rw [e1]; exact (same_scales_4 _ hkk).trans (QuantiseIdeal.Hand.k_scale m c).symm
  · rw [e2]; dsimp only [QuantiseReferenceIdeal.Value.G8]; rw [l1, l2]; exact (same_codes_4 _ hv).trans (QuantiseIdeal.Hand.v_codes m c).symm
  · rw [e2]; dsimp only [QuantiseReferenceIdeal.Value.G9]; rw [l2]; exact (same_scales_4 _ hv).trans (QuantiseIdeal.Hand.v_scale m c).symm
  · rw [e2]; dsimp only [QuantiseReferenceIdeal.Value.G10]; rw [l1, l2]; exact (same_codes_t _ hv).trans (QuantiseIdeal.Hand.v_codes_t m c).symm

end Cert.Quantiser

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseIdeal.Value
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.QuantiseReferenceIdeal.Value
public import proofs.«01_k».proof.Proof.KernelFrame
public import proofs.«01_k».proof.Proof.KernelIdealFrame
public import proofs.«01_k».proof.Proof.Algebraic
public import proofs.«01_k».proof.Proof.QuantiseAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Quantise.Gen.facts,
  Cert.QuantiseIdeal.Gen.facts, Cert.QuantiseReferenceIdeal.Gen.facts, Cert.Pre_tame.Hand.facts, Cert.Pre_regular.Hand.facts,
  fun m ρ _ => Cert.Kernel.Hand.quiescent m ρ,
  fun m ρ _ => Cert.KernelIdeal.Hand.quiescent m ρ,
  fun m ρ _ => Cert.KernelIdeal.Hand.quiescent m ρ,
  fun m ρ _ => Cert.ReferenceIdeal.Gen.frame m ρ,
  fun m ρ _ => Cert.ReferenceIdeal.Gen.frame m ρ,
  fun m ρ _ => Cert.Quantise.Gen.frame m ρ,
  fun m ρ _ => Cert.QuantiseIdeal.Gen.frame m ρ,
  fun m ρ _ => Cert.QuantiseIdeal.Gen.frame m ρ,
  fun m ρ _ => Cert.QuantiseReferenceIdeal.Gen.frame m ρ,
  fun m ρ _ => Cert.QuantiseReferenceIdeal.Gen.frame m ρ,
  ⟨IdealRules.named_const.statement Cert.KernelIdeal.κ "log2e" .f32 0x3FB8AA3B#32 (((Real.log 2)⁻¹ : ℝ) : EReal) rfl,
  IdealRules.named_const.statement Cert.KernelIdeal.κ "logit_scale" .f32 0x3E0293EE#32 (((Real.sqrt 128)⁻¹ * (Real.log 2)⁻¹ : ℝ) : EReal) rfl,
  IdealRules.named_const.statement Cert.KernelIdeal.κ "mask" .f32 0xF149F2CA#32 ⊥ rfl⟩,
  Cert.Attention.algebraic,
  trivial,
  Cert.Quantiser.algebraic⟩

end Cert.Proof

end
